-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S2048x2048x5 : Shape := ⟨3, ![2048, 2048, 5]⟩
abbrev S2048x256 : Shape := ⟨2, ![2048, 256]⟩
abbrev S256 : Shape := ⟨1, ![256]⟩
abbrev S256x64 : Shape := ⟨2, ![256, 64]⟩
abbrev S1x2048 : Shape := ⟨2, ![1, 2048]⟩
abbrev S1x64 : Shape := ⟨2, ![1, 64]⟩
abbrev S256x256 : Shape := ⟨2, ![256, 256]⟩
abbrev S576x64 : Shape := ⟨2, ![576, 64]⟩
abbrev S64 : Shape := ⟨1, ![64]⟩
abbrev S64x64x64 : Shape := ⟨3, ![64, 64, 64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S2048x2048x5 : S_.BroadcastsInDim S2048x2048x5 (![] : Fin 0 → Fin S2048x2048x5.rank)
  bcast_S_S2048x256 : S_.BroadcastsInDim S2048x256 (![] : Fin 0 → Fin S2048x256.rank)
  bcast_S_S256 : S_.BroadcastsInDim S256 (![] : Fin 0 → Fin S256.rank)
  bcast_S_S256x64 : S_.BroadcastsInDim S256x64 (![] : Fin 0 → Fin S256x64.rank)
  bcast_S_S1x2048 : S_.BroadcastsInDim S1x2048 (![] : Fin 0 → Fin S1x2048.rank)
  bcast_S_S1x64 : S_.BroadcastsInDim S1x64 (![] : Fin 0 → Fin S1x64.rank)
  bcast_S_S256x256 : S_.BroadcastsInDim S256x256 (![] : Fin 0 → Fin S256x256.rank)
  bcast_S_S576x64 : S_.BroadcastsInDim S576x64 (![] : Fin 0 → Fin S576x64.rank)
  bcast_S_S64 : S_.BroadcastsInDim S64 (![] : Fin 0 → Fin S64.rank)
  bcast_S_S64x64x64 : S_.BroadcastsInDim S64x64x64 (![] : Fin 0 → Fin S64x64x64.rank)
  bcast_S_S64x64 : S_.BroadcastsInDim S64x64 (![] : Fin 0 → Fin S64x64.rank)
  bcast_S_S64x32 : S_.BroadcastsInDim S64x32 (![] : Fin 0 → Fin S64x32.rank)
  bcast_S_S32 : S_.BroadcastsInDim S32 (![] : Fin 0 → Fin S32.rank)

variable [Facts]

def fn_part3 {F : FTy → Type} [FloatOps F] (main_arg17 : FVec F S64x32 .f32) (main_arg18 : FVec F S32 .f32) (main_v2 : IVec S2048x2048x5 1) (main_v5 : IVec S2048x256 1) (main_v10 : IVec S256 1) (main_v15 : IVec S256 1) (main_v18 : IVec S256x64 1) (main_v21 : IVec S1x2048 1) (main_v24 : IVec S1x64 1) (main_v27 : IVec S1x64 1) (main_v30 : IVec S256x256 1) (main_v33 : IVec S256 1) (main_v36 : IVec S576x64 1) (main_v39 : IVec S64 1) (main_v42 : IVec S64x64x64 1) (main_v45 : IVec S64x64 1) (main_v48 : IVec S64 1) (main_v51 : IVec S64x64 1) (main_v52 : FVec F S64 .f32) (main_cst_16 : FVec F S_ .f32) : IVec S2048x2048x5 1 × IVec S2048x256 1 × IVec S256 1 × IVec S256 1 × IVec S256x64 1 × IVec S1x2048 1 × IVec S1x64 1 × IVec S1x64 1 × IVec S256x256 1 × IVec S256 1 × IVec S576x64 1 × IVec S64 1 × IVec S64x64x64 1 × IVec S64x64 1 × IVec S64 1 × IVec S64x64 1 × IVec S64 1 × IVec S64x32 1 × IVec S32 1 :=
  let main_v53 : FVec F S64 .f32 := broadcastInDim S64 ![] bcast_S_S64 main_cst_16
  let main_v54 : IVec S64 1 := cmpf .oeq main_v52 main_v53
  let main_v55 : FVec F S64x32 .f32 := subf main_arg17 main_arg17
  let main_cst_17 : FVec F S_ .f32 := constant S_ .f32 0x00000000#32
  let main_v56 : FVec F S64x32 .f32 := broadcastInDim S64x32 ![] bcast_S_S64x32 main_cst_17
  let main_v57 : IVec S64x32 1 := cmpf .oeq main_v55 main_v56
  let main_v58 : FVec F S32 .f32 := subf main_arg18 main_arg18
  let main_cst_18 : FVec F S_ .f32 := constant S_ .f32 0x00000000#32
  let main_v59 : FVec F S32 .f32 := broadcastInDim S32 ![] bcast_S_S32 main_cst_18
  let main_v60 : IVec S32 1 := cmpf .oeq main_v58 main_v59
  (main_v2, main_v5, main_v10, main_v15, main_v18, main_v21, main_v24, main_v27, main_v30, main_v33, main_v36, main_v39, main_v42, main_v45, main_v48, main_v51, main_v54, main_v57, main_v60)

def fn_part2 {F : FTy → Type} [FloatOps F] (main_arg11 : FVec F S64 .f32) (main_arg12 : FVec F S64x64x64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) (main_v2 : IVec S2048x2048x5 1) (main_v5 : IVec S2048x256 1) (main_v10 : IVec S256 1) (main_v15 : IVec S256 1) (main_v18 : IVec S256x64 1) (main_v21 : IVec S1x2048 1) (main_v24 : IVec S1x64 1) (main_v27 : IVec S1x64 1) (main_v30 : IVec S256x256 1) (main_v33 : IVec S256 1) (main_v34 : FVec F S576x64 .f32) (main_cst_10 : FVec F S_ .f32) : IVec S2048x2048x5 1 × IVec S2048x256 1 × IVec S256 1 × IVec S256 1 × IVec S256x64 1 × IVec S1x2048 1 × IVec S1x64 1 × IVec S1x64 1 × IVec S256x256 1 × IVec S256 1 × IVec S576x64 1 × IVec S64 1 × IVec S64x64x64 1 × IVec S64x64 1 × IVec S64 1 × IVec S64x64 1 × IVec S64 1 × IVec S64x32 1 × IVec S32 1 :=
  let main_v35 : FVec F S576x64 .f32 := broadcastInDim S576x64 ![] bcast_S_S576x64 main_cst_10
  let main_v36 : IVec S576x64 1 := cmpf .oeq main_v34 main_v35
  let main_v37 : FVec F S64 .f32 := subf main_arg11 main_arg11
  let main_cst_11 : FVec F S_ .f32 := constant S_ .f32 0x00000000#32
  let main_v38 : FVec F S64 .f32 := broadcastInDim S64 ![] bcast_S_S64 main_cst_11
  let main_v39 : IVec S64 1 := cmpf .oeq main_v37 main_v38
  let main_v40 : FVec F S64x64x64 .f32 := subf main_arg12 main_arg12
  let main_cst_12 : FVec F S_ .f32 := constant S_ .f32 0x00000000#32
  let main_v41 : FVec F S64x64x64 .f32 := broadcastInDim S64x64x64 ![] bcast_S_S64x64x64 main_cst_12
  let main_v42 : IVec S64x64x64 1 := cmpf .oeq main_v40 main_v41
  let main_v43 : FVec F S64x64 .f32 := subf main_arg13 main_arg13
  let main_cst_13 : FVec F S_ .f32 := constant S_ .f32 0x00000000#32
  let main_v44 : FVec F S64x64 .f32 := broadcastInDim S64x64 ![] bcast_S_S64x64 main_cst_13
  let main_v45 : IVec S64x64 1 := cmpf .oeq main_v43 main_v44
  let main_v46 : FVec F S64 .f32 := subf main_arg14 main_arg14
  let main_cst_14 : FVec F S_ .f32 := constant S_ .f32 0x00000000#32
  let main_v47 : FVec F S64 .f32 := broadcastInDim S64 ![] bcast_S_S64 main_cst_14
  let main_v48 : IVec S64 1 := cmpf .oeq main_v46 main_v47
  let main_v49 : FVec F S64x64 .f32 := subf main_arg15 main_arg15
  let main_cst_15 : FVec F S_ .f32 := constant S_ .f32 0x00000000#32
  let main_v50 : FVec F S64x64 .f32 := broadcastInDim S64x64 ![] bcast_S_S64x64 main_cst_15
  let main_v51 : IVec S64x64 1 := cmpf .oeq main_v49 main_v50
  let main_v52 : FVec F S64 .f32 := subf main_arg16 main_arg16
  let main_cst_16 : FVec F S_ .f32 := constant S_ .f32 0x00000000#32
  fn_part3 (F := F) main_arg17 main_arg18 main_v2 main_v5 main_v10 main_v15 main_v18 main_v21 main_v24 main_v27 main_v30 main_v33 main_v36 main_v39 main_v42 main_v45 main_v48 main_v51 main_v52 main_cst_16

def fn_part1 {F : FTy → Type} [FloatOps F] (main_arg5 : FVec F S1x2048 .f32) (main_arg6 : FVec F S1x64 .f32) (main_arg7 : FVec F S1x64 .f32) (main_arg8 : FVec F S256x256 .f32) (main_arg9 : FVec F S256 .f32) (main_arg10 : FVec F S576x64 .f32) (main_arg11 : FVec F S64 .f32) (main_arg12 : FVec F S64x64x64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) (main_v2 : IVec S2048x2048x5 1) (main_v5 : IVec S2048x256 1) (main_v10 : IVec S256 1) (main_v15 : IVec S256 1) (main_v16 : FVec F S256x64 .f32) (main_cst_4 : FVec F S_ .f32) : IVec S2048x2048x5 1 × IVec S2048x256 1 × IVec S256 1 × IVec S256 1 × IVec S256x64 1 × IVec S1x2048 1 × IVec S1x64 1 × IVec S1x64 1 × IVec S256x256 1 × IVec S256 1 × IVec S576x64 1 × IVec S64 1 × IVec S64x64x64 1 × IVec S64x64 1 × IVec S64 1 × IVec S64x64 1 × IVec S64 1 × IVec S64x32 1 × IVec S32 1 :=
  let main_v17 : FVec F S256x64 .f32 := broadcastInDim S256x64 ![] bcast_S_S256x64 main_cst_4
  let main_v18 : IVec S256x64 1 := cmpf .oeq main_v16 main_v17
  let main_v19 : FVec F S1x2048 .f32 := subf main_arg5 main_arg5
  let main_cst_5 : FVec F S_ .f32 := constant S_ .f32 0x00000000#32
  let main_v20 : FVec F S1x2048 .f32 := broadcastInDim S1x2048 ![] bcast_S_S1x2048 main_cst_5
  let main_v21 : IVec S1x2048 1 := cmpf .oeq main_v19 main_v20
  let main_v22 : FVec F S1x64 .f32 := subf main_arg6 main_arg6
  let main_cst_6 : FVec F S_ .f32 := constant S_ .f32 0x00000000#32
  let main_v23 : FVec F S1x64 .f32 := broadcastInDim S1x64 ![] bcast_S_S1x64 main_cst_6
  let main_v24 : IVec S1x64 1 := cmpf .oeq main_v22 main_v23
  let main_v25 : FVec F S1x64 .f32 := subf main_arg7 main_arg7
  let main_cst_7 : FVec F S_ .f32 := constant S_ .f32 0x00000000#32
  let main_v26 : FVec F S1x64 .f32 := broadcastInDim S1x64 ![] bcast_S_S1x64 main_cst_7
  let main_v27 : IVec S1x64 1 := cmpf .oeq main_v25 main_v26
  let main_v28 : FVec F S256x256 .f32 := subf main_arg8 main_arg8
  let main_cst_8 : FVec F S_ .f32 := constant S_ .f32 0x00000000#32
  let main_v29 : FVec F S256x256 .f32 := broadcastInDim S256x256 ![] bcast_S_S256x256 main_cst_8
  let main_v30 : IVec S256x256 1 := cmpf .oeq main_v28 main_v29
  let main_v31 : FVec F S256 .f32 := subf main_arg9 main_arg9
  let main_cst_9 : FVec F S_ .f32 := constant S_ .f32 0x00000000#32
  let main_v32 : FVec F S256 .f32 := broadcastInDim S256 ![] bcast_S_S256 main_cst_9
  let main_v33 : IVec S256 1 := cmpf .oeq main_v31 main_v32
  let main_v34 : FVec F S576x64 .f32 := subf main_arg10 main_arg10
  let main_cst_10 : FVec F S_ .f32 := constant S_ .f32 0x00000000#32
  fn_part2 (F := F) main_arg11 main_arg12 main_arg13 main_arg14 main_arg15 main_arg16 main_arg17 main_arg18 main_v2 main_v5 main_v10 main_v15 main_v18 main_v21 main_v24 main_v27 main_v30 main_v33 main_v34 main_cst_10

def fn {F : FTy → Type} [FloatOps F] (main_arg0 : FVec F S2048x2048x5 .f32) (main_arg1 : FVec F S2048x256 .f32) (main_arg2 : IVec S256 32) (main_arg3 : IVec S256 32) (main_arg4 : FVec F S256x64 .f32) (main_arg5 : FVec F S1x2048 .f32) (main_arg6 : FVec F S1x64 .f32) (main_arg7 : FVec F S1x64 .f32) (main_arg8 : FVec F S256x256 .f32) (main_arg9 : FVec F S256 .f32) (main_arg10 : FVec F S576x64 .f32) (main_arg11 : FVec F S64 .f32) (main_arg12 : FVec F S64x64x64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) : IVec S2048x2048x5 1 × IVec S2048x256 1 × IVec S256 1 × IVec S256 1 × IVec S256x64 1 × IVec S1x2048 1 × IVec S1x64 1 × IVec S1x64 1 × IVec S256x256 1 × IVec S256 1 × IVec S576x64 1 × IVec S64 1 × IVec S64x64x64 1 × IVec S64x64 1 × IVec S64 1 × IVec S64x64 1 × IVec S64 1 × IVec S64x32 1 × IVec S32 1 :=
  let main_v0 : FVec F S2048x2048x5 .f32 := subf main_arg0 main_arg0
  let main_cst : FVec F S_ .f32 := constant S_ .f32 0x00000000#32
  let main_v1 : FVec F S2048x2048x5 .f32 := broadcastInDim S2048x2048x5 ![] bcast_S_S2048x2048x5 main_cst
  let main_v2 : IVec S2048x2048x5 1 := cmpf .oeq main_v0 main_v1
  let main_v3 : FVec F S2048x256 .f32 := subf main_arg1 main_arg1
  let main_cst_0 : FVec F S_ .f32 := constant S_ .f32 0x00000000#32
  let main_v4 : FVec F S2048x256 .f32 := broadcastInDim S2048x256 ![] bcast_S_S2048x256 main_cst_0
  let main_v5 : IVec S2048x256 1 := cmpf .oeq main_v3 main_v4
  let main_c : IVec S_ 32 := constantI S_ 32 0#32
  let main_v6 : IVec S256 32 := broadcastInDim S256 ![] bcast_S_S256 main_c
  let main_v7 : IVec S256 1 := cmpi .sge main_arg2 main_v6
  let main_c_1 : IVec S_ 32 := constantI S_ 32 2048#32
  let main_v8 : IVec S256 32 := broadcastInDim S256 ![] bcast_S_S256 main_c_1
  let main_v9 : IVec S256 1 := cmpi .slt main_arg2 main_v8
  let main_v10 : IVec S256 1 := andi main_v7 main_v9
  let main_c_2 : IVec S_ 32 := constantI S_ 32 0#32
  let main_v11 : IVec S256 32 := broadcastInDim S256 ![] bcast_S_S256 main_c_2
  let main_v12 : IVec S256 1 := cmpi .sge main_arg3 main_v11
  let main_c_3 : IVec S_ 32 := constantI S_ 32 32#32
  let main_v13 : IVec S256 32 := broadcastInDim S256 ![] bcast_S_S256 main_c_3
  let main_v14 : IVec S256 1 := cmpi .slt main_arg3 main_v13
  let main_v15 : IVec S256 1 := andi main_v12 main_v14
  let main_v16 : FVec F S256x64 .f32 := subf main_arg4 main_arg4
  let main_cst_4 : FVec F S_ .f32 := constant S_ .f32 0x00000000#32
  fn_part1 (F := F) main_arg5 main_arg6 main_arg7 main_arg8 main_arg9 main_arg10 main_arg11 main_arg12 main_arg13 main_arg14 main_arg15 main_arg16 main_arg17 main_arg18 main_v2 main_v5 main_v10 main_v15 main_v16 main_cst_4
-- ==== Kernel.lean ====
abbrev S2048x2048x5 : Shape := ⟨3, ![2048, 2048, 5]⟩
abbrev S2048x256 : Shape := ⟨2, ![2048, 256]⟩
abbrev S256 : Shape := ⟨1, ![256]⟩
abbrev S256x64 : Shape := ⟨2, ![256, 64]⟩
abbrev S1x2048 : Shape := ⟨2, ![1, 2048]⟩
abbrev S1x64 : Shape := ⟨2, ![1, 64]⟩
abbrev S256x256 : Shape := ⟨2, ![256, 256]⟩
abbrev S576x64 : Shape := ⟨2, ![576, 64]⟩
abbrev S64 : Shape := ⟨1, ![64]⟩
abbrev S64x64x64 : Shape := ⟨3, ![64, 64, 64]⟩
abbrev S64x64 : Shape := ⟨2, ![64, 64]⟩
abbrev S64x32 : Shape := ⟨2, ![64, 32]⟩
abbrev S32 : Shape := ⟨1, ![32]⟩
abbrev S64x1x1 : Shape := ⟨3, ![64, 1, 1]⟩
abbrev S5x2048x2048 : Shape := ⟨3, ![5, 2048, 2048]⟩
abbrev S256x2048 : Shape := ⟨2, ![256, 2048]⟩
abbrev S_ : Shape := ⟨0, ![]⟩
abbrev S1x64x64 : Shape := ⟨3, ![1, 64, 64]⟩
abbrev S64x192x64 : Shape := ⟨3, ![64, 192, 64]⟩
abbrev S1x256 : Shape := ⟨2, ![1, 256]⟩
abbrev S64x2048 : Shape := ⟨2, ![64, 2048]⟩
abbrev S5x64x2048 : Shape := ⟨3, ![5, 64, 2048]⟩
abbrev S5x1x2048 : Shape := ⟨3, ![5, 1, 2048]⟩
abbrev S2048x2048 : Shape := ⟨2, ![2048, 2048]⟩
abbrev S5x512x512 : Shape := ⟨3, ![5, 512, 512]⟩
abbrev S64x512 : Shape := ⟨2, ![64, 512]⟩
abbrev S5x64x512 : Shape := ⟨3, ![5, 64, 512]⟩
abbrev S5x1x512 : Shape := ⟨3, ![5, 1, 512]⟩
abbrev S512x512 : Shape := ⟨2, ![512, 512]⟩
abbrev S1x512 : Shape := ⟨2, ![1, 512]⟩
abbrev S1x512x512 : Shape := ⟨3, ![1, 512, 512]⟩
abbrev S512 : Shape := ⟨1, ![512]⟩
abbrev S1x64x512 : Shape := ⟨3, ![1, 64, 512]⟩
abbrev S1x1x512 : Shape := ⟨3, ![1, 1, 512]⟩
abbrev S1x32 : Shape := ⟨2, ![1, 32]⟩
abbrev S1x1 : Shape := ⟨2, ![1, 1]⟩
abbrev S256x32 : Shape := ⟨2, ![256, 32]⟩
abbrev S1x1x2048 : Shape := ⟨3, ![1, 1, 2048]⟩
abbrev S1x64x2048 : Shape := ⟨3, ![1, 64, 2048]⟩
abbrev S1x1x64 : Shape := ⟨3, ![1, 1, 64]⟩
abbrev S1 : Shape := ⟨1, ![1]⟩
abbrev S1x1x1 : Shape := ⟨3, ![1, 1, 1]⟩
abbrev S64x1 : Shape := ⟨2, ![64, 1]⟩
abbrev S192x2048 : Shape := ⟨2, ![192, 2048]⟩
abbrev S1x192x64 : Shape := ⟨3, ![1, 192, 64]⟩
abbrev S192x64 : Shape := ⟨2, ![192, 64]⟩
abbrev S128x2048 : Shape := ⟨2, ![128, 2048]⟩
abbrev S256x1 : Shape := ⟨2, ![256, 1]⟩
abbrev S1x256x1 : Shape := ⟨3, ![1, 256, 1]⟩

abbrev nBuf : Space → Nat
  | .hbm => 62
  | .vmem => 42
  | .smem => 0
  | _ => 0

abbrev bufTy : (tb : Table) → Fin (tcTables nBuf tb) → BufTy
  | .hbm, ⟨0, _⟩ => ⟨S2048x2048x5, .f32⟩
  | .hbm, ⟨1, _⟩ => ⟨S2048x256, .f32⟩
  | .hbm, ⟨2, _⟩ => ⟨S256, .i32⟩
  | .hbm, ⟨3, _⟩ => ⟨S256, .i32⟩
  | .hbm, ⟨4, _⟩ => ⟨S256x64, .f32⟩
  | .hbm, ⟨5, _⟩ => ⟨S1x2048, .f32⟩
  | .hbm, ⟨6, _⟩ => ⟨S1x64, .f32⟩
  | .hbm, ⟨7, _⟩ => ⟨S1x64, .f32⟩
  | .hbm, ⟨8, _⟩ => ⟨S256x256, .f32⟩
  | .hbm, ⟨9, _⟩ => ⟨S256, .f32⟩
  | .hbm, ⟨10, _⟩ => ⟨S576x64, .f32⟩
  | .hbm, ⟨11, _⟩ => ⟨S64, .f32⟩
  | .hbm, ⟨12, _⟩ => ⟨S64x64x64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x32, .f32⟩
  | .hbm, ⟨18, _⟩ => ⟨S32, .f32⟩
  | .hbm, ⟨19, _⟩ => ⟨S64, .f32⟩
  | .hbm, ⟨20, _⟩ => ⟨S64x1x1, .f32⟩
  | .hbm, ⟨21, _⟩ => ⟨S64, .f32⟩
  | .hbm, ⟨22, _⟩ => ⟨S64x1x1, .f32⟩
  | .hbm, ⟨23, _⟩ => ⟨S5x2048x2048, .f32⟩
  | .hbm, ⟨24, _⟩ => ⟨S256x2048, .f32⟩
  | .hbm, ⟨25, _⟩ => ⟨S64x64, .i32⟩
  | .hbm, ⟨26, _⟩ => ⟨S64x64, .i32⟩
  | .hbm, ⟨27, _⟩ => ⟨S_, .i32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S64x64, .f32⟩
  | .hbm, ⟨32, _⟩ => ⟨S1x64x64, .f32⟩
  | .hbm, ⟨33, _⟩ => ⟨S64x64x64, .f32⟩
  | .hbm, ⟨34, _⟩ => ⟨S64x64x64, .f32⟩
  | .hbm, ⟨35, _⟩ => ⟨S64x64x64, .f32⟩
  | .hbm, ⟨36, _⟩ => ⟨S64x64x64, .f32⟩
  | .hbm, ⟨37, _⟩ => ⟨S64x64x64, .f32⟩
  | .hbm, ⟨38, _⟩ => ⟨S64x64x64, .f32⟩
  | .hbm, ⟨39, _⟩ => ⟨S64x64x64, .bf16⟩
  | .hbm, ⟨40, _⟩ => ⟨S64x64x64, .f32⟩
  | .hbm, ⟨41, _⟩ => ⟨S64x64x64, .f32⟩
  | .hbm, ⟨42, _⟩ => ⟨S64x64x64, .bf16⟩
  | .hbm, ⟨43, _⟩ => ⟨S64x192x64, .bf16⟩
  | .hbm, ⟨44, _⟩ => ⟨S1x256, .f32⟩
  | .hbm, ⟨45, _⟩ => ⟨S64x2048, .f32⟩
  | .hbm, ⟨46, _⟩ => ⟨S5x64x2048, .f32⟩
  | .hbm, ⟨47, _⟩ => ⟨S5x1x2048, .f32⟩
  | .hbm, ⟨48, _⟩ => ⟨S5x1x2048, .f32⟩
  | .hbm, ⟨49, _⟩ => ⟨S2048x2048, .bf16⟩
  | .hbm, ⟨50, _⟩ => ⟨S1x2048, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x32, .f32⟩
  | .hbm, ⟨55, _⟩ => ⟨S256, .f32⟩
  | .hbm, ⟨56, _⟩ => ⟨S1x256, .f32⟩
  | .hbm, ⟨57, _⟩ => ⟨S256, .f32⟩
  | .hbm, ⟨58, _⟩ => ⟨S1x256, .f32⟩
  | .hbm, ⟨59, _⟩ => ⟨S1x1, .f32⟩
  | .hbm, ⟨60, _⟩ => ⟨S256x32, .f32⟩
  | .hbm, ⟨61, _⟩ => ⟨S_, .f32⟩
  | .local _ .vmem, ⟨0, _⟩ => ⟨S2048x256, .f32⟩
  | .local _ .vmem, ⟨1, _⟩ => ⟨S256x256, .f32⟩
  | .local _ .vmem, ⟨2, _⟩ => ⟨S1x256, .f32⟩
  | .local _ .vmem, ⟨3, _⟩ => ⟨S256x64, .f32⟩
  | .local _ .vmem, ⟨4, _⟩ => ⟨S64x2048, .f32⟩
  | .local _ .vmem, ⟨5, _⟩ => ⟨S5x512x512, .f32⟩
  | .local _ .vmem, ⟨6, _⟩ => ⟨S5x512x512, .f32⟩
  | .local _ .vmem, ⟨7, _⟩ => ⟨S64x512, .f32⟩
  | .local _ .vmem, ⟨8, _⟩ => ⟨S64x512, .f32⟩
  | .local _ .vmem, ⟨9, _⟩ => ⟨S5x64x512, .f32⟩
  | .local _ .vmem, ⟨10, _⟩ => ⟨S5x64x512, .f32⟩
  | .local _ .vmem, ⟨11, _⟩ => ⟨S5x1x512, .f32⟩
  | .local _ .vmem, ⟨12, _⟩ => ⟨S5x1x512, .f32⟩
  | .local _ .vmem, ⟨13, _⟩ => ⟨S5x1x512, .f32⟩
  | .local _ .vmem, ⟨14, _⟩ => ⟨S5x1x512, .f32⟩
  | .local _ .vmem, ⟨15, _⟩ => ⟨S512x512, .bf16⟩
  | .local _ .vmem, ⟨16, _⟩ => ⟨S512x512, .bf16⟩
  | .local _ .vmem, ⟨17, _⟩ => ⟨S1x512, .f32⟩
  | .local _ .vmem, ⟨18, _⟩ => ⟨S1x512, .f32⟩
  | .local _ .vmem, ⟨19, _⟩ => ⟨S5x64x2048, .f32⟩
  | .local _ .vmem, ⟨20, _⟩ => ⟨S5x1x2048, .f32⟩
  | .local _ .vmem, ⟨21, _⟩ => ⟨S5x1x2048, .f32⟩
  | .local _ .vmem, ⟨22, _⟩ => ⟨S64x2048, .f32⟩
  | .local _ .vmem, ⟨23, _⟩ => ⟨S256x2048, .f32⟩
  | .local _ .vmem, ⟨24, _⟩ => ⟨S2048x2048, .bf16⟩
  | .local _ .vmem, ⟨25, _⟩ => ⟨S1x2048, .f32⟩
  | .local _ .vmem, ⟨26, _⟩ => ⟨S1x2048, .f32⟩
  | .local _ .vmem, ⟨27, _⟩ => ⟨S1x64, .f32⟩
  | .local _ .vmem, ⟨28, _⟩ => ⟨S1x64, .f32⟩
  | .local _ .vmem, ⟨29, _⟩ => ⟨S576x64, .f32⟩
  | .local _ .vmem, ⟨30, _⟩ => ⟨S1x64, .f32⟩
  | .local _ .vmem, ⟨31, _⟩ => ⟨S64x192x64, .bf16⟩
  | .local _ .vmem, ⟨32, _⟩ => ⟨S64x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S64x32, .f32⟩
  | .local _ .vmem, ⟨37, _⟩ => ⟨S1x32, .f32⟩
  | .local _ .vmem, ⟨38, _⟩ => ⟨S1x256, .f32⟩
  | .local _ .vmem, ⟨39, _⟩ => ⟨S1x256, .f32⟩
  | .local _ .vmem, ⟨40, _⟩ => ⟨S1x1, .f32⟩
  | .local _ .vmem, ⟨41, _⟩ => ⟨S256x32, .f32⟩
  | _, _ => ⟨S2048x2048x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24_0 : Ref sig .tc := ⟨.hbm, 46, rfl⟩
abbrev main_v24_1 : Ref sig .tc := ⟨.hbm, 47, rfl⟩
abbrev main_v24_2 : Ref sig .tc := ⟨.hbm, 48, rfl⟩
abbrev main_v24_3 : Ref sig .tc := ⟨.hbm, 49, rfl⟩
abbrev main_v24_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v34 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_stg13_0 : Ref sig .tc := ⟨.vmem, 32, rfl⟩
abbrev cc2_stg14_0 : Ref sig .tc := ⟨.vmem, 33, rfl⟩
abbrev cc2_stg15_0 : Ref sig .tc := ⟨.vmem, 34, rfl⟩
abbrev cc2_stg16_0 : Ref sig .tc := ⟨.vmem, 35, rfl⟩
abbrev cc2_stg17_0 : Ref sig .tc := ⟨.vmem, 36, rfl⟩
abbrev cc2_stg18_0 : Ref sig .tc := ⟨.vmem, 37, rfl⟩
abbrev cc2_stg19_0 : Ref sig .tc := ⟨.vmem, 38, rfl⟩
abbrev cc2_stg20_0 : Ref sig .tc := ⟨.vmem, 39, rfl⟩
abbrev cc2_stg21_0 : Ref sig .tc := ⟨.vmem, 40, rfl⟩
abbrev cc2_stg22_0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem14_0 : DmaSem sig := 33
abbrev cc2_sem15_0 : DmaSem sig := 34
abbrev cc2_sem16_0 : DmaSem sig := 35
abbrev cc2_sem17_0 : DmaSem sig := 36
abbrev cc2_sem18_0 : DmaSem sig := 37
abbrev cc2_sem19_0 : DmaSem sig := 38
abbrev cc2_sem20_0 : DmaSem sig := 39
abbrev cc2_sem21_0 : DmaSem sig := 40
abbrev cc2_sem22_0 : DmaSem sig := 41

abbrev nD : Nat := 1
abbrev τ : Topo := Topo.v7x

variable {F : FTy → Type} [FloatOps F]

abbrev grid0 : Pipeline.Grid := .none

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![4, 4], ![false, false]⟩

def k1_cond1 (i : grid1.Coords) : BitVec 1 :=
  let arg1 : BitVec 32 := BitVec.ofNat 32 (i 1).val
  let c0_i32 : BitVec 32 := 0#32
  let v63 : BitVec 1 := Scalar.cmpi .eq arg1 c0_i32
  let v64 : BitVec 32 := Scalar.extui v63
  let c0_i32_21 : BitVec 32 := 0#32
  let v65 : BitVec 1 := Scalar.cmpi .ne v64 c0_i32_21
  v65

def k1_cond2 (i : grid1.Coords) : BitVec 1 :=
  let arg1 : BitVec 32 := BitVec.ofNat 32 (i 1).val
  let c0_i32_22 : BitVec 32 := 0#32
  let v66 : BitVec 1 := Scalar.cmpi .ne arg1 c0_i32_22
  let v67 : BitVec 32 := Scalar.extui v66
  let c0_i32_23 : BitVec 32 := 0#32
  let v68 : BitVec 1 := Scalar.cmpi .ne v67 c0_i32_23
  v68

def k1_cond3 (i : grid1.Coords) : BitVec 1 :=
  let arg1 : BitVec 32 := BitVec.ofNat 32 (i 1).val
  let arg0 : BitVec 32 := BitVec.ofNat 32 (i 0).val
  let v69 : BitVec 1 := Scalar.cmpi .eq arg1 arg0
  let v70 : BitVec 32 := Scalar.extui v69
  let c0_i32_24 : BitVec 32 := 0#32
  let v71 : BitVec 1 := Scalar.cmpi .ne v70 c0_i32_24
  v71

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S5x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S5x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S5x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S5x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := .none

@[reducible] def k2_t1_loop : Scf.Loop 32 :=
  let c0_i32_153 : BitVec 32 := 0#32
  let c64_i32 : BitVec 32 := 64#32
  let v314 : BitVec 32 := Scalar.addi c0_i32_153 c64_i32
  let c1_i32 : BitVec 32 := 1#32
  ⟨c0_i32_153, v314, c1_i32⟩
def k2_off1 (k2_t1 : Fin k2_t1_loop.trips) : Fin 3 → Nat :=
  let c0_i32_153 : BitVec 32 := 0#32
  let c1_i32 : BitVec 32 := 1#32
  let arg23 : BitVec 32 := Scf.iv c0_i32_153 c1_i32 k2_t1
  let v332 : Index := Scalar.indexCast arg23
  let c0_159 : Index := 0#32
  let c0_160 : Index := 0#32
  ![v332.toNat, 0, 0]
@[reducible] def k2_t2_loop : Scf.Loop 32 :=
  let c0_i32_153 : BitVec 32 := 0#32
  let c64_i32 : BitVec 32 := 64#32
  let v314 : BitVec 32 := Scalar.addi c0_i32_153 c64_i32
  let c1_i32 : BitVec 32 := 1#32
  ⟨c0_i32_153, v314, c1_i32⟩
def k2_off2 (k2_t2 : Fin k2_t2_loop.trips) : Fin 3 → Nat :=
  let c0_i32_153 : BitVec 32 := 0#32
  let c1_i32 : BitVec 32 := 1#32
  let arg23 : BitVec 32 := Scf.iv c0_i32_153 c1_i32 k2_t2
  let v339 : Index := Scalar.indexCast arg23
  let c0_158 : Index := 0#32
  let c0_159 : Index := 0#32
  ![v339.toNat, 0, 0]
abbrev stage2_0 : Fin 1 → Memref sig .tc .vmem S5x64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S5x1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S5x1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S2048x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S576x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S64x192x64 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S64x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S1x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev stage2_15 : Fin 1 → Memref sig .tc .vmem S64x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))

abbrev stage2_16 : Fin 1 → Memref sig .tc .vmem S1x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))

abbrev stage2_17 : Fin 1 → Memref sig .tc .vmem S64x32 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))

abbrev stage2_18 : Fin 1 → Memref sig .tc .vmem S1x32 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))

abbrev stage2_19 : Fin 1 → Memref sig .tc .vmem S1x256 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))

abbrev stage2_20 : Fin 1 → Memref sig .tc .vmem S1x256 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))

abbrev stage2_21 : Fin 1 → Memref sig .tc .vmem S1x1 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))

abbrev stage2_22 : Fin 1 → Memref sig .tc .vmem S256x32 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
-- ==== ReferenceIdeal.lean ====
abbrev S2048x2048x5 : Shape := ⟨3, ![2048, 2048, 5]⟩
abbrev S2048x256 : Shape := ⟨2, ![2048, 256]⟩
abbrev S256 : Shape := ⟨1, ![256]⟩
abbrev S256x64 : Shape := ⟨2, ![256, 64]⟩
abbrev S1x2048 : Shape := ⟨2, ![1, 2048]⟩
abbrev S1x64 : Shape := ⟨2, ![1, 64]⟩
abbrev S256x256 : Shape := ⟨2, ![256, 256]⟩
abbrev S576x64 : Shape := ⟨2, ![576, 64]⟩
abbrev S64 : Shape := ⟨1, ![64]⟩
abbrev S64x64x64 : Shape := ⟨3, ![64, 64, 64]⟩
abbrev S64x64 : Shape := ⟨2, ![64, 64]⟩
abbrev S64x32 : Shape := ⟨2, ![64, 32]⟩
abbrev S32 : Shape := ⟨1, ![32]⟩
abbrev S2048x2048 : Shape := ⟨2, ![2048, 2048]⟩
abbrev S_ : Shape := ⟨0, ![]⟩
abbrev S5x2048x2048 : Shape := ⟨3, ![5, 2048, 2048]⟩
abbrev S1x256 : Shape := ⟨2, ![1, 256]⟩
abbrev S2048x64 : Shape := ⟨2, ![2048, 64]⟩
abbrev S1x2048x2048 : Shape := ⟨3, ![1, 2048, 2048]⟩
abbrev S5x2048 : Shape := ⟨2, ![5, 2048]⟩
abbrev S5x2048x1 : Shape := ⟨3, ![5, 2048, 1]⟩
abbrev S5x2048x64 : Shape := ⟨3, ![5, 2048, 64]⟩
abbrev S2048 : Shape := ⟨1, ![2048]⟩
abbrev S5x64 : Shape := ⟨2, ![5, 64]⟩
abbrev S5 : Shape := ⟨1, ![5]⟩
abbrev S1 : Shape := ⟨1, ![1]⟩
abbrev S5x1x1 : Shape := ⟨3, ![5, 1, 1]⟩
abbrev S2048x5x64 : Shape := ⟨3, ![2048, 5, 64]⟩
abbrev S2048x320 : Shape := ⟨2, ![2048, 320]⟩
abbrev S2048x576 : Shape := ⟨2, ![2048, 576]⟩
abbrev S2048x1 : Shape := ⟨2, ![2048, 1]⟩
abbrev S1x64x64 : Shape := ⟨3, ![1, 64, 64]⟩
abbrev S256x1 : Shape := ⟨2, ![256, 1]⟩
abbrev S256x32 : Shape := ⟨2, ![256, 32]⟩
abbrev S1x32 : Shape := ⟨2, ![1, 32]⟩
abbrev S256x1x1 : Shape := ⟨3, ![256, 1, 1]⟩
abbrev S1x1x1 : Shape := ⟨3, ![1, 1, 1]⟩

abbrev nBuf : Space → Nat
  | .hbm => 291
  | .vmem => 0
  | .smem => 0
  | _ => 0

abbrev hbmTy0_0 (i : Nat) : BufTy := match i % 128 with
  | 0 => ⟨S2048x2048x5, .f32⟩
  | 1 => ⟨S2048x256, .f32⟩
  | 2 => ⟨S256, .i32⟩
  | 3 => ⟨S256, .i32⟩
  | 4 => ⟨S256x64, .f32⟩
  | 5 => ⟨S1x2048, .f32⟩
  | 6 => ⟨S1x64, .f32⟩
  | 7 => ⟨S1x64, .f32⟩
  | 8 => ⟨S256x256, .f32⟩
  | 9 => ⟨S256, .f32⟩
  | 10 => ⟨S576x64, .f32⟩
  | 11 => ⟨S64, .f32⟩
  | 12 => ⟨S64x64x64, .f32⟩
  | 13 => ⟨S64x64, .f32⟩
  | 14 => ⟨S64, .f32⟩
  | 15 => ⟨S64x64, .f32⟩
  | 16 => ⟨S64, .f32⟩
  | 17 => ⟨S64x32, .f32⟩
  | 18 => ⟨S32, .f32⟩
  | 19 => ⟨S64, .f32⟩
  | 20 => ⟨S64, .f32⟩
  | 21 => ⟨S2048x2048, .i32⟩
  | 22 => ⟨S2048x2048, .i32⟩
  | 23 => ⟨S_, .i32⟩
  | 24 => ⟨S2048x2048, .i32⟩
  | 25 => ⟨S2048x2048, .i32⟩
  | 26 => ⟨S2048x2048, .i1⟩
  | 27 => ⟨S2048x2048, .f32⟩
  | 28 => ⟨S5x2048x2048, .f32⟩
  | 29 => ⟨S2048x256, .f32⟩
  | 30 => ⟨S1x256, .f32⟩
  | 31 => ⟨S2048x256, .f32⟩
  | 32 => ⟨S2048x256, .f32⟩
  | 33 => ⟨S_, .f32⟩
  | 34 => ⟨S2048x256, .f32⟩
  | 35 => ⟨S2048x256, .i1⟩
  | 36 => ⟨S_, .f32⟩
  | 37 => ⟨S2048x256, .f32⟩
  | 38 => ⟨S2048x256, .f32⟩
  | 39 => ⟨S2048x256, .f32⟩
  | 40 => ⟨S2048x64, .f32⟩
  | 41 => ⟨S_, .f32⟩
  | 42 => ⟨S2048x64, .f32⟩
  | 43 => ⟨S2048x64, .i1⟩
  | 44 => ⟨S_, .f32⟩
  | 45 => ⟨S2048x64, .f32⟩
  | 46 => ⟨S2048x64, .f32⟩
  | 47 => ⟨S2048x64, .f32⟩
  | 48 => ⟨S5x2048x2048, .f32⟩
  | 49 => ⟨S_, .f32⟩
  | 50 => ⟨S2048x2048, .f32⟩
  | 51 => ⟨S2048x2048, .f32⟩
  | 52 => ⟨S1x2048x2048, .f32⟩
  | 53 => ⟨S5x2048x2048, .f32⟩
  | 54 => ⟨S5x2048x2048, .f32⟩
  | 55 => ⟨S1x2048x2048, .f32⟩
  | 56 => ⟨S5x2048x2048, .f32⟩
  | 57 => ⟨S5x2048x2048, .f32⟩
  | 58 => ⟨S_, .f32⟩
  | 59 => ⟨S5x2048, .f32⟩
  | 60 => ⟨S_, .f32⟩
  | 61 => ⟨S5x2048, .f32⟩
  | 62 => ⟨S5x2048, .i1⟩
  | 63 => ⟨S_, .f32⟩
  | 64 => ⟨S5x2048, .f32⟩
  | 65 => ⟨S5x2048, .f32⟩
  | 66 => ⟨S_, .f32⟩
  | 67 => ⟨S_, .f32⟩
  | 68 => ⟨S5x2048, .f32⟩
  | 69 => ⟨S5x2048, .f32⟩
  | 70 => ⟨S5x2048x1, .f32⟩
  | 71 => ⟨S5x2048x2048, .f32⟩
  | 72 => ⟨S5x2048x2048, .f32⟩
  | 73 => ⟨S5x2048x64, .f32⟩
  | 74 => ⟨S_, .f32⟩
  | 75 => ⟨S5x2048x64, .f32⟩
  | 76 => ⟨S5x2048x64, .f32⟩
  | 77 => ⟨S2048, .f32⟩
  | 78 => ⟨S5x64, .f32⟩
  | 79 => ⟨S5x64, .f32⟩
  | 80 => ⟨S5x64, .f32⟩
  | 81 => ⟨S5x64, .f32⟩
  | 82 => ⟨S5x64, .f32⟩
  | 83 => ⟨S5x64, .f32⟩
  | 84 => ⟨S_, .f32⟩
  | 85 => ⟨S5, .f32⟩
  | 86 => ⟨S_, .f32⟩
  | 87 => ⟨S_, .f32⟩
  | 88 => ⟨S_, .f32⟩
  | 89 => ⟨S_, .f32⟩
  | 90 => ⟨S1, .f32⟩
  | 91 => ⟨S5, .f32⟩
  | 92 => ⟨S5, .f32⟩
  | 93 => ⟨S5, .f32⟩
  | 94 => ⟨S_, .f32⟩
  | 95 => ⟨S_, .f32⟩
  | 96 => ⟨S1, .f32⟩
  | 97 => ⟨S5, .f32⟩
  | 98 => ⟨S5, .f32⟩
  | 99 => ⟨S_, .f32⟩
  | 100 => ⟨S5, .f32⟩
  | 101 => ⟨S5, .f32⟩
  | 102 => ⟨S5x1x1, .f32⟩
  | 103 => ⟨S5x2048x64, .f32⟩
  | 104 => ⟨S5x2048x64, .f32⟩
  | 105 => ⟨S2048x5x64, .f32⟩
  | 106 => ⟨S2048x320, .f32⟩
  | 107 => ⟨S2048x576, .f32⟩
  | 108 => ⟨S_, .f32⟩
  | 109 => ⟨S2048x2048, .f32⟩
  | 110 => ⟨S_, .f32⟩
  | 111 => ⟨S2048x2048, .f32⟩
  | 112 => ⟨S2048x2048, .f32⟩
  | 113 => ⟨S_, .f32⟩
  | 114 => ⟨S2048x2048, .f32⟩
  | 115 => ⟨S2048x2048, .i1⟩
  | 116 => ⟨S_, .f32⟩
  | 117 => ⟨S2048x2048, .f32⟩
  | 118 => ⟨S2048x2048, .i1⟩
  | 119 => ⟨S2048x2048, .f32⟩
  | 120 => ⟨S_, .f32⟩
  | 121 => ⟨S_, .f32⟩
  | 122 => ⟨S2048x2048, .f32⟩
  | 123 => ⟨S2048x2048, .f32⟩
  | 124 => ⟨S_, .f32⟩
  | 125 => ⟨S2048, .f32⟩
  | 126 => ⟨S_, .f32⟩
  | 127 => ⟨S2048, .f32⟩
  | _ => ⟨S2048x2048x5, .f32⟩

abbrev hbmTy0_1 (i : Nat) : BufTy := match i % 128 with
  | 0 => ⟨S2048, .i1⟩
  | 1 => ⟨S_, .f32⟩
  | 2 => ⟨S2048, .f32⟩
  | 3 => ⟨S2048, .f32⟩
  | 4 => ⟨S_, .f32⟩
  | 5 => ⟨S_, .f32⟩
  | 6 => ⟨S2048, .f32⟩
  | 7 => ⟨S2048, .f32⟩
  | 8 => ⟨S2048x1, .f32⟩
  | 9 => ⟨S2048x2048, .f32⟩
  | 10 => ⟨S2048x2048, .f32⟩
  | 11 => ⟨S2048x2048, .f32⟩
  | 12 => ⟨S1x2048, .f32⟩
  | 13 => ⟨S2048x2048, .f32⟩
  | 14 => ⟨S2048x2048, .f32⟩
  | 15 => ⟨S2048x64, .f32⟩
  | 16 => ⟨S1x64, .f32⟩
  | 17 => ⟨S2048x64, .f32⟩
  | 18 => ⟨S2048x64, .f32⟩
  | 19 => ⟨S_, .f32⟩
  | 20 => ⟨S2048x64, .f32⟩
  | 21 => ⟨S2048x64, .f32⟩
  | 22 => ⟨S_, .i32⟩
  | 23 => ⟨S_, .i32⟩
  | 24 => ⟨S2048x2048, .f32⟩
  | 25 => ⟨S2048x64, .f32⟩
  | 26 => ⟨S64, .f32⟩
  | 27 => ⟨S64, .f32⟩
  | 28 => ⟨S64x64x64, .f32⟩
  | 29 => ⟨S_, .i32⟩
  | 30 => ⟨S_, .i32⟩
  | 31 => ⟨S2048x64, .f32⟩
  | 32 => ⟨S_, .i32⟩
  | 33 => ⟨S_, .i1⟩
  | 34 => ⟨S_, .i32⟩
  | 35 => ⟨S_, .i32⟩
  | 36 => ⟨S2048x64, .f32⟩
  | 37 => ⟨S_, .f32⟩
  | 38 => ⟨S2048x64, .f32⟩
  | 39 => ⟨S2048x64, .f32⟩
  | 40 => ⟨S_, .f32⟩
  | 41 => ⟨S2048x64, .f32⟩
  | 42 => ⟨S2048x64, .f32⟩
  | 43 => ⟨S2048x64, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S1, .f32⟩
  | 51 => ⟨S_, .f32⟩
  | 52 => ⟨S2048x64, .f32⟩
  | 53 => ⟨S2048x64, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S1, .f32⟩
  | 61 => ⟨S_, .f32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S1x64x64, .f32⟩
  | 85 => ⟨S64x64, .f32⟩
  | 86 => ⟨S2048x64, .f32⟩
  | 87 => ⟨S2048x64, .f32⟩
  | 88 => ⟨S2048x64, .f32⟩
  | 89 => ⟨S2048x64, .f32⟩
  | 90 => ⟨S_, .f32⟩
  | 91 => ⟨S2048x64, .f32⟩
  | 92 => ⟨S2048x64, .f32⟩
  | 93 => ⟨S_, .i32⟩
  | 94 => ⟨S_, .i32⟩
  | 95 => ⟨S2048x64, .f32⟩
  | 96 => ⟨S1x64, .f32⟩
  | 97 => ⟨S2048x64, .f32⟩
  | 98 => ⟨S2048x64, .f32⟩
  | 99 => ⟨S_, .f32⟩
  | 100 => ⟨S2048x64, .f32⟩
  | 101 => ⟨S2048x64, .i1⟩
  | 102 => ⟨S_, .f32⟩
  | 103 => ⟨S2048x64, .f32⟩
  | 104 => ⟨S2048x64, .f32⟩
  | 105 => ⟨S2048x64, .f32⟩
  | 106 => ⟨S2048x64, .f32⟩
  | 107 => ⟨S1x64, .f32⟩
  | 108 => ⟨S2048x64, .f32⟩
  | 109 => ⟨S2048x64, .f32⟩
  | 110 => ⟨S_, .f32⟩
  | 111 => ⟨S2048x64, .f32⟩
  | 112 => ⟨S2048x64, .i1⟩
  | 113 => ⟨S_, .f32⟩
  | 114 => ⟨S2048x64, .f32⟩
  | 115 => ⟨S2048x64, .f32⟩
  | 116 => ⟨S2048x64, .f32⟩
  | 117 => ⟨S_, .i32⟩
  | 118 => ⟨S256, .i32⟩
  | 119 => ⟨S256, .i1⟩
  | 120 => ⟨S_, .i32⟩
  | 121 => ⟨S256, .i32⟩
  | 122 => ⟨S256, .i32⟩
  | 123 => ⟨S256, .i32⟩
  | 124 => ⟨S256x1, .i32⟩
  | 125 => ⟨S256x64, .f32⟩
  | 126 => ⟨S256x32, .f32⟩
  | 127 => ⟨S1x32, .f32⟩
  | _ => ⟨S2048x2048x5, .f32⟩

abbrev hbmTy0_2 (i : Nat) : BufTy := match i % 128 with
  | 0 => ⟨S256x32, .f32⟩
  | 1 => ⟨S256x32, .f32⟩
  | 2 => ⟨S256x32, .f32⟩
  | 3 => ⟨S_, .f32⟩
  | 4 => ⟨S256, .f32⟩
  | 5 => ⟨S256, .f32⟩
  | 6 => ⟨S256x1, .i32⟩
  | 7 => ⟨S_, .i32⟩
  | 8 => ⟨S256x1, .i32⟩
  | 9 => ⟨S256x1, .i1⟩
  | 10 => ⟨S_, .i32⟩
  | 11 => ⟨S256x1, .i32⟩
  | 12 => ⟨S256x1, .i32⟩
  | 13 => ⟨S256x1, .i32⟩
  | 14 => ⟨S256x1x1, .i32⟩
  | 15 => ⟨S1, .i32⟩
  | 16 => ⟨S_, .i32⟩
  | 17 => ⟨S256x1x1, .i32⟩
  | 18 => ⟨S256x1x1, .i1⟩
  | 19 => ⟨S1x1x1, .i32⟩
  | 20 => ⟨S256x1x1, .i32⟩
  | 21 => ⟨S256x1x1, .i1⟩
  | 22 => ⟨S256x1x1, .i1⟩
  | 23 => ⟨S_, .i1⟩
  | 24 => ⟨S256x1, .i1⟩
  | 25 => ⟨S256x1, .f32⟩
  | 26 => ⟨S_, .f32⟩
  | 27 => ⟨S256x1, .f32⟩
  | 28 => ⟨S256x1, .f32⟩
  | 29 => ⟨S256, .f32⟩
  | 30 => ⟨S256, .f32⟩
  | 31 => ⟨S_, .f32⟩
  | 32 => ⟨S_, .f32⟩
  | 33 => ⟨S_, .f32⟩
  | 34 => ⟨S_, .f32⟩
  | _ => ⟨S2048x2048x5, .f32⟩

abbrev hbmTy (i : Nat) : BufTy := match i / 128 with
  | 0 => hbmTy0_0 i
  | 1 => hbmTy0_1 i
  | 2 => hbmTy0_2 i
  | _ => ⟨S2048x2048x5, .f32⟩

abbrev bufTy : (tb : Table) → Fin (tcTables nBuf tb) → BufTy
  | .hbm, ⟨i, _⟩ => hbmTy i
  | _, _ => ⟨S2048x2048x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_cst_8 : Ref sig .tc := ⟨.hbm, 63, rfl⟩
abbrev main_v34 : Ref sig .tc := ⟨.hbm, 64, rfl⟩
abbrev main_v35 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call3_cst : Ref sig .tc := ⟨.hbm, 74, rfl⟩
abbrev main_call3_v0 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_10 : Ref sig .tc := ⟨.hbm, 84, rfl⟩
abbrev main_v49 : Ref sig .tc := ⟨.hbm, 85, rfl⟩
abbrev main_cst_11 : Ref sig .tc := ⟨.hbm, 86, rfl⟩
abbrev main_v50 : Ref sig .tc := ⟨.hbm, 87, rfl⟩
abbrev main_cst_12 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_14 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_15 : Ref sig .tc := ⟨.hbm, 108, rfl⟩
abbrev main_v68 : Ref sig .tc := ⟨.hbm, 109, rfl⟩
abbrev main_cst_16 : Ref sig .tc := ⟨.hbm, 110, rfl⟩
abbrev main_v69 : Ref sig .tc := ⟨.hbm, 111, rfl⟩
abbrev main_v70 : Ref sig .tc := ⟨.hbm, 112, rfl⟩
abbrev main_cst_17 : Ref sig .tc := ⟨.hbm, 113, rfl⟩
abbrev main_v71 : Ref sig .tc := ⟨.hbm, 114, rfl⟩
abbrev main_v72 : Ref sig .tc := ⟨.hbm, 115, rfl⟩
abbrev main_cst_18 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_19 : Ref sig .tc := ⟨.hbm, 120, rfl⟩
abbrev main_call4_v0 : Ref sig .tc := ⟨.hbm, 121, rfl⟩
abbrev main_call4_v1 : Ref sig .tc := ⟨.hbm, 122, rfl⟩
abbrev main_v76 : Ref sig .tc := ⟨.hbm, 123, rfl⟩
abbrev main_cst_20 : Ref sig .tc := ⟨.hbm, 124, rfl⟩
abbrev main_v77 : Ref sig .tc := ⟨.hbm, 125, rfl⟩
abbrev main_cst_21 : Ref sig .tc := ⟨.hbm, 126, rfl⟩
abbrev main_v78 : Ref sig .tc := ⟨.hbm, 127, rfl⟩
abbrev main_v79 : Ref sig .tc := ⟨.hbm, 128, rfl⟩
abbrev main_cst_22 : Ref sig .tc := ⟨.hbm, 129, rfl⟩
abbrev main_v80 : Ref sig .tc := ⟨.hbm, 130, rfl⟩
abbrev main_v81 : Ref sig .tc := ⟨.hbm, 131, rfl⟩
abbrev main_cst_23 : Ref sig .tc := ⟨.hbm, 132, rfl⟩
abbrev main_call5_v0 : Ref sig .tc := ⟨.hbm, 133, rfl⟩
abbrev main_call5_v1 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_call6_cst : Ref sig .tc := ⟨.hbm, 147, rfl⟩
abbrev main_call6_v0 : Ref sig .tc := ⟨.hbm, 148, rfl⟩
abbrev main_v94 : Ref sig .tc := ⟨.hbm, 149, rfl⟩
abbrev main_c_24 : Ref sig .tc := ⟨.hbm, 150, rfl⟩
abbrev main_c_25 : Ref sig .tc := ⟨.hbm, 151, rfl⟩
abbrev main_v95_0 : Ref sig .tc := ⟨.hbm, 152, rfl⟩
abbrev main_v95_1 : Ref sig .tc := ⟨.hbm, 153, rfl⟩
abbrev main_v95_2 : Ref sig .tc := ⟨.hbm, 154, rfl⟩
abbrev main_v95_3 : Ref sig .tc := ⟨.hbm, 155, rfl⟩
abbrev main_v95_4 : Ref sig .tc := ⟨.hbm, 156, rfl⟩
abbrev main_v95_5 : Ref sig .tc := ⟨.hbm, 157, rfl⟩
abbrev main_v95_6 : Ref sig .tc := ⟨.hbm, 158, rfl⟩
abbrev main_v95_7 : Ref sig .tc := ⟨.hbm, 159, rfl⟩
abbrev main_while0c_c_42 : Ref sig .tc := ⟨.hbm, 160, rfl⟩
abbrev main_while0c_v134 : Ref sig .tc := ⟨.hbm, 161, rfl⟩
abbrev main_while0b_c_42 : Ref sig .tc := ⟨.hbm, 162, rfl⟩
abbrev main_while0b_v134 : Ref sig .tc := ⟨.hbm, 163, rfl⟩
abbrev main_while0b_v135 : Ref sig .tc := ⟨.hbm, 164, rfl⟩
abbrev main_while0b_cst_43 : Ref sig .tc := ⟨.hbm, 165, rfl⟩
abbrev main_while0b_v136 : Ref sig .tc := ⟨.hbm, 166, rfl⟩
abbrev main_while0b_v137 : Ref sig .tc := ⟨.hbm, 167, rfl⟩
abbrev main_while0b_cst_44 : Ref sig .tc := ⟨.hbm, 168, rfl⟩
abbrev main_while0b_v138 : Ref sig .tc := ⟨.hbm, 169, rfl⟩
abbrev main_while0b_v139 : Ref sig .tc := ⟨.hbm, 170, rfl⟩
abbrev main_while0b_v140 : Ref sig .tc := ⟨.hbm, 171, rfl⟩
abbrev main_while0b_c_45 : Ref sig .tc := ⟨.hbm, 172, rfl⟩
abbrev main_while0b_v141 : Ref sig .tc := ⟨.hbm, 173, rfl⟩
abbrev main_while0b_v142 : Ref sig .tc := ⟨.hbm, 174, rfl⟩
abbrev main_while0b_c_46 : Ref sig .tc := ⟨.hbm, 175, rfl⟩
abbrev main_while0b_v143 : Ref sig .tc := ⟨.hbm, 176, rfl⟩
abbrev main_while0b_v144 : Ref sig .tc := ⟨.hbm, 177, rfl⟩
abbrev main_while0b_v145 : Ref sig .tc := ⟨.hbm, 178, rfl⟩
abbrev main_while0b_v146 : Ref sig .tc := ⟨.hbm, 179, rfl⟩
abbrev main_while0b_v147 : Ref sig .tc := ⟨.hbm, 180, rfl⟩
abbrev main_while0b_v148 : Ref sig .tc := ⟨.hbm, 181, rfl⟩
abbrev main_while0b_c_47 : Ref sig .tc := ⟨.hbm, 182, rfl⟩
abbrev main_while0b_v149 : Ref sig .tc := ⟨.hbm, 183, rfl⟩
abbrev main_while0b_v150 : Ref sig .tc := ⟨.hbm, 184, rfl⟩
abbrev main_while0b_c_48 : Ref sig .tc := ⟨.hbm, 185, rfl⟩
abbrev main_while0b_v151 : Ref sig .tc := ⟨.hbm, 186, rfl⟩
abbrev main_while0b_v152 : Ref sig .tc := ⟨.hbm, 187, rfl⟩
abbrev main_while0b_v153 : Ref sig .tc := ⟨.hbm, 188, rfl⟩
abbrev main_while0b_v154 : Ref sig .tc := ⟨.hbm, 189, rfl⟩
abbrev main_while0b_v155 : Ref sig .tc := ⟨.hbm, 190, rfl⟩
abbrev main_while0b_c_49 : Ref sig .tc := ⟨.hbm, 191, rfl⟩
abbrev main_while0b_v156 : Ref sig .tc := ⟨.hbm, 192, rfl⟩
abbrev main_while0b_c_50 : Ref sig .tc := ⟨.hbm, 193, rfl⟩
abbrev main_while0b_v157 : Ref sig .tc := ⟨.hbm, 194, rfl⟩
abbrev main_while0b_v158 : Ref sig .tc := ⟨.hbm, 195, rfl⟩
abbrev main_while0b_c_51 : Ref sig .tc := ⟨.hbm, 196, rfl⟩
abbrev main_while0b_c_52 : Ref sig .tc := ⟨.hbm, 197, rfl⟩
abbrev main_while0b_v159 : Ref sig .tc := ⟨.hbm, 198, rfl⟩
abbrev main_while0b_c_53 : Ref sig .tc := ⟨.hbm, 199, rfl⟩
abbrev main_while0b_c_54 : Ref sig .tc := ⟨.hbm, 200, rfl⟩
abbrev main_while0b_v160 : Ref sig .tc := ⟨.hbm, 201, rfl⟩
abbrev main_while0b_c_55 : Ref sig .tc := ⟨.hbm, 202, rfl⟩
abbrev main_while0b_v161 : Ref sig .tc := ⟨.hbm, 203, rfl⟩
abbrev main_while0b_c_56 : Ref sig .tc := ⟨.hbm, 204, rfl⟩
abbrev main_while0b_c_57 : Ref sig .tc := ⟨.hbm, 205, rfl⟩
abbrev main_while0b_v162 : Ref sig .tc := ⟨.hbm, 206, rfl⟩
abbrev main_while0b_c_58 : Ref sig .tc := ⟨.hbm, 207, rfl⟩
abbrev main_while0b_c_59 : Ref sig .tc := ⟨.hbm, 208, rfl⟩
abbrev main_while0b_v163 : Ref sig .tc := ⟨.hbm, 209, rfl⟩
abbrev main_while0b_c_60 : Ref sig .tc := ⟨.hbm, 210, rfl⟩
abbrev main_while0b_v164 : Ref sig .tc := ⟨.hbm, 211, rfl⟩
abbrev main_while0b_v165 : Ref sig .tc := ⟨.hbm, 212, rfl⟩
abbrev main_while0b_v166 : Ref sig .tc := ⟨.hbm, 213, rfl⟩
abbrev main_while0b_v167 : Ref sig .tc := ⟨.hbm, 214, rfl⟩
abbrev main_while0b_v168 : Ref sig .tc := ⟨.hbm, 215, rfl⟩
abbrev main_while0b_v169 : Ref sig .tc := ⟨.hbm, 216, rfl⟩
abbrev main_while0b_v170 : Ref sig .tc := ⟨.hbm, 217, rfl⟩
abbrev main_while0b_call7_cst : Ref sig .tc := ⟨.hbm, 218, rfl⟩
abbrev main_while0b_call7_v0 : Ref sig .tc := ⟨.hbm, 219, rfl⟩
abbrev main_while0b_v171 : Ref sig .tc := ⟨.hbm, 220, rfl⟩
abbrev main_while0b_c_61 : Ref sig .tc := ⟨.hbm, 221, rfl⟩
abbrev main_while0b_v172 : Ref sig .tc := ⟨.hbm, 222, rfl⟩
abbrev main_v96 : Ref sig .tc := ⟨.hbm, 223, rfl⟩
abbrev main_v97 : Ref sig .tc := ⟨.hbm, 224, rfl⟩
abbrev main_v98 : Ref sig .tc := ⟨.hbm, 225, rfl⟩
abbrev main_v99 : Ref sig .tc := ⟨.hbm, 226, rfl⟩
abbrev main_cst_26 : Ref sig .tc := ⟨.hbm, 227, rfl⟩
abbrev main_v100 : Ref sig .tc := ⟨.hbm, 228, rfl⟩
abbrev main_v101 : Ref sig .tc := ⟨.hbm, 229, rfl⟩
abbrev main_cst_27 : Ref sig .tc := ⟨.hbm, 230, rfl⟩
abbrev main_v102 : Ref sig .tc := ⟨.hbm, 231, rfl⟩
abbrev main_v103 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_cst_28 : Ref sig .tc := ⟨.hbm, 238, rfl⟩
abbrev main_v109 : Ref sig .tc := ⟨.hbm, 239, rfl⟩
abbrev main_v110 : Ref sig .tc := ⟨.hbm, 240, rfl⟩
abbrev main_cst_29 : Ref sig .tc := ⟨.hbm, 241, rfl⟩
abbrev main_v111 : Ref sig .tc := ⟨.hbm, 242, rfl⟩
abbrev main_v112 : Ref sig .tc := ⟨.hbm, 243, rfl⟩
abbrev main_v113 : Ref sig .tc := ⟨.hbm, 244, rfl⟩
abbrev main_c_30 : Ref sig .tc := ⟨.hbm, 245, rfl⟩
abbrev main_v114 : Ref sig .tc := ⟨.hbm, 246, rfl⟩
abbrev main_v115 : Ref sig .tc := ⟨.hbm, 247, rfl⟩
abbrev main_c_31 : Ref sig .tc := ⟨.hbm, 248, rfl⟩
abbrev main_v116 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_v120 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_cst_32 : Ref sig .tc := ⟨.hbm, 259, rfl⟩
abbrev main_v126 : Ref sig .tc := ⟨.hbm, 260, rfl⟩
abbrev main_v127 : Ref sig .tc := ⟨.hbm, 261, rfl⟩
abbrev main_v128 : Ref sig .tc := ⟨.hbm, 262, rfl⟩
abbrev main_call10_c : Ref sig .tc := ⟨.hbm, 263, rfl⟩
abbrev main_call10_v0 : Ref sig .tc := ⟨.hbm, 264, rfl⟩
abbrev main_call10_v1 : Ref sig .tc := ⟨.hbm, 265, rfl⟩
abbrev main_call10_c_0 : Ref sig .tc := ⟨.hbm, 266, rfl⟩
abbrev main_call10_v2 : Ref sig .tc := ⟨.hbm, 267, rfl⟩
abbrev main_call10_v3 : Ref sig .tc := ⟨.hbm, 268, rfl⟩
abbrev main_call10_v4 : Ref sig .tc := ⟨.hbm, 269, rfl⟩
abbrev main_call10_v5 : Ref sig .tc := ⟨.hbm, 270, rfl⟩
abbrev main_call10_c_1 : Ref sig .tc := ⟨.hbm, 271, rfl⟩
abbrev main_call10_c_2 : Ref sig .tc := ⟨.hbm, 272, rfl⟩
abbrev main_call10_v6 : Ref sig .tc := ⟨.hbm, 273, rfl⟩
abbrev main_call10_v7 : Ref sig .tc := ⟨.hbm, 274, rfl⟩
abbrev main_call10_v8 : Ref sig .tc := ⟨.hbm, 275, rfl⟩
abbrev main_call10_v9 : Ref sig .tc := ⟨.hbm, 276, rfl⟩
abbrev main_call10_v10 : Ref sig .tc := ⟨.hbm, 277, rfl⟩
abbrev main_call10_v11 : Ref sig .tc := ⟨.hbm, 278, rfl⟩
abbrev main_call10_c_3 : Ref sig .tc := ⟨.hbm, 279, rfl⟩
abbrev main_call10_v12 : Ref sig .tc := ⟨.hbm, 280, rfl⟩
abbrev main_call10_v13 : Ref sig .tc := ⟨.hbm, 281, rfl⟩
abbrev main_call10_cst : Ref sig .tc := ⟨.hbm, 282, rfl⟩
abbrev main_call10_v14 : Ref sig .tc := ⟨.hbm, 283, rfl⟩
abbrev main_v129 : Ref sig .tc := ⟨.hbm, 284, rfl⟩
abbrev main_v130 : Ref sig .tc := ⟨.hbm, 285, rfl⟩
abbrev main_v131 : Ref sig .tc := ⟨.hbm, 286, rfl⟩
abbrev main_cst_33 : Ref sig .tc := ⟨.hbm, 287, rfl⟩
abbrev main_v132 : Ref sig .tc := ⟨.hbm, 288, rfl⟩
abbrev main_cst_34 : Ref sig .tc := ⟨.hbm, 289, rfl⟩
abbrev main_v133 : Ref sig .tc := ⟨.hbm, 290, rfl⟩

abbrev nD : Nat := 1
abbrev τ : Topo := Topo.v7x

variable {F : FTy → Type} [FloatOps F]

abbrev main_while0_count : Scf.Loop 32 := ⟨0#32, 64#32, 1#32⟩
-- ==== Proof.Spec.lean ====
module

public import Idealize.ShloMosaic.Lib.Pointwise
public import Idealize.ShloMosaic.Lib.IdealHost

/-! The mathematics of the model over the real numbers, stage by stage, and the few facts that carry a computation on
    extended reals that are all finite over to the reals. -/

@[expose] public section

set_option maxRecDepth 16384

noncomputable section

namespace Cert.Spec

open Idealize.ShloMosaic

/-! ## Finite extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_max (a b : ℝ) : max (a : EReal) (b : EReal) = ((max a b : ℝ) : EReal) := (EReal.coe_strictMono.monotone.map_max).symm

theorem coe_ite (p : Prop) [Decidable p] (a b : ℝ) : (if p then (a : EReal) else (b : EReal)) = ((if p then a else b : ℝ) : EReal) := by
  split <;> rfl

theorem coe_div (a : ℝ) {b : ℝ} (h : b ≠ 0) : Ideal.div (a : EReal) (b : EReal) = ((a / b : ℝ) : EReal) := by
  rw [Ideal.div_coe h, ← EReal.coe_mul, mul_one_div]

theorem coe_eq_iff (a b : ℝ) : ((a : EReal) = (b : EReal)) ↔ a = b := EReal.coe_eq_coe_iff

/-- A word whose reading is finite is read as a real number. -/
theorem ofBits_real {x : EReal} (h : x ≠ ⊤) (h' : x ≠ ⊥) : x = ((x.toReal : ℝ) : EReal) := (EReal.coe_toReal h h').symm

/-- A word whose exponent is not all ones is a real number. -/
theorem ofBits_finite (w : BitVec 32) (h : (w.extractLsb' 23 8).toNat ≠ 255) :
    Ideal.ofBits .f32 w = (((Ideal.ofBits .f32 w).toReal : ℝ) : EReal) := by
  refine ofBits_real ?_ ?_
  · simp only [Ideal.ofBits, Ideal.ieee]
    rw [if_neg (by simpa using h)]
    split <;> exact EReal.coe_ne_top _
  · simp only [Ideal.ofBits, Ideal.ieee]
    rw [if_neg (by simpa using h)]
    split <;> exact EReal.coe_ne_bot _

/-- The literals of the two programs: the slope of the leaky rectifier, the two weights of a layer. -/
def cLr : ℝ := (Ideal.ofBits .f32 0x3C23D70A#32).toReal
def c9 : ℝ := (Ideal.ofBits .f32 0x3F666666#32).toReal
def c1 : ℝ := (Ideal.ofBits .f32 0x3DCCCCCD#32).toReal

theorem cLr_eq : Ideal.ofBits .f32 0x3C23D70A#32 = ((cLr : ℝ) : EReal) := by
  refine ofBits_real ?_ ?_ <;> simp [Ideal.ofBits, Ideal.ieee, -EReal.coe_mul]
theorem c9_eq : Ideal.ofBits .f32 0x3F666666#32 = ((c9 : ℝ) : EReal) := by
  refine ofBits_real ?_ ?_ <;> simp [Ideal.ofBits, Ideal.ieee, -EReal.coe_mul]
theorem c1_eq : Ideal.ofBits .f32 0x3DCCCCCD#32 = ((c1 : ℝ) : EReal) := by
  refine ofBits_real ?_ ?_ <;> simp [Ideal.ofBits, Ideal.ieee, -EReal.coe_mul]
theorem ofBits_five : Ideal.ofBits .f32 0x40A00000#32 = ((5 : ℝ) : EReal) := by
  simp [Ideal.ofBits, Ideal.ieee, -EReal.coe_mul, -EReal.coe_neg]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_256 : Ideal.ofBits .f32 0x43800000#32 = ((256 : ℝ) : EReal) := by
  simp [Ideal.ofBits, Ideal.ieee, -EReal.coe_mul, -EReal.coe_neg]; norm_num
theorem ofBits_nodes_sq : Ideal.ofBits .f32 0x4A800000#32 = ((4194304 : ℝ) : EReal) := by
  simp [Ideal.ofBits, Ideal.ieee, -EReal.coe_mul, -EReal.coe_neg]; norm_num
theorem ofBits_bot : Ideal.ofBits .f32 0xFF800000#32 = ⊥ := by
  simp [Ideal.ofBits, Ideal.ieee]

/-- `1 / d` where it is meant, `0` where `d` is zero. -/
theorem inv_or_zero (d : ℝ) : (if (d : EReal) = ((0 : ℝ) : EReal) then ((0 : ℝ) : EReal) else Ideal.div ((1 : ℝ) : EReal) (d : EReal))
    = ((if d = 0 then 0 else 1 / d : ℝ) : EReal) := by
  by_cases h : d = 0
  · simp [h]
  · rw [if_neg (fun e => h (EReal.coe_eq_coe_iff.mp e)), if_neg h, coe_div 1 h]

/-- A vector, a matrix, a stack of matrices of reals, as an array of extended reals (at the bf16 type: `cb2`, `cb3`). -/
def cv1 {a : ℕ} (x : Fin a → ℝ) : FVec Ideal ⟨1, ![a]⟩ .f32 := fun i => ((x (i 0) : ℝ) : EReal)
def cv2 {a b : ℕ} (x : Fin a → Fin b → ℝ) : FVec Ideal ⟨2, ![a, b]⟩ .f32 := fun i => ((x (i 0) (i 1) : ℝ) : EReal)
def cv3 {a b c : ℕ} (x : Fin a → Fin b → Fin c → ℝ) : FVec Ideal ⟨3, ![a, b, c]⟩ .f32 :=
  fun i => ((x (i 0) (i 1) (i 2) : ℝ) : EReal)
def cb2 {a b : ℕ} (x : Fin a → Fin b → ℝ) : FVec Ideal ⟨2, ![a, b]⟩ .bf16 := fun i => ((x (i 0) (i 1) : ℝ) : EReal)
def cb3 {a b c : ℕ} (x : Fin a → Fin b → Fin c → ℝ) : FVec Ideal ⟨3, ![a, b, c]⟩ .bf16 :=
  fun i => ((x (i 0) (i 1) (i 2) : ℝ) : EReal)

theorem cv1_at {a : ℕ} (x : Fin a → ℝ) (i : Fin a) : cv1 x (ix1 i) = ((x i : ℝ) : EReal) := rfl
theorem cv2_at {a b : ℕ} (x : Fin a → Fin b → ℝ) (i : Fin a) (j : Fin b) : cv2 x (ix2 i j) = ((x i j : ℝ) : EReal) := rfl
theorem cv3_at {a b c : ℕ} (x : Fin a → Fin b → Fin c → ℝ) (i : Fin a) (j : Fin b) (k : Fin c) :
    cv3 x (ix3 i j k) = ((x i j k : ℝ) : EReal) := rfl
theorem cb2_at {a b : ℕ} (x : Fin a → Fin b → ℝ) (i : Fin a) (j : Fin b) : cb2 x (ix2 i j) = ((x i j : ℝ) : EReal) := rfl
theorem cb3_at {a b c : ℕ} (x : Fin a → Fin b → Fin c → ℝ) (i : Fin a) (j : Fin b) (k : Fin c) :
    cb3 x (ix3 i j k) = ((x i j k : ℝ) : EReal) := rfl

/-! ## The stages -/

/-- The leaky rectifier of slope `c` below zero. -/
def lr (c x : ℝ) : ℝ := if 0 ≤ x then x else c * x

/-- The node features after the two dense layers. -/
def xp (c : ℝ) (X : Fin 2048 → Fin 256 → ℝ) (W1 : Fin 256 → Fin 256 → ℝ) (b1 : Fin 256 → ℝ) (W2 : Fin 256 → Fin 64 → ℝ)
    (n : Fin 2048) (f : Fin 64) : ℝ :=
  lr c (∑ j, lr c ((∑ k, X n k * W1 k j) + b1 j) * W2 j f)

/-- The identity matrix. -/
def eye {a : ℕ} (i j : Fin a) : ℝ := if i = j then 1 else 0

/-- The transposed adjacency of relation `e` with its diagonal set to one. -/
def ht (A : Fin 2048 → Fin 2048 → Fin 5 → ℝ) (e : Fin 5) (n k : Fin 2048) : ℝ := A k n e * (1 - eye n k) + eye n k

def deg (A : Fin 2048 → Fin 2048 → Fin 5 → ℝ) (e : Fin 5) (n : Fin 2048) : ℝ := ∑ k, ht A e n k

def dinvA (A : Fin 2048 → Fin 2048 → Fin 5 → ℝ) (e : Fin 5) (n : Fin 2048) : ℝ := if deg A e n = 0 then 0 else 1 / deg A e n

/-- The graph convolution of relation `e`. -/
def lg (A : Fin 2048 → Fin 2048 → Fin 5 → ℝ) (p : Fin 2048 → Fin 64 → ℝ) (e : Fin 5) (n : Fin 2048) (f : Fin 64) : ℝ :=
  max (∑ k, dinvA A e n * ht A e n k * p k f) 0

/-- The attention score of a relation, its features `g`. -/
def watt (w : Fin 2048 → ℝ) (b q : Fin 64 → ℝ) (g : Fin 2048 → Fin 64 → ℝ) : ℝ :=
  ∑ f, q f * Real.tanh ((∑ n, w n * g n f) + b f)

def top5 (w : Fin 5 → ℝ) : ℝ := max (max (max (max (w 0) (w 1)) (w 2)) (w 3)) (w 4)

/-- Five times the softmax of the scores. -/
def beta5 (w : Fin 5 → ℝ) (e : Fin 5) : ℝ := Real.exp (w e - top5 w) / (∑ i, Real.exp (w i - top5 w)) * 5

/-- The first hidden state: the weighted relations and the features through one dense layer. -/
def x0 (β : Fin 5 → ℝ) (G : Fin 5 → Fin 2048 → Fin 64 → ℝ) (X : Fin 2048 → Fin 256 → ℝ) (W : Fin 576 → Fin 64 → ℝ) (b : Fin 64 → ℝ)
    (n : Fin 2048) (f : Fin 64) : ℝ :=
  max ((∑ e : Fin 5, ∑ g : Fin 64, β e * G e n g * W ⟨e.val * 64 + g.val, by omega⟩ f)
    + (∑ k : Fin 256, X n k * W ⟨320 + k.val, by omega⟩ f) + b f) 0

/-- The mean relation's pattern of nonzero entries, its diagonal set to one. -/
def pat (A : Fin 2048 → Fin 2048 → Fin 5 → ℝ) (i j : Fin 2048) : ℝ := if i = j then 1 else if ∑ e, A i j e ≠ 0 then 1 else 0

def degB (B : Fin 2048 → Fin 2048 → ℝ) (j : Fin 2048) : ℝ := ∑ i, B i j

def dinvB (B : Fin 2048 → Fin 2048 → ℝ) (j : Fin 2048) : ℝ := if 0 < degB B j then (Real.sqrt (degB B j))⁻¹ else 0

/-- What one layer makes of `x` before its convolution. -/
def mid (a9 a1 : ℝ) (B : Fin 2048 → Fin 2048 → ℝ) (h x : Fin 2048 → Fin 64 → ℝ) (n : Fin 2048) (f : Fin 64) : ℝ :=
  (∑ k, dinvB B n * B k n * dinvB B k * x k f) * a9 + a1 * h n f

/-- One layer of the deep convolution. -/
def layer (a9 a1 keep bet : ℝ) (W : Fin 64 → Fin 64 → ℝ) (B : Fin 2048 → Fin 2048 → ℝ) (h x : Fin 2048 → Fin 64 → ℝ)
    (n : Fin 2048) (f : Fin 64) : ℝ :=
  max (keep * mid a9 a1 B h x n f + bet * ∑ g, mid a9 a1 B h x n g * W g f) 0

/-- The state after `k` layers. -/
def hid (a9 a1 : ℝ) (keep bet : Fin 64 → ℝ) (W : Fin 64 → Fin 64 → Fin 64 → ℝ) (B : Fin 2048 → Fin 2048 → ℝ) (h : Fin 2048 → Fin 64 → ℝ) :
    ℕ → Fin 2048 → Fin 64 → ℝ
  | 0 => h
  | k + 1 => layer a9 a1 (keep (Fin.ofNat 64 k)) (bet (Fin.ofNat 64 k)) (W (Fin.ofNat 64 k)) B h (hid a9 a1 keep bet W B h k)

/-- A dense layer with the leaky rectifier. -/
def dense (c : ℝ) (W : Fin 64 → Fin 64 → ℝ) (b : Fin 64 → ℝ) (x : Fin 2048 → Fin 64 → ℝ) (n : Fin 2048) (f : Fin 64) : ℝ :=
  lr c ((∑ g, x n g * W g f) + b f)

/-- The class scores of the target nodes. -/
def score (z : Fin 2048 → Fin 64 → ℝ) (W : Fin 64 → Fin 32 → ℝ) (b : Fin 32 → ℝ) (tx : Fin 256 → Fin 2048) (t : Fin 256) (o : Fin 32) : ℝ :=
  (∑ g, z (tx t) g * W g o) + b o

/-- The mean negative log likelihood of the labels. -/
def nll (y : Fin 256 → Fin 32 → ℝ) (tg : Fin 256 → Fin 32) : ℝ :=
  (∑ t, (Real.log (∑ o, Real.exp (y t o)) - y t (tg t))) / 256

end Cert.Spec

end
-- ==== Proof.Prep.lean ====
/- The first pallas_call, `_prep_kernel`: one grid point; it leaves `leaky(W2ᵀ · leaky(X W1 + b1)ᵀ)`, the payload
   `k0_pay1` of its four inputs, in its output. -/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionArraysS
public import Idealize.ShloMosaic.Lib.WholeRead
public import Idealize.ShloMosaic.Lib.VecWindow
public import Idealize.ShloMosaic.Lib.Tactic
public import Idealize.ShloMosaic.Lib.Exec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
theorem prep_run (c : Dev nD)
    (arg0 : Memref sig .tc .vmem S2048x256 .f32) (harg0 : arg0.IsWhole) (arg1 : Memref sig .tc .vmem S256x256 .f32) (harg1 : arg1.IsWhole)
    (arg2 : Memref sig .tc .vmem S1x256 .f32) (harg2 : arg2.IsWhole) (arg3 : Memref sig .tc .vmem S256x64 .f32) (harg3 : arg3.IsWhole)
    (arg4 : Memref sig .tc .vmem S64x2048 .f32) (harg4 : arg4.IsWhole)
    (x0 : Vec F S2048x256 .f32) (x1 : Vec F S256x256 .f32) (x2 : Vec F S1x256 .f32) (x3 : Vec F S256x64 .f32) :
      ∀ (E : Set ℕ) (K : PUnit → sProp 𝕄),
        iprop(owns (c : Thread nD τ) arg0 fullShare x0 ∗ owns (c : Thread nD τ) arg1 fullShare x1 ∗ owns (c : Thread nD τ) arg2 fullShare x2
            ∗ owns (c : Thread nD τ) arg3 fullShare x3 ∗ (∃ d, owns (c : Thread nD τ) arg4 fullShare d)
            ∗ (iprop(owns (c : Thread nD τ) arg0 fullShare x0 ∗ owns (c : Thread nD τ) arg1 fullShare x1 ∗ owns (c : Thread nD τ) arg2 fullShare x2
              ∗ owns (c : Thread nD τ) arg3 fullShare x3 ∗ owns (c : Thread nD τ) arg4 fullShare (k0_pay1 x0 x1 x2 x3)) -∗ K ⟨⟩))
          ⊢ wp frame (wpE (defs₀ (F := F)) Variants.none c none) E (cc0__prep_kernel arg0 harg0 arg1 harg1 arg2 harg2 arg3 harg3 arg4 harg4) K := by
  intro E K
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg0.eq_unread hf0; obtain rfl := harg1.eq_unread hf1
  obtain rfl := harg2.eq_unread hf2; obtain rfl := harg3.eq_unread hf3
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr; swap; · iexact H4
  ipureintro
  rw [View.read_writes_full, View.readAt_full, View.readAt_full, View.readAt_full, View.readAt_full, hf0, hf1, hf2, hf3]

variable (V : Dev nD → Valuation τ sig (Elt F))

/-- Window `w`'s block at point `t`, of the arrays as the region finds them. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What the body leaves: the inputs as they were, the output at the payload of the four blocks. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay1 (blk0 V c 0 t) (blk0 V c 1 t) (blk0 V c 2 t) (blk0 V c 3 t)
  Φ _ := Pipeline.ΦA spec0 c
  q _ := fullShare
  owed _ := 0

theorem before0_0 (c : Dev nD) (t : Fin cfg0.N) (d) : (dat0 V c).before 0 t d = blk0 V c 0 t := by
  obtain rfl := fin_N0 t
  unfold Dat.before; rw [if_pos (by decide)]; rfl
theorem before0_1 (c : Dev nD) (t : Fin cfg0.N) (d) : (dat0 V c).before 1 t d = blk0 V c 1 t := by
  obtain rfl := fin_N0 t
  unfold Dat.before; rw [if_pos (by decide)]; rfl
theorem before0_2 (c : Dev nD) (t : Fin cfg0.N) (d) : (dat0 V c).before 2 t d = blk0 V c 2 t := by
  obtain rfl := fin_N0 t
  unfold Dat.before; rw [if_pos (by decide)]; rfl
theorem before0_3 (c : Dev nD) (t : Fin cfg0.N) (d) : (dat0 V c).before 3 t d = blk0 V c 3 t := by
  obtain rfl := fin_N0 t
  unfold Dat.before; rw [if_pos (by decide)]; rfl

theorem body0_row (t : Fin cfg0.N) :
    defs₀ (F := F) .tc cfg0.body (cfg0.bodyArgs t (cfg0.slots t)) = bodyAt0 t := by
  unfold defs₀; rw [Defs.onTc_tc]

set_option maxHeartbeats 1000000 in
theorem body0 (c : Dev nD) : BodyObligation (dat0 V c) (defs₀ (F := F)) Variants.none () Set.univ := fun t => by
  rw [bigSep_W0, bigSep_W0, body0_row]
  simp only [before0_0, before0_1, before0_2, before0_3]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩⟩
  iapply (prep_run c _ _ _ _ _ _ _ _ _ _ (blk0 V c 0 t) (blk0 V c 1 t) (blk0 V c 2 t) (blk0 V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Hand

end
-- ==== Proof.Sweep.lean ====
/- The second pallas_call, `_sweep_kernel`: a 4 by 4 grid of points `t = 4 p + q`. Window 5 is stored whole at every point;
   windows 2, 3 and 6 are reset at `q = 0` and added to after; window 4 is zeroed at `q = 0` and set at `q = p`. -/
module

public import proofs.«01_k».proof.Proof.Prep
public import proofs.«01_k».proof.Proof.Gen.KernelIdeal.Regions
public import proofs.«01_k».proof.Proof.Gen.KernelIdeal.Points
public import proofs.«01_k».proof.Proof.Gen.KernelIdeal.Skeleton
public import Idealize.ShloMosaic.Lib.WordCmp
public import Idealize.ShloMosaic.Lib.Pipeline.FrameBody
public import Idealize.ShloMosaic.Lib.Pipeline.RegionArraysS
public import Idealize.ShloMosaic.Lib.WholeRead
public import Idealize.ShloMosaic.Lib.VecWindow
public import Idealize.ShloMosaic.Lib.Tactic
public import Idealize.ShloMosaic.Lib.Exec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one point computes, of its two blocks -/

abbrev sweepT0 (x0 : Vec F S5x512x512 .f32) (x1 : Vec F S64x512 .f32) : FVec F S5x64x512 .f32 :=
  k1_pay1 (k1_pay21 x0 x1) (k1_pay24 x0 x1) (k1_pay26 x0 x1) (k1_pay27 x0 x1) (k1_pay28 x0 x1)
abbrev sweepT (x0 : Vec F S5x512x512 .f32) (x1 : Vec F S64x512 .f32) (old : Vec F S5x64x512 .f32) : FVec F S5x64x512 .f32 :=
  k1_pay7 (k1_pay21 x0 x1) (k1_pay24 x0 x1) (k1_pay26 x0 x1) (k1_pay27 x0 x1) (k1_pay28 x0 x1) old
abbrev sweepC0 (x0 : Vec F S5x512x512 .f32) : FVec F S5x1x512 .f32 :=
  k1_pay2 (k1_pay15 x0) (k1_pay17 x0) (k1_pay19 x0) (k1_pay22 x0) (k1_pay25 x0)
abbrev sweepC (x0 : Vec F S5x512x512 .f32) (old : Vec F S5x1x512 .f32) : FVec F S5x1x512 .f32 :=
  k1_pay8 (k1_pay15 x0) (k1_pay17 x0) (k1_pay19 x0) (k1_pay22 x0) (k1_pay25 x0) old
abbrev sweepG (i : grid1.Coords) (x0 : Vec F S5x512x512 .f32) : FVec F S5x1x512 .f32 := k1_pay10 (k1_pay11 x0) (k1_pay13 i)
abbrev sweepB (i : grid1.Coords) (x0 : Vec F S5x512x512 .f32) : FVec F S512x512 .bf16 := k1_pay4 (k1_pay11 x0) (k1_pay13 i)
abbrev sweepD0 (i : grid1.Coords) (x0 : Vec F S5x512x512 .f32) : FVec F S1x512 .f32 := k1_pay5 (k1_pay11 x0) (k1_pay13 i)
abbrev sweepD (i : grid1.Coords) (x0 : Vec F S5x512x512 .f32) (old : Vec F S1x512 .f32) : FVec F S1x512 .f32 := k1_pay9 (k1_pay11 x0) (k1_pay13 i) old

set_option maxHeartbeats 1000000 in
theorem sweep_run_A (c : Dev nD) (i : grid1.Coords) (arg2 : Memref sig .tc .vmem S5x512x512 .f32) (harg2 : arg2.IsWhole) (arg3 : Memref sig .tc .vmem S64x512 .f32) (harg3 : arg3.IsWhole) (arg4 : Memref sig .tc .vmem S5x64x512 .f32) (harg4 : arg4.IsWhole) (arg5 : Memref sig .tc .vmem S5x1x512 .f32) (harg5 : arg5.IsWhole) (arg6 : Memref sig .tc .vmem S5x1x512 .f32) (harg6 : arg6.IsWhole) (arg7 : Memref sig .tc .vmem S512x512 .bf16) (harg7 : arg7.IsWhole) (arg8 : Memref sig .tc .vmem S1x512 .f32) (harg8 : arg8.IsWhole)
    (hc1 : k1_cond1 i = 1#1) (hc2 : ¬ k1_cond2 i = 1#1) (hc3 : k1_cond3 i = 1#1)
    (x0 : Vec F S5x512x512 .f32) (x1 : Vec F S64x512 .f32) (d4 : Vec F S5x64x512 .f32) (d5 : Vec F S5x1x512 .f32) (d6 : Vec F S5x1x512 .f32) (d8 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare d4 ∗ owns (c : Thread nD τ) arg5 fullShare d5 ∗ owns (c : Thread nD τ) arg6 fullShare d6 ∗ (∃ d, owns (c : Thread nD τ) arg7 fullShare d) ∗ owns (c : Thread nD τ) arg8 fullShare d8
            ∗ (iprop(owns (c : Thread nD τ) arg2 fullShare x0 ∗ owns (c : Thread nD τ) arg3 fullShare x1 ∗ owns (c : Thread nD τ) arg4 fullShare (sweepT0 x0 x1) ∗ owns (c : Thread nD τ) arg5 fullShare (sweepC0 x0) ∗ owns (c : Thread nD τ) arg6 fullShare (sweepG i x0) ∗ owns (c : Thread nD τ) arg7 fullShare (sweepB i x0) ∗ owns (c : Thread nD τ) arg8 fullShare (sweepD0 i x0)) -∗ K ⟨⟩))
          ⊢ wp frame (wpE (defs₀ (F := F)) Variants.none c none) E (cc1__sweep_kernel i arg2 harg2 arg3 harg3 arg4 harg4 arg5 harg5 arg6 harg6 arg7 harg7 arg8 harg8) K := by
  intro E K
  simp only [cc1__sweep_kernel_eq_skeleton]; unfold cc1__sweep_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5', %f5, -, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf4; obtain rfl := harg8.eq_unread hf6
  have r2 : x0 = View.readAt (Elt F) arg2.view (Rect.unit (s := S5x512x512) ![0, 0, 0] S5x512x512.size inb_S5x512x512_S5x512x512_0_0_0).toLoadRect (harg2.unread x0) := ((View.readAt_full _ _ _).trans hf0).symm
  have r3 : x1 = View.readAt (Elt F) arg3.view (Rect.unit (s := S64x512) ![0, 0] S64x512.size inb_S64x512_S64x512_0_0).toLoadRect (harg3.unread x1) := ((View.readAt_full _ _ _).trans hf1).symm
  have r4 : d4 = View.readAt (Elt F) arg4.view (Rect.unit (s := S5x64x512) ![0, 0, 0] S5x64x512.size inb_S5x64x512_S5x64x512_0_0_0).toLoadRect (harg4.unread d4) := ((View.readAt_full _ _ _).trans hf2).symm
  have r5 : d5 = View.readAt (Elt F) arg5.view (Rect.unit (s := S5x1x512) ![0, 0, 0] S5x1x512.size inb_S5x1x512_S5x1x512_0_0_0).toLoadRect (harg5.unread d5) := ((View.readAt_full _ _ _).trans hf3).symm
  have r8 : d8 = View.readAt (Elt F) arg8.view (Rect.unit (s := S1x512) ![0, 0] S1x512.size inb_S1x512_S1x512_0_0).toLoadRect (harg8.unread d8) := ((View.readAt_full _ _ _).trans hf6).symm
  sl_exec (disch := first | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; refine (View.read_writes_full _ _ _ _ _).trans ?_
    conv_rhs => rw [r2, r3]
    rfl
  isplitl [H3]
  · iexists _; isplitr; swap; · iexact H3
    ipureintro; refine (View.read_writes_full _ _ _ _ _).trans ?_
    conv_rhs => rw [r2]
    rfl
  isplitl [H4]
  · iexists _; isplitr; swap; · iexact H4
    ipureintro; refine (View.read_writes_full _ _ _ _ _).trans ?_
    conv_rhs => rw [r2]
    rfl
  isplitl [H5]
  · iexists _; isplitr; swap; · iexact H5
    ipureintro; refine (View.read_writes_full _ _ _ _ _).trans ?_
    conv_rhs => rw [r2]
    rfl
  iexists _; isplitr; swap; · iexact H6
  ipureintro; refine (View.read_writes_full _ _ _ _ _).trans ?_
  conv_rhs => rw [r2]
  rfl

set_option maxHeartbeats 1000000 in
theorem sweep_run_B (c : Dev nD) (i : grid1.Coords) (arg2 : Memref sig .tc .vmem S5x512x512 .f32) (harg2 : arg2.IsWhole) (arg3 : Memref sig .tc .vmem S64x512 .f32) (harg3 : arg3.IsWhole) (arg4 : Memref sig .tc .vmem S5x64x512 .f32) (harg4 : arg4.IsWhole) (arg5 : Memref sig .tc .vmem S5x1x512 .f32) (harg5 : arg5.IsWhole) (arg6 : Memref sig .tc .vmem S5x1x512 .f32) (harg6 : arg6.IsWhole) (arg7 : Memref sig .tc .vmem S512x512 .bf16) (harg7 : arg7.IsWhole) (arg8 : Memref sig .tc .vmem S1x512 .f32) (harg8 : arg8.IsWhole)
    (hc1 : ¬ k1_cond1 i = 1#1) (hc2 : k1_cond2 i = 1#1) (hc3 : ¬ k1_cond3 i = 1#1)
    (x0 : Vec F S5x512x512 .f32) (x1 : Vec F S64x512 .f32) (d4 : Vec F S5x64x512 .f32) (d5 : Vec F S5x1x512 .f32) (d6 : Vec F S5x1x512 .f32) (d8 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare d4 ∗ owns (c : Thread nD τ) arg5 fullShare d5 ∗ owns (c : Thread nD τ) arg6 fullShare d6 ∗ (∃ d, owns (c : Thread nD τ) arg7 fullShare d) ∗ owns (c : Thread nD τ) arg8 fullShare d8
            ∗ (iprop(owns (c : Thread nD τ) arg2 fullShare x0 ∗ owns (c : Thread nD τ) arg3 fullShare x1 ∗ owns (c : Thread nD τ) arg4 fullShare (sweepT x0 x1 d4) ∗ owns (c : Thread nD τ) arg5 fullShare (sweepC x0 d5) ∗ owns (c : Thread nD τ) arg6 fullShare d6 ∗ owns (c : Thread nD τ) arg7 fullShare (sweepB i x0) ∗ owns (c : Thread nD τ) arg8 fullShare (sweepD i x0 d8)) -∗ K ⟨⟩))
          ⊢ wp frame (wpE (defs₀ (F := F)) Variants.none c none) E (cc1__sweep_kernel i arg2 harg2 arg3 harg3 arg4 harg4 arg5 harg5 arg6 harg6 arg7 harg7 arg8 harg8) K := by
  intro E K
  simp only [cc1__sweep_kernel_eq_skeleton]; unfold cc1__sweep_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5', %f5, -, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf4; obtain rfl := harg8.eq_unread hf6
  have r2 : x0 = View.readAt (Elt F) arg2.view (Rect.unit (s := S5x512x512) ![0, 0, 0] S5x512x512.size inb_S5x512x512_S5x512x512_0_0_0).toLoadRect (harg2.unread x0) := ((View.readAt_full _ _ _).trans hf0).symm
  have r3 : x1 = View.readAt (Elt F) arg3.view (Rect.unit (s := S64x512) ![0, 0] S64x512.size inb_S64x512_S64x512_0_0).toLoadRect (harg3.unread x1) := ((View.readAt_full _ _ _).trans hf1).symm
  have r4 : d4 = View.readAt (Elt F) arg4.view (Rect.unit (s := S5x64x512) ![0, 0, 0] S5x64x512.size inb_S5x64x512_S5x64x512_0_0_0).toLoadRect (harg4.unread d4) := ((View.readAt_full _ _ _).trans hf2).symm
  have r5 : d5 = View.readAt (Elt F) arg5.view (Rect.unit (s := S5x1x512) ![0, 0, 0] S5x1x512.size inb_S5x1x512_S5x1x512_0_0_0).toLoadRect (harg5.unread d5) := ((View.readAt_full _ _ _).trans hf3).symm
  have r8 : d8 = View.readAt (Elt F) arg8.view (Rect.unit (s := S1x512) ![0, 0] S1x512.size inb_S1x512_S1x512_0_0).toLoadRect (harg8.unread d8) := ((View.readAt_full _ _ _).trans hf6).symm
  sl_exec (disch := first | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; refine (View.read_writes_full _ _ _ _ _).trans ?_
    conv_rhs => rw [r2, r3, r4]
    rfl
  isplitl [H3]
  · iexists _; isplitr; swap; · iexact H3
    ipureintro; refine (View.read_writes_full _ _ _ _ _).trans ?_
    conv_rhs => rw [r2, r5]
    rfl
  isplitl [H4]
  · iexists _; isplitr; swap; · iexact H4
    ipureintro; exact hf4
  isplitl [H5]
  · iexists _; isplitr; swap; · iexact H5
    ipureintro; refine (View.read_writes_full _ _ _ _ _).trans ?_
    conv_rhs => rw [r2]
    rfl
  iexists _; isplitr; swap; · iexact H6
  ipureintro; refine (View.read_writes_full _ _ _ _ _).trans ?_
  conv_rhs => rw [r2, r8]
  rfl

set_option maxHeartbeats 1000000 in
theorem sweep_run_C (c : Dev nD) (i : grid1.Coords) (arg2 : Memref sig .tc .vmem S5x512x512 .f32) (harg2 : arg2.IsWhole) (arg3 : Memref sig .tc .vmem S64x512 .f32) (harg3 : arg3.IsWhole) (arg4 : Memref sig .tc .vmem S5x64x512 .f32) (harg4 : arg4.IsWhole) (arg5 : Memref sig .tc .vmem S5x1x512 .f32) (harg5 : arg5.IsWhole) (arg6 : Memref sig .tc .vmem S5x1x512 .f32) (harg6 : arg6.IsWhole) (arg7 : Memref sig .tc .vmem S512x512 .bf16) (harg7 : arg7.IsWhole) (arg8 : Memref sig .tc .vmem S1x512 .f32) (harg8 : arg8.IsWhole)
    (hc1 : k1_cond1 i = 1#1) (hc2 : ¬ k1_cond2 i = 1#1) (hc3 : ¬ k1_cond3 i = 1#1)
    (x0 : Vec F S5x512x512 .f32) (x1 : Vec F S64x512 .f32) (d4 : Vec F S5x64x512 .f32) (d5 : Vec F S5x1x512 .f32) (d6 : Vec F S5x1x512 .f32) (d8 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare d4 ∗ owns (c : Thread nD τ) arg5 fullShare d5 ∗ owns (c : Thread nD τ) arg6 fullShare d6 ∗ (∃ d, owns (c : Thread nD τ) arg7 fullShare d) ∗ owns (c : Thread nD τ) arg8 fullShare d8
            ∗ (iprop(owns (c : Thread nD τ) arg2 fullShare x0 ∗ owns (c : Thread nD τ) arg3 fullShare x1 ∗ owns (c : Thread nD τ) arg4 fullShare (sweepT0 x0 x1) ∗ owns (c : Thread nD τ) arg5 fullShare (sweepC0 x0) ∗ owns (c : Thread nD τ) arg6 fullShare k1_pay6 ∗ owns (c : Thread nD τ) arg7 fullShare (sweepB i x0) ∗ owns (c : Thread nD τ) arg8 fullShare (sweepD0 i x0)) -∗ K ⟨⟩))
          ⊢ wp frame (wpE (defs₀ (F := F)) Variants.none c none) E (cc1__sweep_kernel i arg2 harg2 arg3 harg3 arg4 harg4 arg5 harg5 arg6 harg6 arg7 harg7 arg8 harg8) K := by
  intro E K
  simp only [cc1__sweep_kernel_eq_skeleton]; unfold cc1__sweep_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5', %f5, -, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf4; obtain rfl := harg8.eq_unread hf6
  have r2 : x0 = View.readAt (Elt F) arg2.view (Rect.unit (s := S5x512x512) ![0, 0, 0] S5x512x512.size inb_S5x512x512_S5x512x512_0_0_0).toLoadRect (harg2.unread x0) := ((View.readAt_full _ _ _).trans hf0).symm
  have r3 : x1 = View.readAt (Elt F) arg3.view (Rect.unit (s := S64x512) ![0, 0] S64x512.size inb_S64x512_S64x512_0_0).toLoadRect (harg3.unread x1) := ((View.readAt_full _ _ _).trans hf1).symm
  have r4 : d4 = View.readAt (Elt F) arg4.view (Rect.unit (s := S5x64x512) ![0, 0, 0] S5x64x512.size inb_S5x64x512_S5x64x512_0_0_0).toLoadRect (harg4.unread d4) := ((View.readAt_full _ _ _).trans hf2).symm
  have r5 : d5 = View.readAt (Elt F) arg5.view (Rect.unit (s := S5x1x512) ![0, 0, 0] S5x1x512.size inb_S5x1x512_S5x1x512_0_0_0).toLoadRect (harg5.unread d5) := ((View.readAt_full _ _ _).trans hf3).symm
  have r8 : d8 = View.readAt (Elt F) arg8.view (Rect.unit (s := S1x512) ![0, 0] S1x512.size inb_S1x512_S1x512_0_0).toLoadRect (harg8.unread d8) := ((View.readAt_full _ _ _).trans hf6).symm
  sl_exec (disch := first | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; refine (View.read_writes_full _ _ _ _ _).trans ?_
    conv_rhs => rw [r2, r3]
    rfl
  isplitl [H3]
  · iexists _; isplitr; swap; · iexact H3
    ipureintro; refine (View.read_writes_full _ _ _ _ _).trans ?_
    conv_rhs => rw [r2]
    rfl
  isplitl [H4]
  · iexists _; isplitr; swap; · iexact H4
    ipureintro; refine (View.read_writes_full _ _ _ _ _).trans ?_
    rfl
  isplitl [H5]
  · iexists _; isplitr; swap; · iexact H5
    ipureintro; refine (View.read_writes_full _ _ _ _ _).trans ?_
    conv_rhs => rw [r2]
    rfl
  iexists _; isplitr; swap; · iexact H6
  ipureintro; refine (View.read_writes_full _ _ _ _ _).trans ?_
  conv_rhs => rw [r2]
  rfl

set_option maxHeartbeats 1000000 in
theorem sweep_run_D (c : Dev nD) (i : grid1.Coords) (arg2 : Memref sig .tc .vmem S5x512x512 .f32) (harg2 : arg2.IsWhole) (arg3 : Memref sig .tc .vmem S64x512 .f32) (harg3 : arg3.IsWhole) (arg4 : Memref sig .tc .vmem S5x64x512 .f32) (harg4 : arg4.IsWhole) (arg5 : Memref sig .tc .vmem S5x1x512 .f32) (harg5 : arg5.IsWhole) (arg6 : Memref sig .tc .vmem S5x1x512 .f32) (harg6 : arg6.IsWhole) (arg7 : Memref sig .tc .vmem S512x512 .bf16) (harg7 : arg7.IsWhole) (arg8 : Memref sig .tc .vmem S1x512 .f32) (harg8 : arg8.IsWhole)
    (hc1 : ¬ k1_cond1 i = 1#1) (hc2 : k1_cond2 i = 1#1) (hc3 : k1_cond3 i = 1#1)
    (x0 : Vec F S5x512x512 .f32) (x1 : Vec F S64x512 .f32) (d4 : Vec F S5x64x512 .f32) (d5 : Vec F S5x1x512 .f32) (d6 : Vec F S5x1x512 .f32) (d8 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare d4 ∗ owns (c : Thread nD τ) arg5 fullShare d5 ∗ owns (c : Thread nD τ) arg6 fullShare d6 ∗ (∃ d, owns (c : Thread nD τ) arg7 fullShare d) ∗ owns (c : Thread nD τ) arg8 fullShare d8
            ∗ (iprop(owns (c : Thread nD τ) arg2 fullShare x0 ∗ owns (c : Thread nD τ) arg3 fullShare x1 ∗ owns (c : Thread nD τ) arg4 fullShare (sweepT x0 x1 d4) ∗ owns (c : Thread nD τ) arg5 fullShare (sweepC x0 d5) ∗ owns (c : Thread nD τ) arg6 fullShare (sweepG i x0) ∗ owns (c : Thread nD τ) arg7 fullShare (sweepB i x0) ∗ owns (c : Thread nD τ) arg8 fullShare (sweepD i x0 d8)) -∗ K ⟨⟩))
          ⊢ wp frame (wpE (defs₀ (F := F)) Variants.none c none) E (cc1__sweep_kernel i arg2 harg2 arg3 harg3 arg4 harg4 arg5 harg5 arg6 harg6 arg7 harg7 arg8 harg8) K := by
  intro E K
  simp only [cc1__sweep_kernel_eq_skeleton]; unfold cc1__sweep_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5', %f5, -, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf4; obtain rfl := harg8.eq_unread hf6
  have r2 : x0 = View.readAt (Elt F) arg2.view (Rect.unit (s := S5x512x512) ![0, 0, 0] S5x512x512.size inb_S5x512x512_S5x512x512_0_0_0).toLoadRect (harg2.unread x0) := ((View.readAt_full _ _ _).trans hf0).symm
  have r3 : x1 = View.readAt (Elt F) arg3.view (Rect.unit (s := S64x512) ![0, 0] S64x512.size inb_S64x512_S64x512_0_0).toLoadRect (harg3.unread x1) := ((View.readAt_full _ _ _).trans hf1).symm
  have r4 : d4 = View.readAt (Elt F) arg4.view (Rect.unit (s := S5x64x512) ![0, 0, 0] S5x64x512.size inb_S5x64x512_S5x64x512_0_0_0).toLoadRect (harg4.unread d4) := ((View.readAt_full _ _ _).trans hf2).symm
  have r5 : d5 = View.readAt (Elt F) arg5.view (Rect.unit (s := S5x1x512) ![0, 0, 0] S5x1x512.size inb_S5x1x512_S5x1x512_0_0_0).toLoadRect (harg5.unread d5) := ((View.readAt_full _ _ _).trans hf3).symm
  have r8 : d8 = View.readAt (Elt F) arg8.view (Rect.unit (s := S1x512) ![0, 0] S1x512.size inb_S1x512_S1x512_0_0).toLoadRect (harg8.unread d8) := ((View.readAt_full _ _ _).trans hf6).symm
  sl_exec (disch := first | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; refine (View.read_writes_full _ _ _ _ _).trans ?_
    conv_rhs => rw [r2, r3, r4]
    rfl
  isplitl [H3]
  · iexists _; isplitr; swap; · iexact H3
    ipureintro; refine (View.read_writes_full _ _ _ _ _).trans ?_
    conv_rhs => rw [r2, r5]
    rfl
  isplitl [H4]
  · iexists _; isplitr; swap; · iexact H4
    ipureintro; refine (View.read_writes_full _ _ _ _ _).trans ?_
    conv_rhs => rw [r2]
    rfl
  isplitl [H5]
  · iexists _; isplitr; swap; · iexact H5
    ipureintro; refine (View.read_writes_full _ _ _ _ _).trans ?_
    conv_rhs => rw [r2]
    rfl
  iexists _; isplitr; swap; · iexact H6
  ipureintro; refine (View.read_writes_full _ _ _ _ _).trans ?_
  conv_rhs => rw [r2, r8]
  rfl

/-! ## Which point is in which case -/

theorem cond1_iff (t : Fin cfg1.N) : k1_cond1 (grid1.coords t) = 1#1 ↔ t.val % 4 = 0 :=
  (fun t => by
    have ht : t.val < 16 := Nat.lt_of_lt_of_eq t.isLt N_1
    have e1 : (grid1.coords t 1).val = t.val / 1 % 4 := Pipeline.Grid.coords_val t 1 (by decide) rfl
    simp only [k1_cond1, e1]
    word_cmp
   : ∀ t : Fin grid1.N, k1_cond1 (grid1.coords t) = 1#1 ↔ t.val % 4 = 0) t

theorem cond2_iff (t : Fin cfg1.N) : k1_cond2 (grid1.coords t) = 1#1 ↔ 1 ≤ t.val % 4 :=
  (fun t => by
    have ht : t.val < 16 := Nat.lt_of_lt_of_eq t.isLt N_1
    have e1 : (grid1.coords t 1).val = t.val / 1 % 4 := Pipeline.Grid.coords_val t 1 (by decide) rfl
    simp only [k1_cond2, e1]
    word_cmp
   : ∀ t : Fin grid1.N, k1_cond2 (grid1.coords t) = 1#1 ↔ 1 ≤ t.val % 4) t

theorem cond3_iff : ∀ t : Fin cfg1.N, k1_cond3 (grid1.coords t) = 1#1 ↔ t.val % 5 = 0 := by decide +kernel

theorem live1_2 : ∀ i, cfg1.idle 2 i = false := by decide +kernel
theorem live1_3 : ∀ i, cfg1.idle 3 i = false := by decide +kernel
theorem live1_6 : ∀ i, cfg1.idle 6 i = false := by decide +kernel
theorem idle1_4 : ∀ t : Fin cfg1.N, cfg1.idle 4 (cfg1.grid.coords t) = decide (t.val % 4 ≠ 0 ∧ t.val % 5 ≠ 0) := by decide +kernel

/-! ## The region's proof data -/

variable (V : Dev nD → Valuation τ sig (Elt F))

/-- Window `w`'s block at point `t`, of the arrays as the region finds them. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The relation blocks and the feature block of point `n`. -/
abbrev blkA (c : Dev nD) (t : Fin cfg1.N) : Vec F S5x512x512 .f32 := blk1 V c 0 t
abbrev blkX (c : Dev nD) (t : Fin cfg1.N) : Vec F S64x512 .f32 := blk1 V c 1 t

/-- The aggregates of the points of one block row up to point `n`. -/
def accT (c : Dev nD) : (n : ℕ) → n < cfg1.N → Vec F S5x64x512 .f32
  | 0, h => sweepT0 (blkA V c ⟨0, h⟩) (blkX V c ⟨0, h⟩)
  | n + 1, h => if (n + 1) % 4 = 0 then sweepT0 (blkA V c ⟨n + 1, h⟩) (blkX V c ⟨n + 1, h⟩)
      else sweepT (blkA V c ⟨n + 1, h⟩) (blkX V c ⟨n + 1, h⟩) (accT c n (Nat.lt_of_succ_lt h))

/-- The column sums of the relations. -/
def accC (c : Dev nD) : (n : ℕ) → n < cfg1.N → Vec F S5x1x512 .f32
  | 0, h => sweepC0 (blkA V c ⟨0, h⟩)
  | n + 1, h => if (n + 1) % 4 = 0 then sweepC0 (blkA V c ⟨n + 1, h⟩) else sweepC (blkA V c ⟨n + 1, h⟩) (accC c n (Nat.lt_of_succ_lt h))

/-- The relations' diagonals. -/
def accG (c : Dev nD) : (n : ℕ) → n < cfg1.N → Vec F S5x1x512 .f32
  | 0, h => sweepG (grid1.coords ⟨0, h⟩) (blkA V c ⟨0, h⟩)
  | n + 1, h => if (n + 1) % 5 = 0 then sweepG (grid1.coords ⟨n + 1, h⟩) (blkA V c ⟨n + 1, h⟩)
      else if (n + 1) % 4 = 0 then k1_pay6 else accG c n (Nat.lt_of_succ_lt h)

/-- The column sums of the mask. -/
def accD (c : Dev nD) : (n : ℕ) → n < cfg1.N → Vec F S1x512 .f32
  | 0, h => sweepD0 (grid1.coords ⟨0, h⟩) (blkA V c ⟨0, h⟩)
  | n + 1, h => if (n + 1) % 4 = 0 then sweepD0 (grid1.coords ⟨n + 1, h⟩) (blkA V c ⟨n + 1, h⟩)
      else sweepD (grid1.coords ⟨n + 1, h⟩) (blkA V c ⟨n + 1, h⟩) (accD c n (Nat.lt_of_succ_lt h))

def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => accT V c t.val t.isLt
    | ⟨3, _⟩ => accC V c t.val t.isLt
    | ⟨4, _⟩ => accG V c t.val t.isLt
    | ⟨5, _⟩ => sweepB (grid1.coords t) (blkA V c t)
    | ⟨6, _⟩ => accD V c t.val t.isLt
  Φ _ := Pipeline.ΦA spec1 c
  q _ := fullShare
  owed _ := 0

theorem before1_0 (c : Dev nD) (t : Fin cfg1.N) (d) : (dat1 V c).before 0 t d = blk1 V c 0 t := by
  rw [Pipeline.Dat.before_fetched _ 0 t (fetch1_0 t)]; rfl
theorem before1_1 (c : Dev nD) (t : Fin cfg1.N) (d) : (dat1 V c).before 1 t d = blk1 V c 1 t := by
  rw [Pipeline.Dat.before_fetched _ 1 t (fetch1_1 t)]; rfl

theorem before_reset (c : Dev nD) (w : Fin cfg1.W) (hw : (cfg1.win w).isOut = true) (hf : ∀ t, (cfg1.win w).flush t = true ↔ t.val % 4 = 3)
    (t : Fin cfg1.N) (ht : t.val % 4 = 0) (d) : (dat1 V c).before w t d = d := by
  refine Pipeline.Dat.before_out_reset _ w hw t ?_ d
  by_cases h0 : t.val = 0
  · exact .inl h0
  · exact .inr ⟨h0, (hf _).mpr (by show (t.val - 1) % 4 = 3; omega)⟩

theorem noflush (w : Fin cfg1.W) (hf : ∀ t, (cfg1.win w).flush t = true ↔ t.val % 4 = 3) (t : Fin cfg1.N) (ht : t.val % 4 ≠ 3) :
    (cfg1.win w).flush t = false := by
  rw [← Bool.not_eq_true, hf]; exact ht

theorem before_kept (c : Dev nD) (w : Fin cfg1.W) (hw : (cfg1.win w).isOut = true) (hf : ∀ t, (cfg1.win w).flush t = true ↔ t.val % 4 = 3)
    (hl : ∀ i, cfg1.idle w i = false) (hclip : ∀ (i : cfg1.grid.Coords) a, (cfg1.win w).clip i a = none) (t : Fin cfg1.N) (ht : t.val % 4 ≠ 0) (d) :
    (dat1 V c).before w t d = (dat1 V c).after w ⟨t.val - 1, Nat.lt_of_le_of_lt (Nat.sub_le _ _) t.isLt⟩ :=
  Pipeline.Dat.before_out_kept _ w hw t (by omega) (noflush w hf _ (by show (t.val - 1) % 4 ≠ 3; omega)) hl hclip d

/-- Between its write-backs window 4 holds the last point's diagonal, kept through the points that do not store it. -/
theorem before_diag (c : Dev nD) : ∀ (n : ℕ) (h : n + 1 < cfg1.N), (n + 1) % 4 ≠ 0 → ∀ d,
    (dat1 V c).before 4 ⟨n + 1, h⟩ d = accG V c n (Nat.lt_of_succ_lt h) := by
  intro n
  induction n with
  | zero =>
    intro h h4 d
    rw [Pipeline.Dat.before_of_pos _ 4 ⟨0 + 1, h⟩ (by simp) ((cfg1.win 4).fetch_out rfl _), noflush 4 flush1_4 _ (by simp), if_neg Bool.false_ne_true]
    unfold Pipeline.Dat.left
    rw [idle1_4]
    rfl
  | succ n ih =>
    intro h h4 d
    have hlt := Nat.lt_of_succ_lt h
    rw [Pipeline.Dat.before_of_pos _ 4 ⟨n + 1 + 1, h⟩ (by simp) ((cfg1.win 4).fetch_out rfl _), noflush 4 flush1_4 _ (by show (n + 1) % 4 ≠ 3; omega), if_neg Bool.false_ne_true]
    unfold Pipeline.Dat.left
    rw [idle1_4]
    show (match decide ((n + 1) % 4 ≠ 0 ∧ (n + 1) % 5 ≠ 0) with
      | true => (dat1 V c).before 4 ⟨n + 1, hlt⟩ d
      | false => (dat1 V c).kept 4 ⟨n + 1, hlt⟩ d) = _
    by_cases hi : (n + 1) % 4 ≠ 0 ∧ (n + 1) % 5 ≠ 0
    · rw [decide_eq_true hi]
      show (dat1 V c).before 4 ⟨n + 1, hlt⟩ d = _
      rw [ih hlt hi.1 d]
      unfold accG
      rw [if_neg hi.2, if_neg hi.1]
      cases n <;> rfl
    · rw [decide_eq_false hi]
      rfl

theorem body1_row (t : Fin cfg1.N) :
    defs₀ (F := F) .tc cfg1.body (cfg1.bodyArgs t (cfg1.slots t)) = bodyAt1 t := by
  unfold defs₀; rw [Defs.onTc_tc]

theorem accT_reset (c : Dev nD) (t : Fin cfg1.N) (h : t.val % 4 = 0) : accT V c t.val t.isLt = sweepT0 (blkA V c t) (blkX V c t) := by
  obtain ⟨n, hn⟩ := t; cases n with
  | zero => rfl
  | succ n => exact if_pos h
theorem accT_step (c : Dev nD) (t : Fin cfg1.N) (h : ¬ t.val % 4 = 0) : accT V c t.val t.isLt
    = sweepT (blkA V c t) (blkX V c t) (accT V c (t.val - 1) (Nat.lt_of_le_of_lt (Nat.sub_le _ _) t.isLt)) := by
  obtain ⟨n, hn⟩ := t; cases n with
  | zero => exact absurd rfl h
  | succ n => exact if_neg h
theorem accC_reset (c : Dev nD) (t : Fin cfg1.N) (h : t.val % 4 = 0) : accC V c t.val t.isLt = sweepC0 (blkA V c t) := by
  obtain ⟨n, hn⟩ := t; cases n with
  | zero => rfl
  | succ n => exact if_pos h
theorem accC_step (c : Dev nD) (t : Fin cfg1.N) (h : ¬ t.val % 4 = 0) : accC V c t.val t.isLt
    = sweepC (blkA V c t) (accC V c (t.val - 1) (Nat.lt_of_le_of_lt (Nat.sub_le _ _) t.isLt)) := by
  obtain ⟨n, hn⟩ := t; cases n with
  | zero => exact absurd rfl h
  | succ n => exact if_neg h
theorem accD_reset (c : Dev nD) (t : Fin cfg1.N) (h : t.val % 4 = 0) : accD V c t.val t.isLt = sweepD0 (grid1.coords t) (blkA V c t) := by
  obtain ⟨n, hn⟩ := t; cases n with
  | zero => rfl
  | succ n => exact if_pos h
theorem accD_step (c : Dev nD) (t : Fin cfg1.N) (h : ¬ t.val % 4 = 0) : accD V c t.val t.isLt
    = sweepD (grid1.coords t) (blkA V c t) (accD V c (t.val - 1) (Nat.lt_of_le_of_lt (Nat.sub_le _ _) t.isLt)) := by
  obtain ⟨n, hn⟩ := t; cases n with
  | zero => exact absurd rfl h
  | succ n => exact if_neg h
theorem accG_diag (c : Dev nD) (t : Fin cfg1.N) (h : t.val % 5 = 0) : accG V c t.val t.isLt = sweepG (grid1.coords t) (blkA V c t) := by
  obtain ⟨n, hn⟩ := t; cases n with
  | zero => rfl
  | succ n => exact if_pos h
theorem accG_reset (c : Dev nD) (t : Fin cfg1.N) (h5 : ¬ t.val % 5 = 0) (h : t.val % 4 = 0) : accG V c t.val t.isLt = k1_pay6 := by
  obtain ⟨n, hn⟩ := t; cases n with
  | zero => exact absurd rfl h5
  | succ n => exact (if_neg h5).trans (if_pos h)
theorem accG_step (c : Dev nD) (t : Fin cfg1.N) (h5 : ¬ t.val % 5 = 0) (h : ¬ t.val % 4 = 0) : accG V c t.val t.isLt
    = accG V c (t.val - 1) (Nat.lt_of_le_of_lt (Nat.sub_le _ _) t.isLt) := by
  obtain ⟨n, hn⟩ := t; cases n with
  | zero => exact absurd rfl h5
  | succ n => exact (if_neg h5).trans (if_neg h)

theorem before_diag' (c : Dev nD) (t : Fin cfg1.N) (h : ¬ t.val % 4 = 0) (d) :
    (dat1 V c).before 4 t d = accG V c (t.val - 1) (Nat.lt_of_le_of_lt (Nat.sub_le _ _) t.isLt) := by
  obtain ⟨n, hn⟩ := t; cases n with
  | zero => exact absurd rfl h
  | succ n => exact before_diag V c n hn h d

/-- Window 4 is handed back as asked: where the body does not store it and it is not written back, at what it held. -/
theorem leaves4 (c : Dev nD) (t : Fin cfg1.N) :
    (owns (c : Thread nD τ) ((cfg1.win 4).stage (cfg1.slots t 4)) fullShare (accG V c t.val t.isLt) : sProp 𝕄) ⊢ (dat1 V c).leavesExact 4 t := by
  by_cases hi : t.val % 4 ≠ 0 ∧ t.val % 5 ≠ 0
  · by_cases hf : t.val % 4 = 3
    · unfold Pipeline.Dat.leavesExact
      rw [idle1_4, decide_eq_true hi, (flush1_4 t).mpr hf]
      exact .rfl
    · rw [Pipeline.Dat.leavesExact_idle _ 4 t ((idle1_4 t).trans (decide_eq_true hi)) (noflush 4 flush1_4 t hf)]
      iintro H
      iexists (accG V c t.val t.isLt)
      rw [before_diag' V c t hi.1, ← accG_step V c t hi.2 hi.1]
      iexact H
  · unfold Pipeline.Dat.leavesExact
    rw [idle1_4, decide_eq_false hi]
    exact .rfl

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

set_option maxHeartbeats 2000000 in
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  have hN : t.val < 16 := lt_of_lt_of_eq t.isLt (show cfg1.N = 16 from N_1)
  rw [show (dat1 V c).leavesExact 0 t = owns (c : Thread nD τ) (st1_0 t) fullShare (blk1 V c 0 t) from rfl,
    show (dat1 V c).leavesExact 1 t = owns (c : Thread nD τ) (st1_1 t) fullShare (blk1 V c 1 t) from rfl,
    show (dat1 V c).leavesExact 5 t = owns (c : Thread nD τ) (st1_5 t) fullShare (sweepB (grid1.coords t) (blkA V c t)) from rfl]
  rw [show (dat1 V c).leavesExact 2 t = owns (c : Thread nD τ) (st1_2 t) fullShare ((dat1 V c).after 2 t) from by
    unfold Pipeline.Dat.leavesExact; rw [live1_2]]
  rw [show (dat1 V c).leavesExact 3 t = owns (c : Thread nD τ) (st1_3 t) fullShare ((dat1 V c).after 3 t) from by
    unfold Pipeline.Dat.leavesExact; rw [live1_3]]
  rw [show (dat1 V c).leavesExact 6 t = owns (c : Thread nD τ) (st1_6 t) fullShare ((dat1 V c).after 6 t) from by
    unfold Pipeline.Dat.leavesExact; rw [live1_6]]
  iintro ⟨HΦ, Ho, ⟨%d0, H0⟩, ⟨%d1, H1⟩, ⟨%d2, H2⟩, ⟨%d3, H3⟩, ⟨%d4, H4⟩, ⟨%d5, H5⟩, ⟨%d6, H6⟩⟩
  by_cases h4 : t.val % 4 = 0 <;> by_cases h5 : t.val % 5 = 0
  · iapply (sweep_run_A c (grid1.coords t) _ _ _ _ _ _ _ _ _ _ _ _ _ _ ((cond1_iff t).mpr h4) (fun h => absurd ((cond2_iff t).mp h) (by omega)) ((cond3_iff t).mpr h5) (blkA V c t) (blkX V c t) ((dat1 V c).before 2 t d2) ((dat1 V c).before 3 t d3) ((dat1 V c).before 4 t d4) ((dat1 V c).before 6 t d6) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]
    · rw [show (dat1 V c).after 2 t = accT V c t.val t.isLt from rfl, accT_reset V c t h4]; iexact H2
    isplitl [H3]
    · rw [show (dat1 V c).after 3 t = accC V c t.val t.isLt from rfl, accC_reset V c t h4]; iexact H3
    isplitl [H4]
    · iapply (leaves4 V c t); rw [accG_diag V c t h5]; iexact H4
    isplitl [H5]; · iexact H5
    · rw [show (dat1 V c).after 6 t = accD V c t.val t.isLt from rfl, accD_reset V c t h4]; iexact H6
  · iapply (sweep_run_C c (grid1.coords t) _ _ _ _ _ _ _ _ _ _ _ _ _ _ ((cond1_iff t).mpr h4) (fun h => absurd ((cond2_iff t).mp h) (by omega)) (fun h => h5 ((cond3_iff t).mp h)) (blkA V c t) (blkX V c t) ((dat1 V c).before 2 t d2) ((dat1 V c).before 3 t d3) ((dat1 V c).before 4 t d4) ((dat1 V c).before 6 t d6) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]
    · rw [show (dat1 V c).after 2 t = accT V c t.val t.isLt from rfl, accT_reset V c t h4]; iexact H2
    isplitl [H3]
    · rw [show (dat1 V c).after 3 t = accC V c t.val t.isLt from rfl, accC_reset V c t h4]; iexact H3
    isplitl [H4]
    · iapply (leaves4 V c t); rw [accG_reset V c t h5 h4]; iexact H4
    isplitl [H5]; · iexact H5
    · rw [show (dat1 V c).after 6 t = accD V c t.val t.isLt from rfl, accD_reset V c t h4]; iexact H6
  · rw [before_kept V c 2 rfl flush1_2 live1_2 (fun _ _ => rfl) t h4, before_kept V c 3 rfl flush1_3 live1_3 (fun _ _ => rfl) t h4,
      before_kept V c 6 rfl flush1_6 live1_6 (fun _ _ => rfl) t h4, before_diag' V c t h4]
    iapply (sweep_run_D c (grid1.coords t) _ _ _ _ _ _ _ _ _ _ _ _ _ _ (fun h => h4 ((cond1_iff t).mp h)) ((cond2_iff t).mpr (by omega)) ((cond3_iff t).mpr h5) (blkA V c t) (blkX V c t) (accT V c (t.val - 1) _) (accC V c (t.val - 1) _) (accG V c (t.val - 1) _) (accD V c (t.val - 1) _) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]
    · rw [show (dat1 V c).after 2 t = accT V c t.val t.isLt from rfl, accT_step V c t h4]; iexact H2
    isplitl [H3]
    · rw [show (dat1 V c).after 3 t = accC V c t.val t.isLt from rfl, accC_step V c t h4]; iexact H3
    isplitl [H4]
    · iapply (leaves4 V c t); rw [accG_diag V c t h5]; iexact H4
    isplitl [H5]; · iexact H5
    · rw [show (dat1 V c).after 6 t = accD V c t.val t.isLt from rfl, accD_step V c t h4]; iexact H6
  · rw [before_kept V c 2 rfl flush1_2 live1_2 (fun _ _ => rfl) t h4, before_kept V c 3 rfl flush1_3 live1_3 (fun _ _ => rfl) t h4,
      before_kept V c 6 rfl flush1_6 live1_6 (fun _ _ => rfl) t h4, before_diag' V c t h4]
    iapply (sweep_run_B c (grid1.coords t) _ _ _ _ _ _ _ _ _ _ _ _ _ _ (fun h => h4 ((cond1_iff t).mp h)) ((cond2_iff t).mpr (by omega)) (fun h => h5 ((cond3_iff t).mp h)) (blkA V c t) (blkX V c t) (accT V c (t.val - 1) _) (accC V c (t.val - 1) _) (accG V c (t.val - 1) _) (accD V c (t.val - 1) _) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]
    · rw [show (dat1 V c).after 2 t = accT V c t.val t.isLt from rfl, accT_step V c t h4]; iexact H2
    isplitl [H3]
    · rw [show (dat1 V c).after 3 t = accC V c t.val t.isLt from rfl, accC_step V c t h4]; iexact H3
    isplitl [H4]
    · iapply (leaves4 V c t); rw [accG_step V c t h5 h4]; iexact H4
    isplitl [H5]; · iexact H5
    · rw [show (dat1 V c).after 6 t = accD V c t.val t.isLt from rfl, accD_step V c t h4]; iexact H6

theorem body1 (c : Dev nD) : BodyObligation (dat1 V c) (defs₀ (F := F)) Variants.none () Set.univ := fun t => by
  rw [bigSep_W1, bigSep_W1, body1_row]
  exact triple_restated (sound1 V c t) rfl .rfl fun _ => .rfl

end Cert.KernelIdeal.Hand

end
-- ==== Proof.Final.lean ====
/- The third pallas_call, `_final_kernel`: one grid point, a `lax.cond` between two loops of 64 layers. What it leaves is written
   out as functions of its 21 inputs, and the run is proved to leave it. -/
module

public import proofs.«01_k».proof.Proof.Sweep
public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionArraysS
public import Idealize.ShloMosaic.Lib.WholeRead
public import Idealize.ShloMosaic.Lib.VecWindow
public import Idealize.ShloMosaic.Lib.Tactic
public import Idealize.ShloMosaic.Lib.Exec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A load of `X` at a unit-stride rectangle. -/
abbrev ldU {s : Shape} {e : EltTy} (X : Vec F s e) (off size : Fin s.rank → ℕ) (inb : ∀ a, off a + size a ≤ s.size a) :
    (Rect.unit (s := s) off size inb).shape.Idx → Elt F e := fun y => X ((Rect.unit (s := s) off size inb).toLoadRect.idx y)

/-- The five relations' rows of a stacked array. -/
def rows1 (X : Vec F S5x1x2048 .f32) : Fin 5 → Vec F S1x1x2048 .f32 := ![
  ldU X ![0, 0, 0] S1x1x2048.size inb_S5x1x2048_S1x1x2048_0_0_0, ldU X ![1, 0, 0] S1x1x2048.size inb_S5x1x2048_S1x1x2048_1_0_0,
  ldU X ![2, 0, 0] S1x1x2048.size inb_S5x1x2048_S1x1x2048_2_0_0, ldU X ![3, 0, 0] S1x1x2048.size inb_S5x1x2048_S1x1x2048_3_0_0,
  ldU X ![4, 0, 0] S1x1x2048.size inb_S5x1x2048_S1x1x2048_4_0_0]
def rows64 (X : Vec F S5x64x2048 .f32) : Fin 5 → Vec F S1x64x2048 .f32 := ![
  ldU X ![0, 0, 0] S1x64x2048.size inb_S5x64x2048_S1x64x2048_0_0_0, ldU X ![1, 0, 0] S1x64x2048.size inb_S5x64x2048_S1x64x2048_1_0_0,
  ldU X ![2, 0, 0] S1x64x2048.size inb_S5x64x2048_S1x64x2048_2_0_0, ldU X ![3, 0, 0] S1x64x2048.size inb_S5x64x2048_S1x64x2048_3_0_0,
  ldU X ![4, 0, 0] S1x64x2048.size inb_S5x64x2048_S1x64x2048_4_0_0]

/-! ## The relations' graph convolutions and attention scores -/

def fLg0 (t : Fin 5 → Vec F S1x64x2048 .f32) (c d : Fin 5 → Vec F S1x1x2048 .f32) (x3 : Vec F S64x2048 .f32) : FVec F S64x2048 .f32 := k2_pay3 x3 (c 0) (d 0) (t 0)
def fLg1 (t : Fin 5 → Vec F S1x64x2048 .f32) (c d : Fin 5 → Vec F S1x1x2048 .f32) (x3 : Vec F S64x2048 .f32) : FVec F S64x2048 .f32 := k2_pay6 (k2_pay1 x3) (c 1) (d 1) (t 1)
def fLg2 (t : Fin 5 → Vec F S1x64x2048 .f32) (c d : Fin 5 → Vec F S1x1x2048 .f32) (x3 : Vec F S64x2048 .f32) : FVec F S64x2048 .f32 := k2_pay9 (k2_pay1 x3) (k2_pay8 (c 2)) (d 2) (t 2)
def fLg3 (t : Fin 5 → Vec F S1x64x2048 .f32) (c d : Fin 5 → Vec F S1x1x2048 .f32) (x3 : Vec F S64x2048 .f32) : FVec F S64x2048 .f32 :=
  k2_pay14 (k2_pay1 x3) (k2_pay11 (d 3)) (k2_pay12 (c 3) (d 3)) (k2_pay13 (c 3) (d 3)) (Scalar.ofBits .f32 0x3F800000#32) (t 3)
def fLg4 (t : Fin 5 → Vec F S1x64x2048 .f32) (c d : Fin 5 → Vec F S1x1x2048 .f32) (x3 : Vec F S64x2048 .f32) : FVec F S64x2048 .f32 := k2_pay19 (k2_pay1 x3) (k2_pay16 (d 4)) (k2_pay17 (c 4) (d 4)) (k2_pay18 (t 4)) (Scalar.ofBits .f32 0x3F800000#32)
def fW0 (t : Fin 5 → Vec F S1x64x2048 .f32) (c d : Fin 5 → Vec F S1x1x2048 .f32) (x3 : Vec F S64x2048 .f32) (x7 : Vec F S1x2048 .f32) (x8 : Vec F S1x64 .f32) (x9 : Vec F S1x64 .f32) : F .f32 := k2_pay5 (k2_pay4 x3 x7 x8 x9 (c 0) (d 0) (t 0))
def fW1 (t : Fin 5 → Vec F S1x64x2048 .f32) (c d : Fin 5 → Vec F S1x1x2048 .f32) (x3 : Vec F S64x2048 .f32) (x7 : Vec F S1x2048 .f32) (x8 : Vec F S1x64 .f32) (x9 : Vec F S1x64 .f32) : F .f32 := k2_pay7 (k2_pay1 x3) x7 x8 x9 (c 1) (d 1) (t 1)
def fW2 (t : Fin 5 → Vec F S1x64x2048 .f32) (c d : Fin 5 → Vec F S1x1x2048 .f32) (x3 : Vec F S64x2048 .f32) (x7 : Vec F S1x2048 .f32) (x8 : Vec F S1x64 .f32) (x9 : Vec F S1x64 .f32) : F .f32 := k2_pay10 (k2_pay1 x3) x7 x8 x9 (k2_pay8 (c 2)) (d 2) (t 2)
def fW3 (t : Fin 5 → Vec F S1x64x2048 .f32) (c d : Fin 5 → Vec F S1x1x2048 .f32) (x3 : Vec F S64x2048 .f32) (x7 : Vec F S1x2048 .f32) (x8 : Vec F S1x64 .f32) (x9 : Vec F S1x64 .f32) : F .f32 :=
  k2_pay15 (k2_pay1 x3) x7 x8 x9 (k2_pay11 (d 3)) (k2_pay12 (c 3) (d 3)) (k2_pay13 (c 3) (d 3)) (Scalar.ofBits .f32 0x3F800000#32) (t 3)
def fB0 (t : Fin 5 → Vec F S1x64x2048 .f32) (c d : Fin 5 → Vec F S1x1x2048 .f32) (x3 : Vec F S64x2048 .f32) (x7 : Vec F S1x2048 .f32) (x8 : Vec F S1x64 .f32) (x9 : Vec F S1x64 .f32) : F .f32 :=
  k2_pay28 (k2_pay1 x3) x7 x8 x9 (fW0 t c d x3 x7 x8 x9) (fW1 t c d x3 x7 x8 x9) (fW2 t c d x3 x7 x8 x9) (fW3 t c d x3 x7 x8 x9) (k2_pay16 (d 4)) (k2_pay17 (c 4) (d 4)) (k2_pay18 (t 4)) (Scalar.ofBits .f32 0x3F800000#32)
def fB1 (t : Fin 5 → Vec F S1x64x2048 .f32) (c d : Fin 5 → Vec F S1x1x2048 .f32) (x3 : Vec F S64x2048 .f32) (x7 : Vec F S1x2048 .f32) (x8 : Vec F S1x64 .f32) (x9 : Vec F S1x64 .f32) : F .f32 :=
  k2_pay29 (k2_pay1 x3) x7 x8 x9 (fW0 t c d x3 x7 x8 x9) (fW1 t c d x3 x7 x8 x9) (fW2 t c d x3 x7 x8 x9) (fW3 t c d x3 x7 x8 x9) (k2_pay16 (d 4)) (k2_pay17 (c 4) (d 4)) (k2_pay18 (t 4)) (Scalar.ofBits .f32 0x3F800000#32)
def fB2 (t : Fin 5 → Vec F S1x64x2048 .f32) (c d : Fin 5 → Vec F S1x1x2048 .f32) (x3 : Vec F S64x2048 .f32) (x7 : Vec F S1x2048 .f32) (x8 : Vec F S1x64 .f32) (x9 : Vec F S1x64 .f32) : F .f32 :=
  k2_pay30 (k2_pay1 x3) x7 x8 x9 (fW0 t c d x3 x7 x8 x9) (fW1 t c d x3 x7 x8 x9) (fW2 t c d x3 x7 x8 x9) (fW3 t c d x3 x7 x8 x9) (k2_pay16 (d 4)) (k2_pay17 (c 4) (d 4)) (k2_pay18 (t 4)) (Scalar.ofBits .f32 0x3F800000#32)
def fB3 (t : Fin 5 → Vec F S1x64x2048 .f32) (c d : Fin 5 → Vec F S1x1x2048 .f32) (x3 : Vec F S64x2048 .f32) (x7 : Vec F S1x2048 .f32) (x8 : Vec F S1x64 .f32) (x9 : Vec F S1x64 .f32) : F .f32 :=
  k2_pay31 (k2_pay1 x3) x7 x8 x9 (fW0 t c d x3 x7 x8 x9) (fW1 t c d x3 x7 x8 x9) (fW2 t c d x3 x7 x8 x9) (fW3 t c d x3 x7 x8 x9) (k2_pay16 (d 4)) (k2_pay17 (c 4) (d 4)) (k2_pay18 (t 4)) (Scalar.ofBits .f32 0x3F800000#32)
def fB4 (t : Fin 5 → Vec F S1x64x2048 .f32) (c d : Fin 5 → Vec F S1x1x2048 .f32) (x3 : Vec F S64x2048 .f32) (x7 : Vec F S1x2048 .f32) (x8 : Vec F S1x64 .f32) (x9 : Vec F S1x64 .f32) : F .f32 :=
  k2_pay32 (k2_pay1 x3) x7 x8 x9 (fW0 t c d x3 x7 x8 x9) (fW1 t c d x3 x7 x8 x9) (fW2 t c d x3 x7 x8 x9) (fW3 t c d x3 x7 x8 x9) (k2_pay16 (d 4)) (k2_pay17 (c 4) (d 4)) (k2_pay18 (t 4)) (Scalar.ofBits .f32 0x3F800000#32)

/-! ## The hidden layers -/

/-- The features the layers start from. -/
def fH0 (t : Fin 5 → Vec F S1x64x2048 .f32) (c d : Fin 5 → Vec F S1x1x2048 .f32) (x3 : Vec F S64x2048 .f32) (x4 : Vec F S256x2048 .f32) (x7 : Vec F S1x2048 .f32) (x8 : Vec F S1x64 .f32) (x9 : Vec F S1x64 .f32) (x10 : Vec F S576x64 .f32) (x11 : Vec F S1x64 .f32) : FVec F S64x2048 .f32 :=
  k2_pay34 k2_pay2 (fLg0 t c d x3) (fLg1 t c d x3) (fLg2 t c d x3) (fLg3 t c d x3) (fLg4 t c d x3)
    (fB0 t c d x3 x7 x8 x9) (fB1 t c d x3 x7 x8 x9) (fB2 t c d x3 x7 x8 x9) (fB3 t c d x3 x7 x8 x9) (fB4 t c d x3 x7 x8 x9) x10 (k2_pay33 x10) x4 x11

/-- The word that says whether the mask is all ones. -/
def fAll (x6 : Vec F S1x2048 .f32) : BitVec 1 :=
  Scalar.cmpi .ne (Scalar.extui (Scalar.cmpf .oeq (k2_pay39 (k2_pay38 x6)) (Scalar.ofBits .f32 0x4A800000#32)) : BitVec 32) 0#32

/-- The layers of an all-ones mask, from `h`: layer `k` reads row `k` of the stacked weights. -/
def fRank (v5 : FVec F S1x2048 .f32) (h : FVec F S64x2048 .f32) (v236 : FVec F S1x2048 .f32) (x12 : Vec F S64x192x64 .bf16) : ℕ → FVec F S64x2048 .f32
  | 0 => h
  | k + 1 => if hk : k < k2_t1_loop.trips then
      k2_pay40 v5 h v236 (fRank v5 h v236 x12 k) (ldU x12 (k2_off1 ⟨k, hk⟩) S1x192x64.size (k2_off1_inb ⟨k, hk⟩))
    else fRank v5 h v236 x12 k

/-- The layers of any mask. -/
def fGen (h : FVec F S64x2048 .f32) (v236 : FVec F S1x2048 .f32) (v238 : FVec F S2048x2048 .bf16) (x12 : Vec F S64x192x64 .bf16) : ℕ → FVec F S64x2048 .f32
  | 0 => h
  | k + 1 => if hk : k < k2_t2_loop.trips then
      k2_pay41 h v236 v238 (fGen h v236 v238 x12 k) (ldU x12 (k2_off2 ⟨k, hk⟩) S1x192x64.size (k2_off2_inb ⟨k, hk⟩))
    else fGen h v236 v238 x12 k

theorem fRank_succ (v5 : FVec F S1x2048 .f32) (h : FVec F S64x2048 .f32) (v236 : FVec F S1x2048 .f32) (x12 : Vec F S64x192x64 .bf16) (k : Fin k2_t1_loop.trips) :
    fRank v5 h v236 x12 (k.val + 1) = k2_pay40 v5 h v236 (fRank v5 h v236 x12 k.val) (ldU x12 (k2_off1 k) S1x192x64.size (k2_off1_inb k)) := by
  rw [fRank, dif_pos k.isLt]

theorem fGen_succ (h : FVec F S64x2048 .f32) (v236 : FVec F S1x2048 .f32) (v238 : FVec F S2048x2048 .bf16) (x12 : Vec F S64x192x64 .bf16) (k : Fin k2_t2_loop.trips) :
    fGen h v236 v238 x12 (k.val + 1) = k2_pay41 h v236 v238 (fGen h v236 v238 x12 k.val) (ldU x12 (k2_off2 k) S1x192x64.size (k2_off2_inb k)) := by
  rw [fGen, dif_pos k.isLt]

def fHid (h : FVec F S64x2048 .f32) (x5 : Vec F S2048x2048 .bf16) (x6 : Vec F S1x2048 .f32) (x12 : Vec F S64x192x64 .bf16) : FVec F S64x2048 .f32 :=
  if fAll x6 = 1#1 then fRank k2_pay2 h (k2_pay36 x6) x12 k2_t1_loop.trips else fGen h (k2_pay36 x6) (k2_pay37 x5) x12 k2_t2_loop.trips

/-! ## The head -/

def fZ (hid : FVec F S64x2048 .f32) (x13 : Vec F S64x64 .f32) (x14 : Vec F S1x64 .f32) (x15 : Vec F S64x64 .f32) (x16 : Vec F S1x64 .f32) (x19 : Vec F S1x256 .f32) : FVec F S256x64 .f32 := k2_pay42 k2_pay2 hid x13 x14 x15 x16 x19

/-! ## The loops' invariants -/

theorem readAt_unread_eq {s : Shape} {e : EltTy} {m : Memref sig .tc .vmem s e} (h : m.IsWhole) (X : Vec F s e) (B : LoadRect s) :
    View.readAt (Elt F) m.view B (h.unread X) = fun y => X (B.idx y) := funext (h.readAt_unread X B)

section Loops

theorem trip1 (c : Dev nD) (arg0 : Memref sig .tc .vmem S5x64x2048 .f32) (harg0 : arg0.IsWhole) (arg1 : Memref sig .tc .vmem S5x1x2048 .f32) (harg1 : arg1.IsWhole) (arg2 : Memref sig .tc .vmem S5x1x2048 .f32) (harg2 : arg2.IsWhole) (arg3 : Memref sig .tc .vmem S64x2048 .f32) (harg3 : arg3.IsWhole) (arg4 : Memref sig .tc .vmem S256x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S576x64 .f32) (harg10 : arg10.IsWhole) (arg11 : Memref sig .tc .vmem S1x64 .f32) (harg11 : arg11.IsWhole) (arg12 : Memref sig .tc .vmem S64x192x64 .bf16) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x32 .f32) (harg17 : arg17.IsWhole) (arg18 : Memref sig .tc .vmem S1x32 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x1 .f32) (harg21 : arg21.IsWhole) (arg22 : Memref sig .tc .vmem S256x32 .f32) (harg22 : arg22.IsWhole)
    (v5 : FVec F S1x2048 .f32) (v229 : FVec F S64x2048 .f32) (v236 : FVec F S1x2048 .f32) (v238 : FVec F S2048x2048 .bf16) (v239 : FVec F S1x1x2048 .f32)
    (x12 : Vec F S64x192x64 .bf16) (k : Fin k2_t1_loop.trips) (E : Set ℕ) (acc : FVec F S64x2048 .f32) :
    (iprop(arg12.view.loc (c : Thread nD τ) ↦[arg12.view.set]{fullShare} harg12.unread x12) : sProp 𝕄)
      ⊢ wp frame (wpE (defs₀ (F := F)) Variants.none (c : Thread nD τ) none) E (k2_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5 v229 v236 v238 v239 k acc)
        (fun yld => iprop(⌜yld = k2_pay40 v5 v229 v236 acc (ldU x12 (k2_off1 k) S1x192x64.size (k2_off1_inb k))⌝
          ∗ (arg12.view.loc (c : Thread nD τ) ↦[arg12.view.set]{fullShare} harg12.unread x12))) := by
  have hk : k.val < 64 := Nat.lt_of_lt_of_le k.isLt k2_t1_abs.2.1
  unfold k2_t1_body
  iintro H
  sl_exec
  sl_step
  isplitr
  · ipureintro
    rw [readAt_unread_eq]
  · iexact H

set_option warn.classDefReducibility false in
@[sl_loop] def inv1 (c : Dev nD) (E : Set ℕ) (arg0 : Memref sig .tc .vmem S5x64x2048 .f32) (harg0 : arg0.IsWhole) (arg1 : Memref sig .tc .vmem S5x1x2048 .f32) (harg1 : arg1.IsWhole) (arg2 : Memref sig .tc .vmem S5x1x2048 .f32) (harg2 : arg2.IsWhole) (arg3 : Memref sig .tc .vmem S64x2048 .f32) (harg3 : arg3.IsWhole) (arg4 : Memref sig .tc .vmem S256x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S576x64 .f32) (harg10 : arg10.IsWhole) (arg11 : Memref sig .tc .vmem S1x64 .f32) (harg11 : arg11.IsWhole) (arg12 : Memref sig .tc .vmem S64x192x64 .bf16) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x32 .f32) (harg17 : arg17.IsWhole) (arg18 : Memref sig .tc .vmem S1x32 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x1 .f32) (harg21 : arg21.IsWhole) (arg22 : Memref sig .tc .vmem S256x32 .f32) (harg22 : arg22.IsWhole)
    (v5 : FVec F S1x2048 .f32) (v229 : FVec F S64x2048 .f32) (v236 : FVec F S1x2048 .f32) (v238 : FVec F S2048x2048 .bf16) (v239 : FVec F S1x1x2048 .f32)
    (x12 : Vec F S64x192x64 .bf16) :
    LoopInv (M := 𝕄) frame (wpE (defs₀ (F := F)) Variants.none (c : Thread nD τ) none) E
      k2_t1_loop.lb k2_t1_loop.ub k2_t1_loop.st k2_t1_ok v229 (k2_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5 v229 v236 v238 v239) where
  inv k acc := iprop((arg12.view.loc (c : Thread nD τ) ↦[arg12.view.set]{fullShare} harg12.unread x12) ∗ ⌜acc = fRank v5 v229 v236 x12 k⌝)
  step k acc := by
    iintro ⟨H, %h_acc⟩
    subst h_acc
    iapply (wp_wand_r Idealize.ShloMosaic.frame (wpE (defs₀ (F := F)) Variants.none (c : Thread nD τ) none) E)
    isplitl [H]
    · iapply (trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5 v229 v236 v238 v239 x12 k E (fRank v5 v229 v236 x12 k))
      iexact H
    · iintro %yld ⟨%h_res, H⟩
      isplitl [H]; · iexact H
      ipureintro
      rw [h_res]
      exact (fRank_succ v5 v229 v236 x12 k).symm

theorem trip2 (c : Dev nD) (arg0 : Memref sig .tc .vmem S5x64x2048 .f32) (harg0 : arg0.IsWhole) (arg1 : Memref sig .tc .vmem S5x1x2048 .f32) (harg1 : arg1.IsWhole) (arg2 : Memref sig .tc .vmem S5x1x2048 .f32) (harg2 : arg2.IsWhole) (arg3 : Memref sig .tc .vmem S64x2048 .f32) (harg3 : arg3.IsWhole) (arg4 : Memref sig .tc .vmem S256x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S576x64 .f32) (harg10 : arg10.IsWhole) (arg11 : Memref sig .tc .vmem S1x64 .f32) (harg11 : arg11.IsWhole) (arg12 : Memref sig .tc .vmem S64x192x64 .bf16) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x32 .f32) (harg17 : arg17.IsWhole) (arg18 : Memref sig .tc .vmem S1x32 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x1 .f32) (harg21 : arg21.IsWhole) (arg22 : Memref sig .tc .vmem S256x32 .f32) (harg22 : arg22.IsWhole)
    (v5 : FVec F S1x2048 .f32) (v229 : FVec F S64x2048 .f32) (v236 : FVec F S1x2048 .f32) (v238 : FVec F S2048x2048 .bf16) (v239 : FVec F S1x1x2048 .f32)
    (x12 : Vec F S64x192x64 .bf16) (k : Fin k2_t2_loop.trips) (E : Set ℕ) (acc : FVec F S64x2048 .f32) :
    (iprop(arg12.view.loc (c : Thread nD τ) ↦[arg12.view.set]{fullShare} harg12.unread x12) : sProp 𝕄)
      ⊢ wp frame (wpE (defs₀ (F := F)) Variants.none (c : Thread nD τ) none) E (k2_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5 v229 v236 v238 v239 k acc)
        (fun yld => iprop(⌜yld = k2_pay41 v229 v236 v238 acc (ldU x12 (k2_off2 k) S1x192x64.size (k2_off2_inb k))⌝
          ∗ (arg12.view.loc (c : Thread nD τ) ↦[arg12.view.set]{fullShare} harg12.unread x12))) := by
  have hk : k.val < 64 := Nat.lt_of_lt_of_le k.isLt k2_t2_abs.2.1
  unfold k2_t2_body
  iintro H
  sl_exec
  sl_step
  isplitr
  · ipureintro
    rw [readAt_unread_eq]
  · iexact H

set_option warn.classDefReducibility false in
@[sl_loop] def inv2 (c : Dev nD) (E : Set ℕ) (arg0 : Memref sig .tc .vmem S5x64x2048 .f32) (harg0 : arg0.IsWhole) (arg1 : Memref sig .tc .vmem S5x1x2048 .f32) (harg1 : arg1.IsWhole) (arg2 : Memref sig .tc .vmem S5x1x2048 .f32) (harg2 : arg2.IsWhole) (arg3 : Memref sig .tc .vmem S64x2048 .f32) (harg3 : arg3.IsWhole) (arg4 : Memref sig .tc .vmem S256x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S576x64 .f32) (harg10 : arg10.IsWhole) (arg11 : Memref sig .tc .vmem S1x64 .f32) (harg11 : arg11.IsWhole) (arg12 : Memref sig .tc .vmem S64x192x64 .bf16) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x32 .f32) (harg17 : arg17.IsWhole) (arg18 : Memref sig .tc .vmem S1x32 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x1 .f32) (harg21 : arg21.IsWhole) (arg22 : Memref sig .tc .vmem S256x32 .f32) (harg22 : arg22.IsWhole)
    (v5 : FVec F S1x2048 .f32) (v229 : FVec F S64x2048 .f32) (v236 : FVec F S1x2048 .f32) (v238 : FVec F S2048x2048 .bf16) (v239 : FVec F S1x1x2048 .f32)
    (x12 : Vec F S64x192x64 .bf16) :
    LoopInv (M := 𝕄) frame (wpE (defs₀ (F := F)) Variants.none (c : Thread nD τ) none) E
      k2_t2_loop.lb k2_t2_loop.ub k2_t2_loop.st k2_t2_ok v229 (k2_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5 v229 v236 v238 v239) where
  inv k acc := iprop((arg12.view.loc (c : Thread nD τ) ↦[arg12.view.set]{fullShare} harg12.unread x12) ∗ ⌜acc = fGen v229 v236 v238 x12 k⌝)
  step k acc := by
    iintro ⟨H, %h_acc⟩
    subst h_acc
    iapply (wp_wand_r Idealize.ShloMosaic.frame (wpE (defs₀ (F := F)) Variants.none (c : Thread nD τ) none) E)
    isplitl [H]
    · iapply (trip2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5 v229 v236 v238 v239 x12 k E (fGen v229 v236 v238 x12 k))
      iexact H
    · iintro %yld ⟨%h_res, H⟩
      isplitl [H]; · iexact H
      ipureintro
      rw [h_res]
      exact (fGen_succ v229 v236 v238 x12 k).symm

end Loops

theorem rows1_eq {m : Memref sig .tc .vmem S5x1x2048 .f32} (h : m.IsWhole) (X : Vec F S5x1x2048 .f32) :
    rows1 X = ![View.readAt (Elt F) m.view (Rect.unit (s := S5x1x2048) ![0, 0, 0] S1x1x2048.size inb_S5x1x2048_S1x1x2048_0_0_0).toLoadRect (h.unread X), View.readAt (Elt F) m.view (Rect.unit (s := S5x1x2048) ![1, 0, 0] S1x1x2048.size inb_S5x1x2048_S1x1x2048_1_0_0).toLoadRect (h.unread X), View.readAt (Elt F) m.view (Rect.unit (s := S5x1x2048) ![2, 0, 0] S1x1x2048.size inb_S5x1x2048_S1x1x2048_2_0_0).toLoadRect (h.unread X), View.readAt (Elt F) m.view (Rect.unit (s := S5x1x2048) ![3, 0, 0] S1x1x2048.size inb_S5x1x2048_S1x1x2048_3_0_0).toLoadRect (h.unread X), View.readAt (Elt F) m.view (Rect.unit (s := S5x1x2048) ![4, 0, 0] S1x1x2048.size inb_S5x1x2048_S1x1x2048_4_0_0).toLoadRect (h.unread X)] := by
  simp only [readAt_unread_eq]; rfl

theorem rows64_eq {m : Memref sig .tc .vmem S5x64x2048 .f32} (h : m.IsWhole) (X : Vec F S5x64x2048 .f32) :
    rows64 X = ![View.readAt (Elt F) m.view (Rect.unit (s := S5x64x2048) ![0, 0, 0] S1x64x2048.size inb_S5x64x2048_S1x64x2048_0_0_0).toLoadRect (h.unread X), View.readAt (Elt F) m.view (Rect.unit (s := S5x64x2048) ![1, 0, 0] S1x64x2048.size inb_S5x64x2048_S1x64x2048_1_0_0).toLoadRect (h.unread X), View.readAt (Elt F) m.view (Rect.unit (s := S5x64x2048) ![2, 0, 0] S1x64x2048.size inb_S5x64x2048_S1x64x2048_2_0_0).toLoadRect (h.unread X), View.readAt (Elt F) m.view (Rect.unit (s := S5x64x2048) ![3, 0, 0] S1x64x2048.size inb_S5x64x2048_S1x64x2048_3_0_0).toLoadRect (h.unread X), View.readAt (Elt F) m.view (Rect.unit (s := S5x64x2048) ![4, 0, 0] S1x64x2048.size inb_S5x64x2048_S1x64x2048_4_0_0).toLoadRect (h.unread X)] := by
  simp only [readAt_unread_eq]; rfl

theorem fHid_rank (h : FVec F S64x2048 .f32) (x5 : Vec F S2048x2048 .bf16) (x6 : Vec F S1x2048 .f32) (x12 : Vec F S64x192x64 .bf16) (hc : fAll x6 = 1#1) :
    fHid h x5 x6 x12 = fRank k2_pay2 h (k2_pay36 x6) x12 k2_t1_loop.trips := if_pos hc

theorem fHid_gen (h : FVec F S64x2048 .f32) (x5 : Vec F S2048x2048 .bf16) (x6 : Vec F S1x2048 .f32) (x12 : Vec F S64x192x64 .bf16) (hc : ¬ fAll x6 = 1#1) :
    fHid h x5 x6 x12 = fGen h (k2_pay36 x6) (k2_pay37 x5) x12 k2_t2_loop.trips := if_neg hc

/-- The two results, of the 21 inputs. -/
def fY (x0 : Vec F S5x64x2048 .f32) (x1 : Vec F S5x1x2048 .f32) (x2 : Vec F S5x1x2048 .f32) (x3 : Vec F S64x2048 .f32) (x4 : Vec F S256x2048 .f32) (x5 : Vec F S2048x2048 .bf16) (x6 : Vec F S1x2048 .f32) (x7 : Vec F S1x2048 .f32) (x8 : Vec F S1x64 .f32) (x9 : Vec F S1x64 .f32) (x10 : Vec F S576x64 .f32) (x11 : Vec F S1x64 .f32) (x12 : Vec F S64x192x64 .bf16) (x13 : Vec F S64x64 .f32) (x14 : Vec F S1x64 .f32) (x15 : Vec F S64x64 .f32) (x16 : Vec F S1x64 .f32) (x17 : Vec F S64x32 .f32) (x18 : Vec F S1x32 .f32) (x19 : Vec F S1x256 .f32) (x20 : Vec F S1x256 .f32) : FVec F S256x32 .f32 :=
  k2_pay43 (fZ (fHid (fH0 (rows64 x0) (rows1 x1) (rows1 x2) x3 x4 x7 x8 x9 x10 x11) x5 x6 x12) x13 x14 x15 x16 x19) x17 x18
def fN (x0 : Vec F S5x64x2048 .f32) (x1 : Vec F S5x1x2048 .f32) (x2 : Vec F S5x1x2048 .f32) (x3 : Vec F S64x2048 .f32) (x4 : Vec F S256x2048 .f32) (x5 : Vec F S2048x2048 .bf16) (x6 : Vec F S1x2048 .f32) (x7 : Vec F S1x2048 .f32) (x8 : Vec F S1x64 .f32) (x9 : Vec F S1x64 .f32) (x10 : Vec F S576x64 .f32) (x11 : Vec F S1x64 .f32) (x12 : Vec F S64x192x64 .bf16) (x13 : Vec F S64x64 .f32) (x14 : Vec F S1x64 .f32) (x15 : Vec F S64x64 .f32) (x16 : Vec F S1x64 .f32) (x17 : Vec F S64x32 .f32) (x18 : Vec F S1x32 .f32) (x19 : Vec F S1x256 .f32) (x20 : Vec F S1x256 .f32) : FVec F S1x1 .f32 :=
  k2_pay44 (fZ (fHid (fH0 (rows64 x0) (rows1 x1) (rows1 x2) x3 x4 x7 x8 x9 x10 x11) x5 x6 x12) x13 x14 x15 x16 x19) x17 x18 x20

set_option maxHeartbeats 2000000 in
theorem final_run_rank (c : Dev nD) (arg0 : Memref sig .tc .vmem S5x64x2048 .f32) (harg0 : arg0.IsWhole) (arg1 : Memref sig .tc .vmem S5x1x2048 .f32) (harg1 : arg1.IsWhole) (arg2 : Memref sig .tc .vmem S5x1x2048 .f32) (harg2 : arg2.IsWhole) (arg3 : Memref sig .tc .vmem S64x2048 .f32) (harg3 : arg3.IsWhole) (arg4 : Memref sig .tc .vmem S256x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S576x64 .f32) (harg10 : arg10.IsWhole) (arg11 : Memref sig .tc .vmem S1x64 .f32) (harg11 : arg11.IsWhole) (arg12 : Memref sig .tc .vmem S64x192x64 .bf16) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x32 .f32) (harg17 : arg17.IsWhole) (arg18 : Memref sig .tc .vmem S1x32 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x1 .f32) (harg21 : arg21.IsWhole) (arg22 : Memref sig .tc .vmem S256x32 .f32) (harg22 : arg22.IsWhole)
    (x0 : Vec F S5x64x2048 .f32) (x1 : Vec F S5x1x2048 .f32) (x2 : Vec F S5x1x2048 .f32) (x3 : Vec F S64x2048 .f32) (x4 : Vec F S256x2048 .f32) (x5 : Vec F S2048x2048 .bf16) (x6 : Vec F S1x2048 .f32) (x7 : Vec F S1x2048 .f32) (x8 : Vec F S1x64 .f32) (x9 : Vec F S1x64 .f32) (x10 : Vec F S576x64 .f32) (x11 : Vec F S1x64 .f32) (x12 : Vec F S64x192x64 .bf16) (x13 : Vec F S64x64 .f32) (x14 : Vec F S1x64 .f32) (x15 : Vec F S64x64 .f32) (x16 : Vec F S1x64 .f32) (x17 : Vec F S64x32 .f32) (x18 : Vec F S1x32 .f32) (x19 : Vec F S1x256 .f32) (x20 : Vec F S1x256 .f32) (hc : fAll x6 = 1#1) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
            ∗ (∃ d, owns (c : Thread nD τ) arg21 fullShare d) ∗ (∃ d, owns (c : Thread nD τ) arg22 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
              ∗ owns (c : Thread nD τ) arg21 fullShare (fN x0 x1 x2 x3 x4 x5 x6 x7 x8 x9 x10 x11 x12 x13 x14 x15 x16 x17 x18 x19 x20) ∗ owns (c : Thread nD τ) arg22 fullShare (fY x0 x1 x2 x3 x4 x5 x6 x7 x8 x9 x10 x11 x12 x13 x14 x15 x16 x17 x18 x19 x20)) -∗ K ⟨⟩))
          ⊢ wp frame (wpE (defs₀ (F := F)) Variants.none c none) E (cc2__final_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  simp only [cc2__final_kernel_eq_skeleton]; unfold cc2__final_kernel_skel
  simp only [k2_part1_eq_skeleton, k2_part2_eq_skeleton, k2_part3_eq_skeleton, k2_part4_eq_skeleton, k2_part5_eq_skeleton, k2_part6_eq_skeleton, k2_part7_eq_skeleton, k2_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  have r3 : x3 = View.readAt (Elt F) arg3.view (Rect.unit (s := S64x2048) ![0, 0] S64x2048.size inb_S64x2048_S64x2048_0_0).toLoadRect (harg3.unread x3) := ((View.readAt_full _ _ _).trans hf3).symm
  have s0 := rows64_eq harg0 x0
  have s1 := rows1_eq harg1 x1
  have s2 := rows1_eq harg2 x2
  have r4 : x4 = View.readAt (Elt F) arg4.view (Rect.unit (s := S256x2048) ![0, 0] S256x2048.size inb_S256x2048_S256x2048_0_0).toLoadRect (harg4.unread x4) := ((View.readAt_full _ _ _).trans hf4).symm
  have s0 := rows64_eq harg0 x0
  have s1 := rows1_eq harg1 x1
  have s2 := rows1_eq harg2 x2
  have r5 : x5 = View.readAt (Elt F) arg5.view (Rect.unit (s := S2048x2048) ![0, 0] S2048x2048.size inb_S2048x2048_S2048x2048_0_0).toLoadRect (harg5.unread x5) := ((View.readAt_full _ _ _).trans hf5).symm
  have s0 := rows64_eq harg0 x0
  have s1 := rows1_eq harg1 x1
  have s2 := rows1_eq harg2 x2
  have r6 : x6 = View.readAt (Elt F) arg6.view (Rect.unit (s := S1x2048) ![0, 0] S1x2048.size inb_S1x2048_S1x2048_0_0).toLoadRect (harg6.unread x6) := ((View.readAt_full _ _ _).trans hf6).symm
  have s0 := rows64_eq harg0 x0
  have s1 := rows1_eq harg1 x1
  have s2 := rows1_eq harg2 x2
  have r7 : x7 = View.readAt (Elt F) arg7.view (Rect.unit (s := S1x2048) ![0, 0] S1x2048.size inb_S1x2048_S1x2048_0_0).toLoadRect (harg7.unread x7) := ((View.readAt_full _ _ _).trans hf7).symm
  have s0 := rows64_eq harg0 x0
  have s1 := rows1_eq harg1 x1
  have s2 := rows1_eq harg2 x2
  have r8 : x8 = View.readAt (Elt F) arg8.view (Rect.unit (s := S1x64) ![0, 0] S1x64.size inb_S1x64_S1x64_0_0).toLoadRect (harg8.unread x8) := ((View.readAt_full _ _ _).trans hf8).symm
  have s0 := rows64_eq harg0 x0
  have s1 := rows1_eq harg1 x1
  have s2 := rows1_eq harg2 x2
  have r9 : x9 = View.readAt (Elt F) arg9.view (Rect.unit (s := S1x64) ![0, 0] S1x64.size inb_S1x64_S1x64_0_0).toLoadRect (harg9.unread x9) := ((View.readAt_full _ _ _).trans hf9).symm
  have s0 := rows64_eq harg0 x0
  have s1 := rows1_eq harg1 x1
  have s2 := rows1_eq harg2 x2
  have r10 : x10 = View.readAt (Elt F) arg10.view (Rect.unit (s := S576x64) ![0, 0] S576x64.size inb_S576x64_S576x64_0_0).toLoadRect (harg10.unread x10) := ((View.readAt_full _ _ _).trans hf10).symm
  have s0 := rows64_eq harg0 x0
  have s1 := rows1_eq harg1 x1
  have s2 := rows1_eq harg2 x2
  have r11 : x11 = View.readAt (Elt F) arg11.view (Rect.unit (s := S1x64) ![0, 0] S1x64.size inb_S1x64_S1x64_0_0).toLoadRect (harg11.unread x11) := ((View.readAt_full _ _ _).trans hf11).symm
  have s0 := rows64_eq harg0 x0
  have s1 := rows1_eq harg1 x1
  have s2 := rows1_eq harg2 x2
  have r13 : x13 = View.readAt (Elt F) arg13.view (Rect.unit (s := S64x64) ![0, 0] S64x64.size inb_S64x64_S64x64_0_0).toLoadRect (harg13.unread x13) := ((View.readAt_full _ _ _).trans hf13).symm
  have s0 := rows64_eq harg0 x0
  have s1 := rows1_eq harg1 x1
  have s2 := rows1_eq harg2 x2
  have r14 : x14 = View.readAt (Elt F) arg14.view (Rect.unit (s := S1x64) ![0, 0] S1x64.size inb_S1x64_S1x64_0_0).toLoadRect (harg14.unread x14) := ((View.readAt_full _ _ _).trans hf14).symm
  have s0 := rows64_eq harg0 x0
  have s1 := rows1_eq harg1 x1
  have s2 := rows1_eq harg2 x2
  have r15 : x15 = View.readAt (Elt F) arg15.view (Rect.unit (s := S64x64) ![0, 0] S64x64.size inb_S64x64_S64x64_0_0).toLoadRect (harg15.unread x15) := ((View.readAt_full _ _ _).trans hf15).symm
  have s0 := rows64_eq harg0 x0
  have s1 := rows1_eq harg1 x1
  have s2 := rows1_eq harg2 x2
  have r16 : x16 = View.readAt (Elt F) arg16.view (Rect.unit (s := S1x64) ![0, 0] S1x64.size inb_S1x64_S1x64_0_0).toLoadRect (harg16.unread x16) := ((View.readAt_full _ _ _).trans hf16).symm
  have s0 := rows64_eq harg0 x0
  have s1 := rows1_eq harg1 x1
  have s2 := rows1_eq harg2 x2
  have r17 : x17 = View.readAt (Elt F) arg17.view (Rect.unit (s := S64x32) ![0, 0] S64x32.size inb_S64x32_S64x32_0_0).toLoadRect (harg17.unread x17) := ((View.readAt_full _ _ _).trans hf17).symm
  have s0 := rows64_eq harg0 x0
  have s1 := rows1_eq harg1 x1
  have s2 := rows1_eq harg2 x2
  have r18 : x18 = View.readAt (Elt F) arg18.view (Rect.unit (s := S1x32) ![0, 0] S1x32.size inb_S1x32_S1x32_0_0).toLoadRect (harg18.unread x18) := ((View.readAt_full _ _ _).trans hf18).symm
  have s0 := rows64_eq harg0 x0
  have s1 := rows1_eq harg1 x1
  have s2 := rows1_eq harg2 x2
  have r19 : x19 = View.readAt (Elt F) arg19.view (Rect.unit (s := S1x256) ![0, 0] S1x256.size inb_S1x256_S1x256_0_0).toLoadRect (harg19.unread x19) := ((View.readAt_full _ _ _).trans hf19).symm
  have s0 := rows64_eq harg0 x0
  have s1 := rows1_eq harg1 x1
  have s2 := rows1_eq harg2 x2
  have r20 : x20 = View.readAt (Elt F) arg20.view (Rect.unit (s := S1x256) ![0, 0] S1x256.size inb_S1x256_S1x256_0_0).toLoadRect (harg20.unread x20) := ((View.readAt_full _ _ _).trans hf20).symm
  have s0 := rows64_eq harg0 x0
  have s1 := rows1_eq harg1 x1
  have s2 := rows1_eq harg2 x2
  have hc0 := hc
  have r6c := congrArg fAll r6
  rw [r6c] at hc
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; isplitr; · ipureintro; exact hf16
    iexact H16
  isplitl [H17]
  · iexists _; isplitr; · ipureintro; exact hf17
    iexact H17
  isplitl [H18]
  · iexists _; isplitr; · ipureintro; exact hf18
    iexact H18
  isplitl [H19]
  · iexists _; isplitr; · ipureintro; exact hf19
    iexact H19
  isplitl [H20]
  · iexists _; isplitr; · ipureintro; exact hf20
    iexact H20
  isplitl [H21]
  · iexists _; isplitr; swap; · iexact H21
    ipureintro; refine (View.read_writes_full _ _ _ _ _).trans ?_
    conv_rhs => rw [fN, fHid_rank _ _ _ _ hc0, s0, s1, s2, r3, r4, r6, r7, r8, r9, r10, r11, r13, r14, r15, r16, r19, r17, r18, r20]
    rfl
  · iexists _; isplitr; swap; · iexact H22
    ipureintro; refine (View.read_writes_full _ _ _ _ _).trans ?_
    conv_rhs => rw [fY, fHid_rank _ _ _ _ hc0, s0, s1, s2, r3, r4, r6, r7, r8, r9, r10, r11, r13, r14, r15, r16, r19, r17, r18]
    rfl

set_option maxHeartbeats 2000000 in
theorem final_run_gen (c : Dev nD) (arg0 : Memref sig .tc .vmem S5x64x2048 .f32) (harg0 : arg0.IsWhole) (arg1 : Memref sig .tc .vmem S5x1x2048 .f32) (harg1 : arg1.IsWhole) (arg2 : Memref sig .tc .vmem S5x1x2048 .f32) (harg2 : arg2.IsWhole) (arg3 : Memref sig .tc .vmem S64x2048 .f32) (harg3 : arg3.IsWhole) (arg4 : Memref sig .tc .vmem S256x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S576x64 .f32) (harg10 : arg10.IsWhole) (arg11 : Memref sig .tc .vmem S1x64 .f32) (harg11 : arg11.IsWhole) (arg12 : Memref sig .tc .vmem S64x192x64 .bf16) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x32 .f32) (harg17 : arg17.IsWhole) (arg18 : Memref sig .tc .vmem S1x32 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x1 .f32) (harg21 : arg21.IsWhole) (arg22 : Memref sig .tc .vmem S256x32 .f32) (harg22 : arg22.IsWhole)
    (x0 : Vec F S5x64x2048 .f32) (x1 : Vec F S5x1x2048 .f32) (x2 : Vec F S5x1x2048 .f32) (x3 : Vec F S64x2048 .f32) (x4 : Vec F S256x2048 .f32) (x5 : Vec F S2048x2048 .bf16) (x6 : Vec F S1x2048 .f32) (x7 : Vec F S1x2048 .f32) (x8 : Vec F S1x64 .f32) (x9 : Vec F S1x64 .f32) (x10 : Vec F S576x64 .f32) (x11 : Vec F S1x64 .f32) (x12 : Vec F S64x192x64 .bf16) (x13 : Vec F S64x64 .f32) (x14 : Vec F S1x64 .f32) (x15 : Vec F S64x64 .f32) (x16 : Vec F S1x64 .f32) (x17 : Vec F S64x32 .f32) (x18 : Vec F S1x32 .f32) (x19 : Vec F S1x256 .f32) (x20 : Vec F S1x256 .f32) (hc : ¬ fAll x6 = 1#1) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
            ∗ (∃ d, owns (c : Thread nD τ) arg21 fullShare d) ∗ (∃ d, owns (c : Thread nD τ) arg22 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
              ∗ owns (c : Thread nD τ) arg21 fullShare (fN x0 x1 x2 x3 x4 x5 x6 x7 x8 x9 x10 x11 x12 x13 x14 x15 x16 x17 x18 x19 x20) ∗ owns (c : Thread nD τ) arg22 fullShare (fY x0 x1 x2 x3 x4 x5 x6 x7 x8 x9 x10 x11 x12 x13 x14 x15 x16 x17 x18 x19 x20)) -∗ K ⟨⟩))
          ⊢ wp frame (wpE (defs₀ (F := F)) Variants.none c none) E (cc2__final_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  simp only [cc2__final_kernel_eq_skeleton]; unfold cc2__final_kernel_skel
  simp only [k2_part1_eq_skeleton, k2_part2_eq_skeleton, k2_part3_eq_skeleton, k2_part4_eq_skeleton, k2_part5_eq_skeleton, k2_part6_eq_skeleton, k2_part7_eq_skeleton, k2_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  have r3 : x3 = View.readAt (Elt F) arg3.view (Rect.unit (s := S64x2048) ![0, 0] S64x2048.size inb_S64x2048_S64x2048_0_0).toLoadRect (harg3.unread x3) := ((View.readAt_full _ _ _).trans hf3).symm
  have s0 := rows64_eq harg0 x0
  have s1 := rows1_eq harg1 x1
  have s2 := rows1_eq harg2 x2
  have r4 : x4 = View.readAt (Elt F) arg4.view (Rect.unit (s := S256x2048) ![0, 0] S256x2048.size inb_S256x2048_S256x2048_0_0).toLoadRect (harg4.unread x4) := ((View.readAt_full _ _ _).trans hf4).symm
  have s0 := rows64_eq harg0 x0
  have s1 := rows1_eq harg1 x1
  have s2 := rows1_eq harg2 x2
  have r5 : x5 = View.readAt (Elt F) arg5.view (Rect.unit (s := S2048x2048) ![0, 0] S2048x2048.size inb_S2048x2048_S2048x2048_0_0).toLoadRect (harg5.unread x5) := ((View.readAt_full _ _ _).trans hf5).symm
  have s0 := rows64_eq harg0 x0
  have s1 := rows1_eq harg1 x1
  have s2 := rows1_eq harg2 x2
  have r6 : x6 = View.readAt (Elt F) arg6.view (Rect.unit (s := S1x2048) ![0, 0] S1x2048.size inb_S1x2048_S1x2048_0_0).toLoadRect (harg6.unread x6) := ((View.readAt_full _ _ _).trans hf6).symm
  have s0 := rows64_eq harg0 x0
  have s1 := rows1_eq harg1 x1
  have s2 := rows1_eq harg2 x2
  have r7 : x7 = View.readAt (Elt F) arg7.view (Rect.unit (s := S1x2048) ![0, 0] S1x2048.size inb_S1x2048_S1x2048_0_0).toLoadRect (harg7.unread x7) := ((View.readAt_full _ _ _).trans hf7).symm
  have s0 := rows64_eq harg0 x0
  have s1 := rows1_eq harg1 x1
  have s2 := rows1_eq harg2 x2
  have r8 : x8 = View.readAt (Elt F) arg8.view (Rect.unit (s := S1x64) ![0, 0] S1x64.size inb_S1x64_S1x64_0_0).toLoadRect (harg8.unread x8) := ((View.readAt_full _ _ _).trans hf8).symm
  have s0 := rows64_eq harg0 x0
  have s1 := rows1_eq harg1 x1
  have s2 := rows1_eq harg2 x2
  have r9 : x9 = View.readAt (Elt F) arg9.view (Rect.unit (s := S1x64) ![0, 0] S1x64.size inb_S1x64_S1x64_0_0).toLoadRect (harg9.unread x9) := ((View.readAt_full _ _ _).trans hf9).symm
  have s0 := rows64_eq harg0 x0
  have s1 := rows1_eq harg1 x1
  have s2 := rows1_eq harg2 x2
  have r10 : x10 = View.readAt (Elt F) arg10.view (Rect.unit (s := S576x64) ![0, 0] S576x64.size inb_S576x64_S576x64_0_0).toLoadRect (harg10.unread x10) := ((View.readAt_full _ _ _).trans hf10).symm
  have s0 := rows64_eq harg0 x0
  have s1 := rows1_eq harg1 x1
  have s2 := rows1_eq harg2 x2
  have r11 : x11 = View.readAt (Elt F) arg11.view (Rect.unit (s := S1x64) ![0, 0] S1x64.size inb_S1x64_S1x64_0_0).toLoadRect (harg11.unread x11) := ((View.readAt_full _ _ _).trans hf11).symm
  have s0 := rows64_eq harg0 x0
  have s1 := rows1_eq harg1 x1
  have s2 := rows1_eq harg2 x2
  have r13 : x13 = View.readAt (Elt F) arg13.view (Rect.unit (s := S64x64) ![0, 0] S64x64.size inb_S64x64_S64x64_0_0).toLoadRect (harg13.unread x13) := ((View.readAt_full _ _ _).trans hf13).symm
  have s0 := rows64_eq harg0 x0
  have s1 := rows1_eq harg1 x1
  have s2 := rows1_eq harg2 x2
  have r14 : x14 = View.readAt (Elt F) arg14.view (Rect.unit (s := S1x64) ![0, 0] S1x64.size inb_S1x64_S1x64_0_0).toLoadRect (harg14.unread x14) := ((View.readAt_full _ _ _).trans hf14).symm
  have s0 := rows64_eq harg0 x0
  have s1 := rows1_eq harg1 x1
  have s2 := rows1_eq harg2 x2
  have r15 : x15 = View.readAt (Elt F) arg15.view (Rect.unit (s := S64x64) ![0, 0] S64x64.size inb_S64x64_S64x64_0_0).toLoadRect (harg15.unread x15) := ((View.readAt_full _ _ _).trans hf15).symm
  have s0 := rows64_eq harg0 x0
  have s1 := rows1_eq harg1 x1
  have s2 := rows1_eq harg2 x2
  have r16 : x16 = View.readAt (Elt F) arg16.view (Rect.unit (s := S1x64) ![0, 0] S1x64.size inb_S1x64_S1x64_0_0).toLoadRect (harg16.unread x16) := ((View.readAt_full _ _ _).trans hf16).symm
  have s0 := rows64_eq harg0 x0
  have s1 := rows1_eq harg1 x1
  have s2 := rows1_eq harg2 x2
  have r17 : x17 = View.readAt (Elt F) arg17.view (Rect.unit (s := S64x32) ![0, 0] S64x32.size inb_S64x32_S64x32_0_0).toLoadRect (harg17.unread x17) := ((View.readAt_full _ _ _).trans hf17).symm
  have s0 := rows64_eq harg0 x0
  have s1 := rows1_eq harg1 x1
  have s2 := rows1_eq harg2 x2
  have r18 : x18 = View.readAt (Elt F) arg18.view (Rect.unit (s := S1x32) ![0, 0] S1x32.size inb_S1x32_S1x32_0_0).toLoadRect (harg18.unread x18) := ((View.readAt_full _ _ _).trans hf18).symm
  have s0 := rows64_eq harg0 x0
  have s1 := rows1_eq harg1 x1
  have s2 := rows1_eq harg2 x2
  have r19 : x19 = View.readAt (Elt F) arg19.view (Rect.unit (s := S1x256) ![0, 0] S1x256.size inb_S1x256_S1x256_0_0).toLoadRect (harg19.unread x19) := ((View.readAt_full _ _ _).trans hf19).symm
  have s0 := rows64_eq harg0 x0
  have s1 := rows1_eq harg1 x1
  have s2 := rows1_eq harg2 x2
  have r20 : x20 = View.readAt (Elt F) arg20.view (Rect.unit (s := S1x256) ![0, 0] S1x256.size inb_S1x256_S1x256_0_0).toLoadRect (harg20.unread x20) := ((View.readAt_full _ _ _).trans hf20).symm
  have s0 := rows64_eq harg0 x0
  have s1 := rows1_eq harg1 x1
  have s2 := rows1_eq harg2 x2
  have hc0 := hc
  have r6c := congrArg fAll r6
  rw [r6c] at hc
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; isplitr; · ipureintro; exact hf16
    iexact H16
  isplitl [H17]
  · iexists _; isplitr; · ipureintro; exact hf17
    iexact H17
  isplitl [H18]
  · iexists _; isplitr; · ipureintro; exact hf18
    iexact H18
  isplitl [H19]
  · iexists _; isplitr; · ipureintro; exact hf19
    iexact H19
  isplitl [H20]
  · iexists _; isplitr; · ipureintro; exact hf20
    iexact H20
  isplitl [H21]
  · iexists _; isplitr; swap; · iexact H21
    ipureintro; refine (View.read_writes_full _ _ _ _ _).trans ?_
    conv_rhs => rw [fN, fHid_gen _ _ _ _ hc0, s0, s1, s2, r3, r4, r5, r6, r7, r8, r9, r10, r11, r13, r14, r15, r16, r19, r17, r18, r20]
    rfl
  · iexists _; isplitr; swap; · iexact H22
    ipureintro; refine (View.read_writes_full _ _ _ _ _).trans ?_
    conv_rhs => rw [fY, fHid_gen _ _ _ _ hc0, s0, s1, s2, r3, r4, r5, r6, r7, r8, r9, r10, r11, r13, r14, r15, r16, r19, r17, r18]
    rfl

end Cert.KernelIdeal.Hand

end
-- ==== Proof.KPrep.lean ====
module

public import proofs.«01_k».proof.Proof.Spec
public import proofs.«01_k».proof.Proof.Final

/-! The values of the kernel's payloads over arrays of reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

theorem prep_val (X : Fin 2048 → Fin 256 → ℝ) (W1 : Fin 256 → Fin 256 → ℝ) (b1 : Fin 1 → Fin 256 → ℝ) (W2 : Fin 256 → Fin 64 → ℝ) :
    k0_pay1 (F := Ideal) (cv2 X) (cv2 W1) (cv2 b1) (cv2 W2) = cv2 (fun f n => xp cLr X W1 (b1 0) W2 n f) := by
  funext j
  idx_vars j
  pointwise [k0_pay1, cv2_at]
  simp only [cLr_eq, ← EReal.coe_zero, ← EReal.coe_mul, ← EReal.coe_add, coe_sum, coe_ite, EReal.coe_le_coe_iff]
  simp only [xp, lr, mul_comm]

end Cert.KernelIdeal.Hand

end
-- ==== Proof.Net.lean ====
module

public import proofs.«01_k».proof.Proof.Spec

/-! The whole network over the real numbers. -/

@[expose] public section

noncomputable section

namespace Cert.Spec

/-- The arguments, as real numbers and as whole numbers in range. -/
structure Args where
  A : Fin 2048 → Fin 2048 → Fin 5 → ℝ
  X : Fin 2048 → Fin 256 → ℝ
  tx : Fin 256 → Fin 2048
  tg : Fin 256 → Fin 32
  wt : Fin 256 → Fin 64 → ℝ
  aw : Fin 1 → Fin 2048 → ℝ
  ab : Fin 1 → Fin 64 → ℝ
  aq : Fin 1 → Fin 64 → ℝ
  gW : Fin 256 → Fin 256 → ℝ
  gb : Fin 256 → ℝ
  W0 : Fin 576 → Fin 64 → ℝ
  b0 : Fin 64 → ℝ
  cW : Fin 64 → Fin 64 → Fin 64 → ℝ
  W1 : Fin 64 → Fin 64 → ℝ
  b1 : Fin 64 → ℝ
  L1 : Fin 64 → Fin 64 → ℝ
  d1 : Fin 64 → ℝ
  L2 : Fin 64 → Fin 32 → ℝ
  d2 : Fin 32 → ℝ

namespace Args
variable (a : Args) (keep bet : Fin 64 → ℝ)

/-- The node features before the relations' convolutions. -/
def p : Fin 2048 → Fin 64 → ℝ := xp cLr a.X a.gW a.gb a.wt
/-- The relations' convolutions. -/
def G : Fin 5 → Fin 2048 → Fin 64 → ℝ := lg a.A a.p
/-- The relations' attention scores. -/
def w (e : Fin 5) : ℝ := watt (a.aw 0) (a.ab 0) (a.aq 0) (a.G e)
/-- The deep network's input. -/
def h : Fin 2048 → Fin 64 → ℝ := x0 (beta5 a.w) a.G a.X a.W0 a.b0
/-- The state after the 64 layers. -/
def x : Fin 2048 → Fin 64 → ℝ := hid c9 c1 keep bet a.cW (pat a.A) a.h 64
/-- The classifier's features. -/
def z : Fin 2048 → Fin 64 → ℝ := dense cLr a.L1 a.d1 (dense cLr a.W1 a.b1 (a.x keep bet))
/-- The class scores. -/
def y : Fin 256 → Fin 32 → ℝ := score (a.z keep bet) a.L2 a.d2 a.tx

end Args

end Cert.Spec

end
-- ==== Proof.KConv.lean ====
module

public import proofs.«01_k».proof.Proof.KPrep
public import proofs.«01_k».proof.Proof.Net

/-! The last call's relation convolutions, attention and first layer over arrays of reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

theorem rows64_val (T : Fin 5 → Fin 64 → Fin 2048 → ℝ) (e : Fin 5) : rows64 (F := Ideal) (cv3 T) e = cv3 (fun _ : Fin 1 => T e) := by
  fin_cases e <;>
  · funext j
    idx_vars j
    obtain rfl : j0 = 0 := Subsingleton.elim _ _
    refine congrArg (cv3 T) (a₂ := ix3 _ _ _) (funext fun a => Fin.ext ?_)
    match a with
    | ⟨0, _⟩ => rfl
    | ⟨1, _⟩ => exact (Nat.zero_add _).trans (Nat.one_mul _)
    | ⟨2, _⟩ => exact (Nat.zero_add _).trans (Nat.one_mul _)

theorem rows1_val (T : Fin 5 → Fin 1 → Fin 2048 → ℝ) (e : Fin 5) : rows1 (F := Ideal) (cv3 T) e = cv3 (fun _ : Fin 1 => T e) := by
  fin_cases e <;>
  · funext j
    idx_vars j
    obtain rfl : j0 = 0 := Subsingleton.elim _ _
    refine congrArg (cv3 T) (a₂ := ix3 _ _ _) (funext fun a => Fin.ext ?_)
    match a with
    | ⟨0, _⟩ => rfl
    | ⟨1, _⟩ => exact (Nat.zero_add _).trans (Nat.one_mul _)
    | ⟨2, _⟩ => exact (Nat.zero_add _).trans (Nat.one_mul _)

/-- A relation's convolution as the last call takes it: the product without self loops, and the column sums and diagonal. -/
def lgK (T p : Fin 64 → Fin 2048 → ℝ) (cs dg : Fin 2048 → ℝ) (f : Fin 64) (n : Fin 2048) : ℝ :=
  max ((T f n + (1 - dg n) * p f n) * (if cs n - dg n + 1 = 0 then 0 else 1 / (cs n - dg n + 1))) 0

theorem lgK_val (T p : Fin 64 → Fin 2048 → ℝ) (cs dg : Fin 2048 → ℝ) :
    k2_pay3 (F := Ideal) (cv2 p) (cv3 fun _ _ => cs) (cv3 fun _ _ => dg) (cv3 fun _ => T) = cv2 (lgK T p cs dg) := by
  funext j
  idx_vars j
  pointwise [k2_pay3, k2_pay1, cv2_at, cv3_at]
  simp only [← EReal.coe_zero, ← EReal.coe_one, ← EReal.coe_mul, ← EReal.coe_add, ← EReal.coe_sub]
  refine (congrArg (fun v => max ((((T j0 j1 + (1 - dg j1) * p j0 j1 : ℝ)) : EReal) * v) ((0 : ℝ) : EReal)) (inv_or_zero (cs j1 - dg j1 + 1))).trans ?_
  rw [← EReal.coe_mul, coe_max]
  rfl

/-- The convolution with self loops, from the sums over the rows. -/
theorem lgK_eq (A : Fin 2048 → Fin 2048 → Fin 5 → ℝ) (p : Fin 2048 → Fin 64 → ℝ) (e : Fin 5) :
    lgK (fun f n => ∑ k, p k f * A k n e) (fun f n => p n f) (fun n => ∑ k, A k n e) (fun n => A n n e) = fun f n => lg A p e n f := by
  funext f n
  have hs : ∀ g : Fin 2048 → ℝ, ∑ k, ht A e n k * g k = (∑ k, A k n e * g k) - A n n e * g n + g n := fun g => by
    have : ∀ k, ht A e n k * g k = A k n e * g k + eye n k * (g k - A k n e * g k) := fun k => by simp only [ht]; ring
    simp only [this, Finset.sum_add_distrib]
    have he : ∑ k, eye n k * (g k - A k n e * g k) = g n - A n n e * g n := by
      rw [Finset.sum_eq_single n]
      · simp [eye]
      · intro k _ hk; simp [eye, Ne.symm hk]
      · simp
    rw [he]; ring
  have hd : deg A e n = (∑ k, A k n e) - A n n e + 1 := by
    have := hs fun _ => 1
    simpa [deg] using this
  have hx := hs fun k => p k f
  simp only [lgK, lg, dinvA, hd]
  refine congrArg (max · 0) ?_
  rw [show (∑ k, (if (∑ k, A k n e) - A n n e + 1 = 0 then 0 else 1 / ((∑ k, A k n e) - A n n e + 1)) * ht A e n k * p k f)
    = (if (∑ k, A k n e) - A n n e + 1 = 0 then 0 else 1 / ((∑ k, A k n e) - A n n e + 1)) * ∑ k, ht A e n k * p k f from by
      rw [Finset.mul_sum]; exact Finset.sum_congr rfl fun k _ => by ring]
  rw [hx, show (∑ k, p k f * A k n e) = ∑ k, A k n e * p k f from Finset.sum_congr rfl fun k _ => mul_comm _ _]
  ring

section
variable (t : Fin 5 → Vec Ideal S1x64x2048 .f32) (c d : Fin 5 → Vec Ideal S1x1x2048 .f32) (x3 : Vec Ideal S64x2048 .f32)
  (x7 : FVec Ideal S1x2048 .f32) (x8 x9 : FVec Ideal S1x64 .f32)

theorem lg0 : fLg0 t c d x3 = k2_pay3 x3 (c 0) (d 0) (t 0) := rfl
theorem lg1 : fLg1 t c d x3 = k2_pay3 x3 (c 1) (d 1) (t 1) := rfl
theorem lg2 : fLg2 t c d x3 = k2_pay3 x3 (c 2) (d 2) (t 2) := rfl
theorem lg3 : fLg3 t c d x3 = k2_pay3 x3 (c 3) (d 3) (t 3) := rfl
theorem lg4 : fLg4 t c d x3 = k2_pay3 x3 (c 4) (d 4) (t 4) := rfl

/-- A relation's attention score. -/
def attW (L : FVec Ideal S64x2048 .f32) : Ideal .f32 :=
  k2_pay5 (shapeCast S1x1x64 (mulf x9 (tanh (addf (matmul dot_S1x2048_S64x2048_S1x64_1_1_0_0_n_n (some .fp32) x7 L (constant S1x64 .f32 0x00000000#32)) x8)))
    shapeCasts_S1x64_S1x1x64)

theorem w0 : fW0 t c d x3 x7 x8 x9 = attW x7 x8 x9 (k2_pay3 x3 (c 0) (d 0) (t 0)) := rfl
theorem w1 : fW1 t c d x3 x7 x8 x9 = attW x7 x8 x9 (k2_pay3 x3 (c 1) (d 1) (t 1)) := rfl
theorem w2 : fW2 t c d x3 x7 x8 x9 = attW x7 x8 x9 (k2_pay3 x3 (c 2) (d 2) (t 2)) := rfl
theorem w3 : fW3 t c d x3 x7 x8 x9 = attW x7 x8 x9 (k2_pay3 x3 (c 3) (d 3) (t 3)) := rfl

/-- The five scores. -/
def sc (e : Fin 5) : Ideal .f32 := attW x7 x8 x9 (k2_pay3 x3 (c e) (d e) (t e))

/-- The softmax of five scores, times five. -/
def mx5 (w : Fin 5 → Ideal .f32) : Ideal .f32 :=
  Scalar.maximumf (Scalar.maximumf (Scalar.maximumf (Scalar.maximumf (w 0) (w 1)) (w 2)) (w 3)) (w 4)
def ex5 (w : Fin 5 → Ideal .f32) (e : Fin 5) : Ideal .f32 := Scalar.exp (Scalar.subf (w e) (mx5 w))
def soft5 (w : Fin 5 → Ideal .f32) (e : Fin 5) : Ideal .f32 :=
  Scalar.mulf (Scalar.divf (ex5 w e)
    (Scalar.addf (Scalar.addf (Scalar.addf (Scalar.addf (ex5 w 0) (ex5 w 1)) (ex5 w 2)) (ex5 w 3)) (ex5 w 4))) (Scalar.ofBits .f32 0x40A00000#32)

theorem beta0 : fB0 t c d x3 x7 x8 x9 = soft5 (sc t c d x3 x7 x8 x9) 0 := rfl
theorem beta1 : fB1 t c d x3 x7 x8 x9 = soft5 (sc t c d x3 x7 x8 x9) 1 := rfl
theorem beta2 : fB2 t c d x3 x7 x8 x9 = soft5 (sc t c d x3 x7 x8 x9) 2 := rfl
theorem beta3 : fB3 t c d x3 x7 x8 x9 = soft5 (sc t c d x3 x7 x8 x9) 3 := rfl
theorem beta4 : fB4 t c d x3 x7 x8 x9 = soft5 (sc t c d x3 x7 x8 x9) 4 := rfl
end

theorem attW_val (w : Fin 1 → Fin 2048 → ℝ) (b q : Fin 1 → Fin 64 → ℝ) (G : Fin 2048 → Fin 64 → ℝ) :
    attW (cv2 w) (cv2 b) (cv2 q) (cv2 fun f n => G n f) = ((watt (w 0) (b 0) (q 0) G : ℝ) : EReal) := by
  unfold attW k2_pay5
  pointwise [cv2_at]
  simp only [← EReal.coe_mul, ← EReal.coe_add, coe_sum, Ideal.tanh_coe, Fin.sum_univ_one]
  simp only [watt]

theorem soft5_val (w : Fin 5 → ℝ) (e : Fin 5) : soft5 (fun e => ((w e : ℝ) : EReal)) e = ((beta5 w e : ℝ) : EReal) := by
  have hm : mx5 (fun e => ((w e : ℝ) : EReal)) = ((top5 w : ℝ) : EReal) := by
    simp only [mx5, Scalar.maximumf, Ideal.maximumf_def, coe_max]
    rfl
  have hx : ∀ e, ex5 (fun e => ((w e : ℝ) : EReal)) e = ((Real.exp (w e - top5 w) : ℝ) : EReal) := fun e => by
    rw [ex5, hm]
    rw [Ideal.scalar_subf_def, ← EReal.coe_sub]
    exact Ideal.exp_coe _
  have h : (∑ i, Real.exp (w i - top5 w)) ≠ 0 := (Finset.sum_pos (fun i _ => Real.exp_pos _) ⟨0, Finset.mem_univ _⟩).ne'
  simp only [soft5, hx, Scalar.ofBits, Ideal.scalar_mulf_def, Ideal.scalar_divf_def, Ideal.scalar_addf_def, Ideal.ofBits_def]
  rw [Fin.sum_univ_five] at h
  rw [← EReal.coe_add, ← EReal.coe_add, ← EReal.coe_add, ← EReal.coe_add, coe_div _ h, ofBits_five, ← EReal.coe_mul, beta5, Fin.sum_univ_five]

/-- A relation's block of the first layer's product. -/
theorem block_term (β : Fin 5 → ℝ) (G : Fin 5 → Fin 2048 → Fin 64 → ℝ) (W : Fin 576 → Fin 64 → ℝ) (n : Fin 2048) (f : Fin 64) (e : Fin 5)
    (i : Fin 64 → Fin 576) (hi : ∀ g, (i g).val = e.val * 64 + g.val) :
    β e * ∑ g, W (i g) f * G e n g = ∑ g : Fin 64, β e * G e n g * W ⟨e.val * 64 + g.val, by omega⟩ f := by
  rw [Finset.mul_sum]
  refine Finset.sum_congr rfl fun g _ => ?_
  rw [show i g = ⟨e.val * 64 + g.val, by omega⟩ from Fin.ext (hi g)]
  ring

theorem h0_val (β : Fin 5 → ℝ) (G : Fin 5 → Fin 2048 → Fin 64 → ℝ) (X : Fin 2048 → Fin 256 → ℝ) (W : Fin 576 → Fin 64 → ℝ) (b : Fin 1 → Fin 64 → ℝ) :
    k2_pay34 (F := Ideal) k2_pay2 (cv2 fun f n => G 0 n f) (cv2 fun f n => G 1 n f) (cv2 fun f n => G 2 n f) (cv2 fun f n => G 3 n f)
      (cv2 fun f n => G 4 n f) ((β 0 : ℝ) : EReal) ((β 1 : ℝ) : EReal) ((β 2 : ℝ) : EReal) ((β 3 : ℝ) : EReal) ((β 4 : ℝ) : EReal) (cv2 W)
      (k2_pay33 (cv2 W)) (cv2 fun g n => X n g) (cv2 b) = cv2 (fun f n => x0 β G X W (b 0) n f) := by
  funext j
  idx_vars j
  pointwise [k2_pay34, k2_pay33, k2_pay2, cv2_at]
  simp only [← EReal.coe_zero, ← EReal.coe_one, ← EReal.coe_mul, ← EReal.coe_add, coe_sum, coe_max]
  rw [block_term β G W j1 j0 0 (fun i => ⟨i.val, _⟩) (fun g => by simp), block_term β G W j1 j0 1 (fun i => ⟨64 + i.val, _⟩) (fun g => by simp),
    block_term β G W j1 j0 2 (fun i => ⟨128 + i.val, _⟩) (fun g => by simp), block_term β G W j1 j0 3 (fun i => ⟨192 + i.val, _⟩) (fun g => by simp),
    block_term β G W j1 j0 4 (fun i => ⟨256 + i.val, _⟩) (fun g => by simp), x0, Fin.sum_univ_five, Fin.sum_univ_one]
  refine congrArg (fun t => ((max t 0 : ℝ) : EReal)) ?_
  rw [show (∑ i : Fin 256, W ⟨320 + i.val, by omega⟩ j0 * X j1 i) = ∑ i : Fin 256, X j1 i * W ⟨320 + i.val, by omega⟩ j0 from
    Finset.sum_congr rfl fun i _ => mul_comm _ _]
  ring

/-- What the last call starts its layers from. -/
theorem fH0_val (a : Args) :
    fH0 (F := Ideal) (rows64 (cv3 fun e f n => ∑ k, a.p k f * a.A k n e)) (rows1 (cv3 fun e _ n => ∑ k, a.A k n e)) (rows1 (cv3 fun e _ n => a.A n n e))
      (cv2 fun f n => a.p n f) (cv2 fun g n => a.X n g) (cv2 a.aw) (cv2 a.ab) (cv2 a.aq) (cv2 a.W0) (cv2 fun _ => a.b0) = cv2 (fun f n => a.h n f) := by
  have hl : ∀ e, k2_pay3 (F := Ideal) (cv2 fun f n => a.p n f) (rows1 (cv3 fun e _ n => ∑ k, a.A k n e) e) (rows1 (cv3 fun e _ n => a.A n n e) e)
      (rows64 (cv3 fun e f n => ∑ k, a.p k f * a.A k n e) e) = cv2 (fun f n => a.G e n f) := fun e => by
    rw [rows64_val, rows1_val, rows1_val, lgK_val, lgK_eq]
    rfl
  have hw : sc (rows64 (cv3 fun e f n => ∑ k, a.p k f * a.A k n e)) (rows1 (cv3 fun e _ n => ∑ k, a.A k n e)) (rows1 (cv3 fun e _ n => a.A n n e))
      (cv2 fun f n => a.p n f) (cv2 a.aw) (cv2 a.ab) (cv2 a.aq) = fun e => ((a.w e : ℝ) : EReal) := funext fun e => by
    rw [sc, hl, attW_val]
    rfl
  rw [fH0, lg0, lg1, lg2, lg3, lg4, beta0, beta1, beta2, beta3, beta4, hw, hl, hl, hl, hl, hl]
  simp only [soft5_val]
  exact h0_val (beta5 a.w) a.G a.X a.W0 fun _ => a.b0

end Cert.KernelIdeal.Hand

end
-- ==== Proof.KLayer.lean ====
module

public import proofs.«01_k».proof.Proof.KConv

/-! The last call's two loops of 64 layers over arrays of reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

theorem dinv_val (B : Fin 2048 → Fin 2048 → ℝ) : k2_pay36 (F := Ideal) (cv2 fun _ : Fin 1 => degB B) = cv2 (fun _ : Fin 1 => dinvB B) := by
  funext j
  idx_vars j
  pointwise [k2_pay36, k2_pay35, cv2_at]
  rw [← EReal.coe_zero, dinvB]
  simp only [EReal.coe_lt_coe_iff]
  by_cases h : 0 < degB B j1
  · rw [if_pos h, if_pos h]
    rw [Ideal.rsqrt_coe, if_neg h.le.not_gt, if_neg h.ne']
  · rw [if_neg h, if_neg h]

/-- A layer's matrix: the identity and the convolution, weighted. -/
def convM (keep bet : ℝ) (W : Fin 64 → Fin 64 → ℝ) (g f : Fin 64) : ℝ := keep * (if g = f then 1 else 0) + bet * W g f

/-- A layer's three stacked matrices: the matrix twice, and nothing for what its rounding leaves. -/
def convS (C : Fin 64 → Fin 64 → ℝ) (q : Fin 192) (f : Fin 64) : ℝ :=
  if h : q.val < 64 then C ⟨q.val, h⟩ f else if h : q.val < 128 then C ⟨q.val - 64, by omega⟩ f else 0

theorem convM_layer (keep bet : ℝ) (W : Fin 64 → Fin 64 → ℝ) (o : Fin 64 → ℝ) (f : Fin 64) :
    ∑ g, convM keep bet W g f * o g = keep * o f + bet * ∑ g, o g * W g f := by
  have : ∀ g, convM keep bet W g f * o g = keep * (if g = f then o g else 0) + bet * (o g * W g f) := fun g => by
    simp only [convM]; split <;> ring
  simp only [this, Finset.sum_add_distrib, ← Finset.mul_sum, Finset.sum_ite_eq', Finset.mem_univ, if_true]

/-! The stages of a layer. -/

/-- What a product in two halves, the rounded factor and what rounding leaves, adds up to. -/
def kProd (u : FVec Ideal S64x2048 .f32) (B : FVec Ideal S2048x2048 .bf16) : FVec Ideal S64x2048 .f32 :=
  have hi : FVec Ideal S64x2048 .bf16 := truncf .bf16 u bitsLt_bf16_f32
  have lo : FVec Ideal S64x2048 .bf16 := truncf .bf16 (subf u (extf .f32 hi bitsLt_bf16_f32)) bitsLt_bf16_f32
  have q : FVec Ideal S128x2048 .f32 := matmul dot_S128x2048_S2048x2048_S128x2048_1_0_0_1_n_n none
    (concatenate S128x2048 0 [⟨S64x2048, hi⟩, ⟨S64x2048, lo⟩] concatenates_S64x2048_S64x2048_S128x2048_d0) B (constant S128x2048 .f32 0x00000000#32)
  addf (extractStridedSlice S64x2048 ![0, 0] q slices_S128x2048_o0_0_S64x2048) (extractStridedSlice S64x2048 ![64, 0] q slices_S128x2048_o64_0_S64x2048)

/-- The product with the all-ones mask, as two products of rank one. -/
def kOnes (u : FVec Ideal S64x2048 .f32) (one : FVec Ideal S1x2048 .f32) : FVec Ideal S64x2048 .f32 :=
  have r : FVec Ideal S64x1 .f32 := matmul dot_S64x2048_S1x2048_S64x1_1_1_0_0_n_n (some .fp32) u one (constant S64x1 .f32 0x00000000#32)
  matmul dot_S64x1_S1x2048_S64x2048_1_0_0_1_n_n (some .fp32) r one (constant S64x2048 .f32 0x00000000#32)

def kScale (x : FVec Ideal S64x2048 .f32) (d : FVec Ideal S1x2048 .f32) : FVec Ideal S64x2048 .f32 :=
  mulf x (broadcastTo S64x2048 d broadcasts_S1x2048_S64x2048)

def kMix (v h : FVec Ideal S64x2048 .f32) : FVec Ideal S64x2048 .f32 :=
  addf (mulf (broadcast S64x2048 (Scalar.ofBits .f32 0x3F666666#32)) v) (mulf (broadcast S64x2048 (Scalar.ofBits .f32 0x3DCCCCCD#32)) h)

def kCat (v : FVec Ideal S64x2048 .f32) : FVec Ideal S192x2048 .bf16 :=
  have hi : FVec Ideal S64x2048 .bf16 := truncf .bf16 v bitsLt_bf16_f32
  have lo : FVec Ideal S64x2048 .bf16 := truncf .bf16 (subf v (extf .f32 hi bitsLt_bf16_f32)) bitsLt_bf16_f32
  concatenate S192x2048 0 [⟨S64x2048, hi⟩, ⟨S64x2048, lo⟩, ⟨S64x2048, hi⟩] concatenates_S64x2048_S64x2048_S64x2048_S192x2048_d0

def kOut (C : FVec Ideal S1x192x64 .bf16) (q : FVec Ideal S192x2048 .bf16) : FVec Ideal S64x2048 .f32 :=
  have M : FVec Ideal S192x64 .bf16 := shapeCast S192x64 C shapeCasts_S1x192x64_S192x64
  maximumf (matmul dot_S192x64_S192x2048_S64x2048_0_0_1_1_n_n none M q (constant S64x2048 .f32 0x00000000#32)) (broadcast S64x2048 (Scalar.ofBits .f32 0x00000000#32))

theorem pay41 (h x : FVec Ideal S64x2048 .f32) (d : FVec Ideal S1x2048 .f32) (B : FVec Ideal S2048x2048 .bf16) (C : FVec Ideal S1x192x64 .bf16) :
    k2_pay41 h d B x C = kOut C (kCat (kMix (kScale (kProd (kScale x d) B) d) h)) := rfl

theorem pay40 (one d : FVec Ideal S1x2048 .f32) (h x : FVec Ideal S64x2048 .f32) (C : FVec Ideal S1x192x64 .bf16) :
    k2_pay40 one h d x C = kOut C (kCat (kMix (kScale (kOnes (kScale x d) one) d) h)) := rfl

theorem kScale_val (x : Fin 64 → Fin 2048 → ℝ) (d : Fin 2048 → ℝ) : kScale (cv2 x) (cv2 fun _ => d) = cv2 (fun f n => x f n * d n) := by
  funext j
  idx_vars j
  pointwise [kScale, cv2_at]
  rw [EReal.coe_mul]

theorem kMix_val (v h : Fin 64 → Fin 2048 → ℝ) : kMix (cv2 v) (cv2 h) = cv2 (fun f n => c9 * v f n + c1 * h f n) := by
  funext j
  idx_vars j
  pointwise [kMix, cv2_at]
  simp only [c9_eq, c1_eq, ← EReal.coe_mul, ← EReal.coe_add]

theorem kOnes_val (u : Fin 64 → Fin 2048 → ℝ) : kOnes (cv2 u) k2_pay2 = cv2 (fun f _ => ∑ k, u f k) := by
  funext j
  idx_vars j
  pointwise [kOnes, k2_pay2, cv2_at]
  simp only [← EReal.coe_one, ← EReal.coe_mul, coe_sum, Fin.sum_univ_one, mul_one]

theorem kProd_val (u : Fin 64 → Fin 2048 → ℝ) (B : Fin 2048 → Fin 2048 → ℝ) : kProd (cv2 u) (cb2 B) = cv2 (fun f n => ∑ k, u f k * B k n) := by
  funext j
  idx_vars j
  pointwise [kProd, cv2_at, cb2]
  simp only [← EReal.coe_zero, ← EReal.coe_mul, ← EReal.coe_add, ← EReal.coe_sub, coe_sum]
  simp only [sub_self, zero_mul, Finset.sum_const_zero, add_zero]

/-- The three stacked blocks: the array, what rounding it leaves, and the array again. -/
def cat3 (v : Fin 64 → Fin 2048 → ℝ) (q : Fin 192) (n : Fin 2048) : ℝ :=
  if h : q.val < 64 then v ⟨q.val, h⟩ n else if h : q.val < 128 then 0 else v ⟨q.val - 128, by omega⟩ n

theorem kCat_val (v : Fin 64 → Fin 2048 → ℝ) : kCat (cv2 v) = cb2 (cat3 v) := by
  funext j
  idx_vars j
  pointwise [kCat, cv2_at, cb2]
  by_cases h : j0.val < 64
  · rw [dif_pos h, cat3, dif_pos h]
  · rw [dif_neg h, cat3, dif_neg h]
    by_cases h' : j0.val < 128
    · rw [dif_pos (by omega), dif_pos h', ← EReal.coe_sub, sub_self]
    · rw [dif_neg (by omega), dif_neg h']
      exact congrArg (fun i => ((v i j1 : ℝ) : EReal)) (Fin.ext (by show j0.val - 64 - 64 = j0.val - 128; omega))

/-- The product of the stacked blocks is the product of the unrounded ones. -/
theorem cat3_sum (C : Fin 64 → Fin 64 → ℝ) (v : Fin 64 → Fin 2048 → ℝ) (f : Fin 64) (n : Fin 2048) :
    ∑ q, convS C q f * cat3 v q n = ∑ g, C g f * v g n := by
  rw [Fin.sum_univ_tiles 3 64 rfl, Fin.sum_univ_three]
  have h0 : ∀ g : Fin 64, ((0 : Fin 3).val * 64 + g.val) = g.val := fun g => by simp
  have h1 : ∀ g : Fin 64, ((1 : Fin 3).val * 64 + g.val) = 64 + g.val := fun g => by simp
  have h2 : ∀ g : Fin 64, ((2 : Fin 3).val * 64 + g.val) = 128 + g.val := fun g => by simp
  have e0 : ∀ g : Fin 64, convS C ⟨(0 : Fin 3).val * 64 + g.val, by omega⟩ f * cat3 v ⟨(0 : Fin 3).val * 64 + g.val, by omega⟩ n = C g f * v g n := fun g => by
    simp only [h0, convS, cat3, g.isLt, dif_pos]
  have e1 : ∀ g : Fin 64, convS C ⟨(1 : Fin 3).val * 64 + g.val, by omega⟩ f * cat3 v ⟨(1 : Fin 3).val * 64 + g.val, by omega⟩ n = 0 := fun g => by
    have a : ¬ 64 + g.val < 64 := by omega
    have b : 64 + g.val < 128 := by omega
    simp only [h1, cat3, a, b, dif_neg, dif_pos, not_false_eq_true, mul_zero]
  have e2 : ∀ g : Fin 64, convS C ⟨(2 : Fin 3).val * 64 + g.val, by omega⟩ f * cat3 v ⟨(2 : Fin 3).val * 64 + g.val, by omega⟩ n = 0 := fun g => by
    have a : ¬ 128 + g.val < 64 := by omega
    have b : ¬ 128 + g.val < 128 := by omega
    simp only [h2, convS, a, b, dif_neg, not_false_eq_true, zero_mul]
  rw [Finset.sum_congr rfl fun g _ => e0 g, Finset.sum_congr rfl fun g _ => e1 g, Finset.sum_congr rfl fun g _ => e2 g]
  simp only [Finset.sum_const_zero, add_zero]

theorem kOut_val (C : Fin 192 → Fin 64 → ℝ) (q : Fin 192 → Fin 2048 → ℝ) :
    kOut (cb3 fun _ => C) (cb2 q) = cv2 (fun f n => max (∑ i, C i f * q i n) 0) := by
  funext j
  idx_vars j
  pointwise [kOut, cv2_at, cb2, cb3]
  simp only [← EReal.coe_zero, ← EReal.coe_mul, coe_sum, coe_max]

/-- A layer after its product. -/
theorem tail_val (keep bet : ℝ) (W : Fin 64 → Fin 64 → ℝ) (B : Fin 2048 → Fin 2048 → ℝ) (h x : Fin 2048 → Fin 64 → ℝ) (v : Fin 64 → Fin 2048 → ℝ)
    (hv : ∀ f n, v f n = ∑ k, x k f * dinvB B k * B k n) :
    kOut (cb3 fun _ => convS (convM keep bet W)) (kCat (kMix (kScale (cv2 v) (cv2 fun _ => dinvB B)) (cv2 fun f n => h n f)))
      = cv2 (fun f n => layer c9 c1 keep bet W B h x n f) := by
  rw [kScale_val, kMix_val, kCat_val, kOut_val]
  refine congrArg cv2 (funext fun f => funext fun n => ?_)
  rw [cat3_sum, convM_layer, layer]
  have hm : ∀ g, c9 * (v g n * dinvB B n) + c1 * h n g = mid c9 c1 B h x n g := fun g => by
    rw [mid, hv, Finset.sum_mul, mul_comm c9]
    refine congrArg (· * c9 + c1 * h n g) (Finset.sum_congr rfl fun k _ => ?_)
    ring
  simp only [hm]

theorem gen_val (keep bet : ℝ) (W : Fin 64 → Fin 64 → ℝ) (B : Fin 2048 → Fin 2048 → ℝ) (h x : Fin 2048 → Fin 64 → ℝ) :
    k2_pay41 (F := Ideal) (cv2 fun f n => h n f) (cv2 fun _ => dinvB B) (cb2 B) (cv2 fun f n => x n f) (cb3 fun _ => convS (convM keep bet W))
      = cv2 (fun f n => layer c9 c1 keep bet W B h x n f) := by
  rw [pay41, kScale_val, kProd_val]
  exact tail_val keep bet W B h x _ fun _ _ => rfl

theorem rank_val (keep bet : ℝ) (W : Fin 64 → Fin 64 → ℝ) (B : Fin 2048 → Fin 2048 → ℝ) (h x : Fin 2048 → Fin 64 → ℝ) (hB : ∀ k n, B k n = 1) :
    k2_pay40 (F := Ideal) k2_pay2 (cv2 fun f n => h n f) (cv2 fun _ => dinvB B) (cv2 fun f n => x n f) (cb3 fun _ => convS (convM keep bet W))
      = cv2 (fun f n => layer c9 c1 keep bet W B h x n f) := by
  rw [pay40, kScale_val, kOnes_val]
  exact tail_val keep bet W B h x _ fun f n => Finset.sum_congr rfl fun k _ => by rw [hB, mul_one]

theorem all_val (D : Fin 2048 → ℝ) (h : fAll (F := Ideal) (cv2 fun _ : Fin 1 => D) = 1#1) : ∑ n, D n = 4194304 := by
  unfold fAll k2_pay39 k2_pay38 k2_pay35 at h
  by_contra hn
  have h' : ((∑ n, D n : ℝ) : EReal) ≠ ((4194304 : ℝ) : EReal) := fun e => hn (EReal.coe_eq_coe_iff.mp e)
  revert h
  pointwise [cv2_at]
  rw [ofBits_nodes_sq]
  simp only [Fin.sum_univ_one, coe_sum]
  rw [decide_eq_false h']
  decide

theorem trips1 : k2_t1_loop.trips = 64 := by decide +kernel
theorem trips2 : k2_t2_loop.trips = 64 := by decide +kernel
theorem off1_at : ∀ k : Fin k2_t1_loop.trips, ∀ a, k2_off1 k a = ![k.val, 0, 0] a := by decide +kernel
theorem off2_at : ∀ k : Fin k2_t2_loop.trips, ∀ a, k2_off2 k a = ![k.val, 0, 0] a := by decide +kernel

/-- A layer's row of the stacked matrices. -/
theorem row_at (C : Fin 64 → Fin 192 → Fin 64 → ℝ) (k : Fin 64) (off : Fin 3 → ℕ) (inb) (ho : ∀ a, off a = ![k.val, 0, 0] a) :
    ldU (F := Ideal) (e := .bf16) (cb3 C) off S1x192x64.size inb = cb3 (fun _ : Fin 1 => C k) := by
  obtain rfl : off = ![k.val, 0, 0] := funext ho
  funext j
  idx_vars j
  obtain rfl : j0 = 0 := Subsingleton.elim _ _
  refine congrArg (cb3 C) (a₂ := ix3 _ _ _) (funext fun a => Fin.ext ?_)
  match a with
  | ⟨0, _⟩ => rfl
  | ⟨1, _⟩ => exact (Nat.zero_add _).trans (Nat.one_mul _)
  | ⟨2, _⟩ => exact (Nat.zero_add _).trans (Nat.one_mul _)

section
variable (keep bet : Fin 64 → ℝ) (W : Fin 64 → Fin 64 → Fin 64 → ℝ) (B : Fin 2048 → Fin 2048 → ℝ) (h : Fin 2048 → Fin 64 → ℝ)

/-- The layers' stacked matrices. -/
def convAll (l : Fin 64) : Fin 192 → Fin 64 → ℝ := convS (convM (keep l) (bet l) (W l))

theorem fGen_val : ∀ k, k ≤ 64 → fGen (F := Ideal) (cv2 fun f n => h n f) (cv2 fun _ => dinvB B) (cb2 B) (cb3 (convAll keep bet W)) k
    = cv2 (fun f n => hid c9 c1 keep bet W B h k n f)
  | 0, _ => rfl
  | k + 1, hk => by
    have hf : (Fin.ofNat 64 k).val = k := Nat.mod_eq_of_lt (by omega)
    have := fGen_succ (F := Ideal) (cv2 fun f n => h n f) (cv2 fun _ => dinvB B) (cb2 B) (cb3 (convAll keep bet W)) ⟨k, by rw [trips2]; omega⟩
    rw [this, fGen_val k (by omega), row_at _ (Fin.ofNat 64 k) _ _ (fun a => by rw [hf]; exact off2_at _ a)]
    exact gen_val _ _ _ _ _ _

theorem fRank_val (hB : ∀ k n, B k n = 1) : ∀ k, k ≤ 64 →
    fRank (F := Ideal) k2_pay2 (cv2 fun f n => h n f) (cv2 fun _ => dinvB B) (cb3 (convAll keep bet W)) k = cv2 (fun f n => hid c9 c1 keep bet W B h k n f)
  | 0, _ => rfl
  | k + 1, hk => by
    have hf : (Fin.ofNat 64 k).val = k := Nat.mod_eq_of_lt (by omega)
    have := fRank_succ (F := Ideal) k2_pay2 (cv2 fun f n => h n f) (cv2 fun _ => dinvB B) (cb3 (convAll keep bet W)) ⟨k, by rw [trips1]; omega⟩
    rw [this, fRank_val hB k (by omega), row_at _ (Fin.ofNat 64 k) _ _ (fun a => by rw [hf]; exact off1_at _ a)]
    exact rank_val _ _ _ _ _ _ hB

end

/-- A pattern's entries are ones and zeros, so a pattern whose entries sum to their number is all ones. -/
theorem pat_ones (A : Fin 2048 → Fin 2048 → Fin 5 → ℝ) (h : ∑ n, degB (pat A) n = 4194304) : ∀ k n, pat A k n = 1 := by
  have h01 : ∀ k n, pat A k n ≤ 1 := fun k n => by unfold pat; split_ifs <;> norm_num
  have hs : ∑ n : Fin 2048, ∑ k : Fin 2048, (1 - pat A k n) = 0 := by
    simp only [Finset.sum_sub_distrib]
    rw [show (∑ n, ∑ k, pat A k n) = 4194304 from h]
    simp
    norm_num
  intro k n
  have h1 := (Finset.sum_eq_zero_iff_of_nonneg (fun n _ => Finset.sum_nonneg fun k _ => sub_nonneg.mpr (h01 k n))).mp hs n (Finset.mem_univ _)
  have h2 := (Finset.sum_eq_zero_iff_of_nonneg (fun k _ => sub_nonneg.mpr (h01 k n))).mp h1 k (Finset.mem_univ _)
  linarith

/-- The layers' state at the end, whichever of the two loops runs. -/
theorem fHid_val (keep bet : Fin 64 → ℝ) (W : Fin 64 → Fin 64 → Fin 64 → ℝ) (A : Fin 2048 → Fin 2048 → Fin 5 → ℝ) (h : Fin 2048 → Fin 64 → ℝ) :
    fHid (F := Ideal) (cv2 fun f n => h n f) (cb2 (pat A)) (cv2 fun _ => degB (pat A)) (cb3 (convAll keep bet W))
      = cv2 (fun f n => hid c9 c1 keep bet W (pat A) h 64 n f) := by
  have h37 : k2_pay37 (F := Ideal) (cb2 (pat A)) = cb2 (pat A) := by
    funext j
    idx_vars j
    pointwise [k2_pay37]
  rw [fHid, dinv_val, h37, trips1]
  by_cases hc : fAll (F := Ideal) (cv2 fun _ : Fin 1 => degB (pat A)) = 1#1
  · rw [if_pos hc]
    exact fRank_val keep bet W (pat A) h (pat_ones A (all_val _ hc)) 64 le_rfl
  · rw [if_neg hc]
    exact fGen_val keep bet W (pat A) h 64 le_rfl

end Cert.KernelIdeal.Hand

end
-- ==== Proof.KHead.lean ====
module

public import proofs.«01_k».proof.Proof.KLayer

/-! The last call's classifier and its loss over arrays of reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

def kPre (W : FVec Ideal S64x64 .f32) (b : FVec Ideal S1x64 .f32) (x : FVec Ideal S64x2048 .f32) : FVec Ideal S64x2048 .f32 :=
  have b' : FVec Ideal S1x64 .f32 := shapeCast S1x64 b shapeCasts_S1x64_S1x64
  addf (matmul dot_S64x64_S64x2048_S64x2048_0_0_1_1_n_n (some .fp32) W x (constant S64x2048 .f32 0x00000000#32))
    (matmul dot_S1x64_S1x2048_S64x2048_0_0_1_1_n_n (some .fp32) b' k2_pay2 (constant S64x2048 .f32 0x00000000#32))

def kAct (z : FVec Ideal S64x2048 .f32) : FVec Ideal S64x2048 .f32 :=
  select (cmpf .oge z (broadcast S64x2048 (Scalar.ofBits .f32 0x00000000#32))) z (mulf (broadcast S64x2048 (Scalar.ofBits .f32 0x3C23D70A#32)) z)

/-- The rows that say which node a target is. -/
def kHot (i : FVec Ideal S1x256 .f32) : FVec Ideal S256x2048 .f32 :=
  have i' : FVec Ideal S1x256 .f32 := shapeCast S1x256 i shapeCasts_S1x256_S1x256
  have q : FVec Ideal S256x2048 .f32 := matmul dot_S1x256_S1x2048_S256x2048_0_0_1_1_n_n (some .fp32) i' (k2_pay2 (F := Ideal)) (constant S256x2048 .f32 0x00000000#32)
  sitofp .f32 (extui 32 (cmpf .oeq q (sitofp .f32 (iota .tc S256x2048 32 [1] iota_S256x2048_d1_w32))) natLt_1_32)

def kRow (hot : FVec Ideal S256x2048 .f32) (z : FVec Ideal S64x2048 .f32) : FVec Ideal S256x64 .f32 :=
  matmul dot_S256x2048_S64x2048_S256x64_1_1_0_0_n_n (some .fp32) hot z (constant S256x64 .f32 0x00000000#32)

theorem pay42 (x : FVec Ideal S64x2048 .f32) (W1 : FVec Ideal S64x64 .f32) (b1 : FVec Ideal S1x64 .f32) (W : FVec Ideal S64x64 .f32) (b : FVec Ideal S1x64 .f32)
    (i : FVec Ideal S1x256 .f32) : k2_pay42 k2_pay2 x W1 b1 W b i = kRow (kHot i) (kAct (kPre W b (kAct (kPre W1 b1 x)))) := rfl

/-- The rows that say which class a label is. -/
def kLabel (i : FVec Ideal S1x256 .f32) : FVec Ideal S256x32 .f32 :=
  have i' : FVec Ideal S1x256 .f32 := shapeCast S1x256 i shapeCasts_S1x256_S1x256
  have one : FVec Ideal S1x32 .f32 := broadcast S1x32 (Scalar.ofBits .f32 0x3F800000#32)
  have q : FVec Ideal S256x32 .f32 := matmul dot_S1x256_S1x32_S256x32_0_0_1_1_n_n (some .fp32) i' one (constant S256x32 .f32 0x00000000#32)
  sitofp .f32 (extui 32 (cmpf .oeq q (sitofp .f32 (iota .tc S256x32 32 [1] iota_S256x32_d1_w32))) natLt_1_32)

def kMax (y : FVec Ideal S256x32 .f32) : FVec Ideal S256x1 .f32 :=
  shapeCast S256x1 (multiReduction .maximumf [1] S256 y 0xFF800000#32 reduces_S256x32_S256 (.inl rfl) rfl) shapeCasts_S256_S256x1

def kSum (y : FVec Ideal S256x32 .f32) : FVec Ideal S256x1 .f32 :=
  shapeCast S256x1 (multiReduction .add [1] S256 y 0x00000000#32 reduces_S256x32_S256 (.inl rfl) rfl) shapeCasts_S256_S256x1

def kShift (y : FVec Ideal S256x32 .f32) (m : FVec Ideal S256x1 .f32) : FVec Ideal S256x32 .f32 := exp (subf y (broadcastTo S256x32 m broadcasts_S256x1_S256x32))

def kMean (x : FVec Ideal S256x1 .f32) : FVec Ideal S1x1 .f32 :=
  have s : FVec Ideal S1 .f32 := multiReduction .add [1, 2] S1 (shapeCast S1x256x1 x shapeCasts_S256x1_S1x256x1) 0x00000000#32 reduces_S1x256x1_S1 (.inl rfl) rfl
  broadcast S1x1 (Scalar.divf (extractAt ![0, 0, 0] (shapeCast S1x1x1 s shapeCasts_S1_S1x1x1) inpos_S1x1x1_p0_0_0) (Scalar.ofBits .f32 0x43800000#32))

theorem pay44 (g : FVec Ideal S256x64 .f32) (W : FVec Ideal S64x32 .f32) (b : FVec Ideal S1x32 .f32) (i : FVec Ideal S1x256 .f32) :
    k2_pay44 g W b i = kMean (subf (addf (kMax (k2_pay43 g W b)) (log (kSum (kShift (k2_pay43 g W b) (kMax (k2_pay43 g W b))))))
      (kSum (mulf (k2_pay43 g W b) (kLabel i)))) := rfl

theorem kDense_val (W : Fin 64 → Fin 64 → ℝ) (b : Fin 1 → Fin 64 → ℝ) (x : Fin 2048 → Fin 64 → ℝ) :
    kAct (kPre (cv2 W) (cv2 b) (cv2 fun f n => x n f)) = cv2 (fun f n => dense cLr W (b 0) x n f) := by
  have hp : kPre (cv2 W) (cv2 b) (cv2 fun f n => x n f) = cv2 (fun f n => (∑ g, x n g * W g f) + b 0 f) := by
    funext j
    idx_vars j
    pointwise [kPre, k2_pay2, cv2_at]
    simp only [← EReal.coe_one, ← EReal.coe_mul, ← EReal.coe_add, coe_sum, Fin.sum_univ_one, mul_one, mul_comm]
  rw [hp]
  funext j
  idx_vars j
  pointwise [kAct, cv2_at]
  simp only [cLr_eq, ← EReal.coe_zero, ← EReal.coe_mul, coe_ite, EReal.coe_le_coe_iff]
  simp only [dense, lr]

theorem hot_word {N : ℕ} (a b : Fin N) (hN : N ≤ 2 ^ 31) :
    FloatOps.sitofp (F := Ideal) FTy.f32 (BitVec.setWidth 32 (BitVec.ofBool (decide ((((a.val : ℝ) : EReal)) = FloatOps.sitofp (F := Ideal) FTy.f32 (BitVec.ofNat 32 b.val))))) =
      (((if a = b then 1 else 0 : ℝ)) : EReal) := by
  have hb : (BitVec.ofNat 32 b.val).toInt = (b.val : ℤ) := by
    rw [BitVec.toInt_eq_toNat_of_lt] <;> simp only [BitVec.toNat_ofNat] <;> have := b.isLt <;> omega
  have h1 : FloatOps.sitofp (F := Ideal) FTy.f32 (BitVec.ofNat 32 b.val) = ((b.val : ℝ) : EReal) := by
    show (((BitVec.ofNat 32 b.val).toInt : ℝ) : EReal) = _
    rw [hb, Int.cast_natCast]
  rw [h1]
  by_cases h : a = b
  · subst h
    rw [if_pos rfl, decide_eq_true rfl]
    show (((BitVec.setWidth 32 (BitVec.ofBool true)).toInt : ℝ) : EReal) = _
    rw [show (BitVec.setWidth 32 (BitVec.ofBool true)).toInt = 1 from by decide, Int.cast_one]
  · have h' : ¬ ((a.val : ℝ) : EReal) = ((b.val : ℝ) : EReal) := fun e => h (Fin.ext (by exact_mod_cast e))
    rw [if_neg h, decide_eq_false h']
    show (((BitVec.setWidth 32 (BitVec.ofBool false)).toInt : ℝ) : EReal) = _
    norm_num

theorem kHot_val (tx : Fin 256 → Fin 2048) : kHot (cv2 fun _ t => ((tx t).val : ℝ)) = cv2 (fun t n => if tx t = n then 1 else 0) := by
  funext j
  idx_vars j
  pointwise [kHot, k2_pay2, cv2_at]
  rw [Fin.sum_univ_one]
  exact hot_word (tx j0) j1 (by decide)

theorem kLabel_val (tg : Fin 256 → Fin 32) : kLabel (cv2 fun _ t => ((tg t).val : ℝ)) = cv2 (fun t n => if tg t = n then 1 else 0) := by
  funext j
  idx_vars j
  pointwise [kLabel, cv2_at]
  rw [Fin.sum_univ_one]
  exact hot_word (tg j0) j1 (by decide)

theorem kRow_val (z : Fin 2048 → Fin 64 → ℝ) (tx : Fin 256 → Fin 2048) :
    kRow (cv2 fun t n => if tx t = n then 1 else 0) (cv2 fun f n => z n f) = cv2 (fun t g => z (tx t) g) := by
  funext j
  idx_vars j
  pointwise [kRow, cv2_at]
  simp only [← EReal.coe_mul, coe_sum]
  refine congrArg _ ?_
  rw [Finset.sum_eq_single (tx j0)]
  · simp
  · intro n _ hn; simp [Ne.symm hn]
  · simp

theorem kScore_val (z : Fin 2048 → Fin 64 → ℝ) (W : Fin 64 → Fin 32 → ℝ) (b : Fin 1 → Fin 32 → ℝ) (tx : Fin 256 → Fin 2048) :
    k2_pay43 (F := Ideal) (cv2 fun t g => z (tx t) g) (cv2 W) (cv2 b) = cv2 (score z W (b 0) tx) := by
  funext j
  idx_vars j
  pointwise [k2_pay43, cv2_at]
  simp only [← EReal.coe_mul, ← EReal.coe_add, coe_sum]
  rfl

theorem fold_max {n : ℕ} (w : Fin (n + 1) → ℝ) : ∃ m : ℝ, Finset.univ.fold max (⊥ : EReal) (fun k => ((w k : ℝ) : EReal)) = ((m : ℝ) : EReal) := by
  have h : ∀ s : Finset (Fin (n + 1)), s.fold max (⊥ : EReal) (fun k => ((w k : ℝ) : EReal)) = ⊥ ∧ s = ∅ ∨ ∃ m : ℝ, s.fold max (⊥ : EReal) (fun k => ((w k : ℝ) : EReal)) = ((m : ℝ) : EReal) := by
    intro s
    induction s using Finset.induction_on with
    | empty => exact Or.inl ⟨rfl, rfl⟩
    | insert a s ha ih =>
      right
      rw [Finset.fold_insert ha]
      rcases ih with ⟨h, _⟩ | ⟨m, h⟩
      · exact ⟨w a, by rw [h, max_eq_left bot_le]⟩
      · exact ⟨max (w a) m, by rw [h, coe_max]⟩
  rcases h Finset.univ with ⟨_, h⟩ | h
  · exact absurd h Finset.univ_nonempty.ne_empty
  · exact h

theorem kMax_val (y : Fin 256 → Fin 32 → ℝ) : ∃ m : Fin 256 → ℝ, kMax (cv2 y) = cv2 (fun t _ => m t) := by
  choose m hm using fun t => fold_max (y t)
  refine ⟨m, ?_⟩
  funext j
  idx_vars j
  pointwise [kMax, cv2_at]
  rw [ofBits_bot]
  exact hm j0

theorem kSum_val (y : Fin 256 → Fin 32 → ℝ) : kSum (cv2 y) = cv2 (fun t _ => ∑ o, y t o) := by
  funext j
  idx_vars j
  pointwise [kSum, cv2_at]
  simp only [coe_sum]

theorem kShift_val (y : Fin 256 → Fin 32 → ℝ) (m : Fin 256 → ℝ) : kShift (cv2 y) (cv2 fun t _ => m t) = cv2 (fun t o => Real.exp (y t o - m t)) := by
  funext j
  idx_vars j
  pointwise [kShift, cv2_at]
  rw [← EReal.coe_sub, Ideal.exp_coe]

theorem kMean_val (x : Fin 256 → ℝ) : kMean (cv2 fun t _ => x t) = fun _ => (((∑ t, x t) / 256 : ℝ) : EReal) := by
  funext j
  idx_vars j
  pointwise [kMean, cv2_at]
  simp only [Fin.sum_univ_one, coe_sum]
  rw [ofBits_256, coe_div _ (by norm_num)]

/-- The shift by a row's maximum leaves the logarithm of the sum where it was. -/
theorem log_shift (y : Fin 32 → ℝ) (m : ℝ) : m + Real.log (∑ o, Real.exp (y o - m)) = Real.log (∑ o, Real.exp (y o)) := by
  have hs : 0 < ∑ o, Real.exp (y o) := Finset.sum_pos (fun o _ => Real.exp_pos _) Finset.univ_nonempty
  have h : (∑ o, Real.exp (y o - m)) = (∑ o, Real.exp (y o)) * Real.exp (-m) := by
    rw [Finset.sum_mul]
    exact Finset.sum_congr rfl fun o _ => by rw [sub_eq_add_neg, Real.exp_add]
  rw [h, Real.log_mul hs.ne' (Real.exp_ne_zero _), Real.log_exp]
  ring

theorem kInner_val (y : Fin 256 → Fin 32 → ℝ) (m : Fin 256 → ℝ) (tg : Fin 256 → Fin 32) :
    subf (addf (cv2 fun t (_ : Fin 1) => m t : FVec Ideal S256x1 .f32) (log (cv2 fun t (_ : Fin 1) => ∑ o, Real.exp (y t o - m t))))
      (cv2 fun t (_ : Fin 1) => y t (tg t)) = cv2 (fun t _ => Real.log (∑ o, Real.exp (y t o)) - y t (tg t)) := by
  funext j
  idx_vars j
  pointwise [cv2_at]
  have hs : 0 < ∑ o, Real.exp (y j0 o - m j0) := Finset.sum_pos (fun o _ => Real.exp_pos _) Finset.univ_nonempty
  rw [Ideal.log_coe, if_neg hs.not_ge, ← EReal.coe_add, ← EReal.coe_sub, log_shift]

theorem kPick_val (y : Fin 256 → Fin 32 → ℝ) (tg : Fin 256 → Fin 32) :
    kSum (mulf (cv2 y) (cv2 fun t n => if tg t = n then 1 else 0)) = cv2 (fun t _ => y t (tg t)) := by
  have h : (mulf (cv2 y) (cv2 fun t n => if tg t = n then 1 else 0) : FVec Ideal S256x32 .f32) = cv2 (fun t o => y t o * if tg t = o then 1 else 0) := by
    funext j
    idx_vars j
    pointwise [cv2_at]
    rw [← EReal.coe_mul]
  rw [h, kSum_val]
  refine congrArg cv2 (funext fun t => funext fun _ => ?_)
  rw [Finset.sum_eq_single (tg t)]
  · simp
  · intro n _ hn; simp [Ne.symm hn]
  · simp

theorem fZ_val (x : Fin 2048 → Fin 64 → ℝ) (W1 : Fin 64 → Fin 64 → ℝ) (b1 : Fin 1 → Fin 64 → ℝ) (W : Fin 64 → Fin 64 → ℝ) (b : Fin 1 → Fin 64 → ℝ) (tx : Fin 256 → Fin 2048) :
    fZ (F := Ideal) (cv2 fun f n => x n f) (cv2 W1) (cv2 b1) (cv2 W) (cv2 b) (cv2 fun _ t => ((tx t).val : ℝ)) =
      cv2 (fun t g => dense cLr W (b 0) (dense cLr W1 (b1 0) x) (tx t) g) := by
  rw [fZ, pay42, kDense_val W1 b1 x, kDense_val, kHot_val, kRow_val]

/-- The first array of the last call that is the scores' rows, from what the calls before it and the arguments give. -/
theorem fZ_args (a : Args) (keep bet : Fin 64 → ℝ) :
    fZ (fHid (fH0 (rows64 (cv3 fun e f n => ∑ k, a.p k f * a.A k n e)) (rows1 (cv3 fun e (_ : Fin 1) n => ∑ k, a.A k n e)) (rows1 (cv3 fun e (_ : Fin 1) n => a.A n n e))
      (cv2 fun f n => a.p n f) (cv2 fun g n => a.X n g) (cv2 a.aw) (cv2 a.ab) (cv2 a.aq) (cv2 a.W0) (cv2 fun (_ : Fin 1) => a.b0))
      (cb2 (pat a.A)) (cv2 fun (_ : Fin 1) => degB (pat a.A)) (cb3 (convAll keep bet a.cW))) (cv2 a.W1) (cv2 fun (_ : Fin 1) => a.b1) (cv2 a.L1) (cv2 fun (_ : Fin 1) => a.d1)
      (cv2 fun (_ : Fin 1) t => ((a.tx t).val : ℝ)) = cv2 (fun t g => a.z keep bet (a.tx t) g) := by
  rw [fH0_val, fHid_val keep bet a.cW a.A a.h, fZ_val]
  rfl

theorem fY_val (a : Args) (keep bet : Fin 64 → ℝ) (x20 : Vec Ideal S1x256 .f32) :
    fY (cv3 fun e f n => ∑ k, a.p k f * a.A k n e) (cv3 fun e (_ : Fin 1) n => ∑ k, a.A k n e) (cv3 fun e (_ : Fin 1) n => a.A n n e)
      (cv2 fun f n => a.p n f) (cv2 fun g n => a.X n g) (cb2 (pat a.A)) (cv2 fun (_ : Fin 1) => degB (pat a.A)) (cv2 a.aw) (cv2 a.ab) (cv2 a.aq) (cv2 a.W0) (cv2 fun (_ : Fin 1) => a.b0)
      (cb3 (convAll keep bet a.cW)) (cv2 a.W1) (cv2 fun (_ : Fin 1) => a.b1) (cv2 a.L1) (cv2 fun (_ : Fin 1) => a.d1) (cv2 a.L2) (cv2 fun (_ : Fin 1) => a.d2)
      (cv2 fun (_ : Fin 1) t => ((a.tx t).val : ℝ)) x20 = cv2 (a.y keep bet) := by
  rw [fY, fZ_args]
  exact kScore_val (a.z keep bet) a.L2 (fun _ => a.d2) a.tx

theorem fN_val (a : Args) (keep bet : Fin 64 → ℝ) :
    fN (F := Ideal) (cv3 fun e f n => ∑ k, a.p k f * a.A k n e) (cv3 fun e (_ : Fin 1) n => ∑ k, a.A k n e) (cv3 fun e (_ : Fin 1) n => a.A n n e)
      (cv2 fun f n => a.p n f) (cv2 fun g n => a.X n g) (cb2 (pat a.A)) (cv2 fun (_ : Fin 1) => degB (pat a.A)) (cv2 a.aw) (cv2 a.ab) (cv2 a.aq) (cv2 a.W0) (cv2 fun (_ : Fin 1) => a.b0)
      (cb3 (convAll keep bet a.cW)) (cv2 a.W1) (cv2 fun (_ : Fin 1) => a.b1) (cv2 a.L1) (cv2 fun (_ : Fin 1) => a.d1) (cv2 a.L2) (cv2 fun (_ : Fin 1) => a.d2)
      (cv2 fun (_ : Fin 1) t => ((a.tx t).val : ℝ)) (cv2 fun (_ : Fin 1) t => ((a.tg t).val : ℝ)) = (fun _ => ((nll (a.y keep bet) a.tg : ℝ) : EReal) : FVec Ideal S1x1 .f32) := by
  rw [fN, fZ_args, pay44]
  have hy : k2_pay43 (F := Ideal) (cv2 fun t g => a.z keep bet (a.tx t) g) (cv2 a.L2) (cv2 fun (_ : Fin 1) => a.d2) = cv2 (a.y keep bet) :=
    kScore_val (a.z keep bet) a.L2 (fun _ => a.d2) a.tx
  rw [hy]
  obtain ⟨m, hm⟩ := kMax_val (a.y keep bet)
  rw [hm, kShift_val, kSum_val, kLabel_val, kPick_val, kInner_val, kMean_val]
  rfl

end Cert.KernelIdeal.Hand

end
-- ==== Proof.KSweep.lean ====
module

public import proofs.«01_k».proof.Proof.KHead

/-! What one point of the second call computes of its two blocks, over arrays of reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

/-- Row `r` of the block and column `c` of it are one node. -/
def onDiag (i : grid1.Coords) (r c : Fin 512) : Prop := r.val + 512 * (i 1).val = c.val + 512 * (i 0).val

instance (i : grid1.Coords) (r c : Fin 512) : Decidable (onDiag i r c) := inferInstanceAs (Decidable (_ = _))

/-- One block of the mask. -/
def maskB (i : grid1.Coords) (B : Fin 5 → Fin 512 → Fin 512 → ℝ) (r c : Fin 512) : ℝ := if onDiag i r c then 1 else if ∑ e, B e r c ≠ 0 then 1 else 0

variable (i : grid1.Coords) (B : Fin 5 → Fin 512 → Fin 512 → ℝ) (x : Fin 64 → Fin 512 → ℝ)

theorem diag_word (r c : Fin 512) : k1_pay13 i (ix2 r c) = BitVec.ofBool (decide (onDiag i r c)) := by
  pointwise [k1_pay13]
  have h0 : (i 0).val < 4 := (i 0).isLt
  have h1 : (i 1).val < 4 := (i 1).isLt
  show BitVec.ofBool (BitVec.ofNat 32 r.val + BitVec.ofNat 32 (i 1).val * 512#32 == BitVec.ofNat 32 c.val + BitVec.ofNat 32 (i 0).val * 512#32) = _
  refine congrArg _ (Bool.eq_iff_iff.mpr ?_)
  rw [beq_iff_eq, decide_eq_true_iff, onDiag, ← BitVec.toNat_inj]
  simp only [BitVec.toNat_add, BitVec.toNat_mul, BitVec.toNat_ofNat]
  have := r.isLt
  have := c.isLt
  omega

theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

theorem sweepT0_val : sweepT0 (F := Ideal) (cv3 B) (cv2 x) = cv3 (fun e f p => ∑ k, x f k * B e k p) := by
  funext j
  idx_vars j
  fin_cases j0 <;> pointwise [sweepT0, k1_pay1, k1_pay21, k1_pay24, k1_pay26, k1_pay27, k1_pay28, k1_pay12, k1_pay14, k1_pay16, k1_pay18, k1_pay20, k1_pay23, k1_pay11, cv3_at, cv2_at] <;>
  simp only [← EReal.coe_mul, coe_sum] <;> rfl

theorem sweepT_val (o : Fin 5 → Fin 64 → Fin 512 → ℝ) : sweepT (F := Ideal) (cv3 B) (cv2 x) (cv3 o) = cv3 (fun e f p => o e f p + ∑ k, x f k * B e k p) := by
  have h : sweepT (F := Ideal) (cv3 B) (cv2 x) (cv3 o) = addf (shapeCast S5x64x512 (cv3 o : FVec Ideal S5x64x512 .f32) shapeCasts_S5x64x512_S5x64x512) (sweepT0 (cv3 B) (cv2 x)) := rfl
  rw [h, sweepT0_val]
  funext j
  idx_vars j
  pointwise [cv3_at]
  rw [← EReal.coe_add]

theorem sweepC0_val : sweepC0 (F := Ideal) (cv3 B) = cv3 (fun e _ p => ∑ k, B e k p) := by
  funext j
  idx_vars j
  fin_cases j0 <;> pointwise [sweepC0, k1_pay2, k1_pay15, k1_pay17, k1_pay19, k1_pay22, k1_pay25, k1_pay14, k1_pay16, k1_pay18, k1_pay20, k1_pay23, k1_pay11, cv3_at] <;>
  simp only [coe_sum] <;> rfl

theorem sweepC_val (o : Fin 5 → Fin 1 → Fin 512 → ℝ) : sweepC (F := Ideal) (cv3 B) (cv3 o) = cv3 (fun e z p => o e z p + ∑ k, B e k p) := by
  have h : sweepC (F := Ideal) (cv3 B) (cv3 o) = addf (shapeCast S5x1x512 (cv3 o : FVec Ideal S5x1x512 .f32) shapeCasts_S5x1x512_S5x1x512) (sweepC0 (cv3 B)) := rfl
  rw [h, sweepC0_val]
  funext j
  idx_vars j
  pointwise [cv3_at]
  rw [← EReal.coe_add]

theorem sweepG_val : sweepG (F := Ideal) i (cv3 B) = cv3 (fun e _ p => ∑ k, if onDiag i k p then B e k p else 0) := by
  funext j
  idx_vars j
  fin_cases j0 <;> pointwise [sweepG, k1_pay10, k1_pay11, cv3_at] <;>
  simp only [diag_word, select_ofBool, ← EReal.coe_zero, coe_ite, coe_sum] <;> rfl

theorem ofBits_fifth : Ideal.ofBits .f32 0x3E4CCCCD#32 = ((13421773 / 67108864 : ℝ) : EReal) := by
  simp [Ideal.ofBits, Ideal.ieee, -EReal.coe_mul, -EReal.coe_neg]; norm_num

theorem mask_val : k1_pay3 (F := Ideal) (k1_pay11 (cv3 B)) (k1_pay13 i) = cv2 (maskB i B) := by
  funext j
  idx_vars j
  pointwise [k1_pay3, k1_pay11, cv3_at]
  rw [diag_word, select_ofBool, cv2_at, coe_sum, ofBits_fifth, ← EReal.coe_mul, maskB]
  by_cases h : onDiag i j0 j1
  · rw [if_pos h, if_pos h, EReal.coe_one]
  rw [if_neg h, if_neg h]
  by_cases hs : ∑ e, B e j0 j1 = 0
  · rw [hs, if_neg (not_not.mpr rfl), zero_mul, decide_eq_false (not_not.mpr EReal.coe_zero)]
    show (((BitVec.setWidth 32 (BitVec.ofBool false)).toInt : ℝ) : EReal) = _
    norm_num
  · have h' : ¬ (((∑ e, B e j0 j1) * (13421773 / 67108864) : ℝ) : EReal) = 0 := by
      rw [← EReal.coe_zero, EReal.coe_eq_coe_iff]
      exact mul_ne_zero hs (by norm_num)
    rw [if_pos hs, decide_eq_true h']
    show (((BitVec.setWidth 32 (BitVec.ofBool true)).toInt : ℝ) : EReal) = _
    rw [show (BitVec.setWidth 32 (BitVec.ofBool true)).toInt = 1 from by decide, Int.cast_one]

theorem sweepB_val : sweepB (F := Ideal) i (cv3 B) = cb2 (maskB i B) := by
  have h : sweepB (F := Ideal) i (cv3 B) = truncf .bf16 (k1_pay3 (F := Ideal) (k1_pay11 (cv3 B)) (k1_pay13 i)) bitsLt_bf16_f32 := rfl
  rw [h, mask_val]
  rfl

theorem sweepD0_val : sweepD0 (F := Ideal) i (cv3 B) = cv2 (fun _ c => ∑ r, maskB i B r c) := by
  have h : sweepD0 (F := Ideal) i (cv3 B) = shapeCast S1x512 (multiReduction .add [0] S512 (k1_pay3 (F := Ideal) (k1_pay11 (cv3 B)) (k1_pay13 i)) 0x00000000#32 reduces_S512x512_S512 (.inl rfl) rfl) shapeCasts_S512_S1x512 := rfl
  rw [h, mask_val]
  funext j
  idx_vars j
  pointwise [cv2_at]
  simp only [coe_sum]

theorem sweepD_val (o : Fin 1 → Fin 512 → ℝ) : sweepD (F := Ideal) i (cv3 B) (cv2 o) = cv2 (fun z c => o z c + ∑ r, maskB i B r c) := by
  have h : sweepD (F := Ideal) i (cv3 B) (cv2 o) = addf (shapeCast S1x512 (cv2 o : FVec Ideal S1x512 .f32) shapeCasts_S1x512_S1x512) (sweepD0 i (cv3 B)) := rfl
  rw [h, sweepD0_val]
  funext j
  idx_vars j
  pointwise [cv2_at]
  rw [← EReal.coe_add]

end Cert.KernelIdeal.Hand

end
-- ==== Proof.FinalBody.lean ====
/- The third pallas_call's proof data: the inputs as they were, the outputs at the two functions of Final.lean. -/
module

public import proofs.«01_k».proof.Proof.Final
public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionArraysS
public import Idealize.ShloMosaic.Lib.WholeRead
public import Idealize.ShloMosaic.Lib.VecWindow
public import Idealize.ShloMosaic.Lib.Tactic
public import Idealize.ShloMosaic.Lib.Exec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F))

/-- Window `w`'s block at point `t`, of the arrays as the region finds them. -/
def blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

def dat2 (c : Dev nD) : Dat τ (Elt F) Unit ℕ (UR sig nD τ) ℕ cfg2 c where
  A w := V c (Proc.devRef .tc (Pipeline.arrRef spec2 w))
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => blk2 V c 11 t
    | ⟨12, _⟩ => blk2 V c 12 t
    | ⟨13, _⟩ => blk2 V c 13 t
    | ⟨14, _⟩ => blk2 V c 14 t
    | ⟨15, _⟩ => blk2 V c 15 t
    | ⟨16, _⟩ => blk2 V c 16 t
    | ⟨17, _⟩ => blk2 V c 17 t
    | ⟨18, _⟩ => blk2 V c 18 t
    | ⟨19, _⟩ => blk2 V c 19 t
    | ⟨20, _⟩ => blk2 V c 20 t
    | ⟨21, _⟩ => fN (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (blk2 V c 16 t) (blk2 V c 17 t) (blk2 V c 18 t) (blk2 V c 19 t) (blk2 V c 20 t)
    | ⟨22, _⟩ => fY (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (blk2 V c 16 t) (blk2 V c 17 t) (blk2 V c 18 t) (blk2 V c 19 t) (blk2 V c 20 t)
    | ⟨n + 23, h⟩ => absurd h (Nat.not_lt.mpr (Nat.le_add_left 23 n))
  Φ _ := Pipeline.ΦA spec2 c
  q _ := fullShare
  owed _ := 0

theorem before2_0 (c : Dev nD) (t : Fin cfg2.N) (d) : (dat2 V c).before 0 t d = blk2 V c 0 t := by
  obtain rfl := fin_N2 t
  unfold Dat.before; rw [if_pos (by decide)]; rfl
theorem before2_1 (c : Dev nD) (t : Fin cfg2.N) (d) : (dat2 V c).before 1 t d = blk2 V c 1 t := by
  obtain rfl := fin_N2 t
  unfold Dat.before; rw [if_pos (by decide)]; rfl
theorem before2_2 (c : Dev nD) (t : Fin cfg2.N) (d) : (dat2 V c).before 2 t d = blk2 V c 2 t := by
  obtain rfl := fin_N2 t
  unfold Dat.before; rw [if_pos (by decide)]; rfl
theorem before2_3 (c : Dev nD) (t : Fin cfg2.N) (d) : (dat2 V c).before 3 t d = blk2 V c 3 t := by
  obtain rfl := fin_N2 t
  unfold Dat.before; rw [if_pos (by decide)]; rfl
theorem before2_4 (c : Dev nD) (t : Fin cfg2.N) (d) : (dat2 V c).before 4 t d = blk2 V c 4 t := by
  obtain rfl := fin_N2 t
  unfold Dat.before; rw [if_pos (by decide)]; rfl
theorem before2_5 (c : Dev nD) (t : Fin cfg2.N) (d) : (dat2 V c).before 5 t d = blk2 V c 5 t := by
  obtain rfl := fin_N2 t
  unfold Dat.before; rw [if_pos (by decide)]; rfl
theorem before2_6 (c : Dev nD) (t : Fin cfg2.N) (d) : (dat2 V c).before 6 t d = blk2 V c 6 t := by
  obtain rfl := fin_N2 t
  unfold Dat.before; rw [if_pos (by decide)]; rfl
theorem before2_7 (c : Dev nD) (t : Fin cfg2.N) (d) : (dat2 V c).before 7 t d = blk2 V c 7 t := by
  obtain rfl := fin_N2 t
  unfold Dat.before; rw [if_pos (by decide)]; rfl
theorem before2_8 (c : Dev nD) (t : Fin cfg2.N) (d) : (dat2 V c).before 8 t d = blk2 V c 8 t := by
  obtain rfl := fin_N2 t
  unfold Dat.before; rw [if_pos (by decide)]; rfl
theorem before2_9 (c : Dev nD) (t : Fin cfg2.N) (d) : (dat2 V c).before 9 t d = blk2 V c 9 t := by
  obtain rfl := fin_N2 t
  unfold Dat.before; rw [if_pos (by decide)]; rfl
theorem before2_10 (c : Dev nD) (t : Fin cfg2.N) (d) : (dat2 V c).before 10 t d = blk2 V c 10 t := by
  obtain rfl := fin_N2 t
  unfold Dat.before; rw [if_pos (by decide)]; rfl
theorem before2_11 (c : Dev nD) (t : Fin cfg2.N) (d) : (dat2 V c).before 11 t d = blk2 V c 11 t := by
  obtain rfl := fin_N2 t
  unfold Dat.before; rw [if_pos (by decide)]; rfl
theorem before2_12 (c : Dev nD) (t : Fin cfg2.N) (d) : (dat2 V c).before 12 t d = blk2 V c 12 t := by
  obtain rfl := fin_N2 t
  unfold Dat.before; rw [if_pos (by decide)]; rfl
theorem before2_13 (c : Dev nD) (t : Fin cfg2.N) (d) : (dat2 V c).before 13 t d = blk2 V c 13 t := by
  obtain rfl := fin_N2 t
  unfold Dat.before; rw [if_pos (by decide)]; rfl
theorem before2_14 (c : Dev nD) (t : Fin cfg2.N) (d) : (dat2 V c).before 14 t d = blk2 V c 14 t := by
  obtain rfl := fin_N2 t
  unfold Dat.before; rw [if_pos (by decide)]; rfl
theorem before2_15 (c : Dev nD) (t : Fin cfg2.N) (d) : (dat2 V c).before 15 t d = blk2 V c 15 t := by
  obtain rfl := fin_N2 t
  unfold Dat.before; rw [if_pos (by decide)]; rfl
theorem before2_16 (c : Dev nD) (t : Fin cfg2.N) (d) : (dat2 V c).before 16 t d = blk2 V c 16 t := by
  obtain rfl := fin_N2 t
  unfold Dat.before; rw [if_pos (by decide)]; rfl
theorem before2_17 (c : Dev nD) (t : Fin cfg2.N) (d) : (dat2 V c).before 17 t d = blk2 V c 17 t := by
  obtain rfl := fin_N2 t
  unfold Dat.before; rw [if_pos (by decide)]; rfl
theorem before2_18 (c : Dev nD) (t : Fin cfg2.N) (d) : (dat2 V c).before 18 t d = blk2 V c 18 t := by
  obtain rfl := fin_N2 t
  unfold Dat.before; rw [if_pos (by decide)]; rfl
theorem before2_19 (c : Dev nD) (t : Fin cfg2.N) (d) : (dat2 V c).before 19 t d = blk2 V c 19 t := by
  obtain rfl := fin_N2 t
  unfold Dat.before; rw [if_pos (by decide)]; rfl
theorem before2_20 (c : Dev nD) (t : Fin cfg2.N) (d) : (dat2 V c).before 20 t d = blk2 V c 20 t := by
  obtain rfl := fin_N2 t
  unfold Dat.before; rw [if_pos (by decide)]; rfl

theorem body2_row (t : Fin cfg2.N) :
    defs₀ (F := F) .tc cfg2.body (cfg2.bodyArgs t (cfg2.slots t)) = bodyAt2 t := by
  unfold defs₀; rw [Defs.onTc_tc]

set_option maxHeartbeats 2000000 in
theorem body2 (c : Dev nD) : BodyObligation (dat2 V c) (defs₀ (F := F)) Variants.none () Set.univ := fun t => by
  rw [bigSep_W2, bigSep_W2, body2_row]
  simp only [before2_0, before2_1, before2_2, before2_3, before2_4, before2_5, before2_6, before2_7, before2_8, before2_9, before2_10, before2_11, before2_12, before2_13, before2_14, before2_15, before2_16, before2_17, before2_18, before2_19, before2_20]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  by_cases hc : fAll (blk2 V c 6 t) = 1#1
  · iapply (final_run_rank c _ _ _ _ _ _ _ _ _ _ _ _ _ _ _ _ _ _ _ _ _ _ _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (blk2 V c 16 t) (blk2 V c 17 t) (blk2 V c 18 t) (blk2 V c 19 t) (blk2 V c 20 t) hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexists _; iexact H21
    isplitl [H22]; · iexists _; iexact H22
    iintro ⟨H0, H1, H2, H3, H4, H5, H6, H7, H8, H9, H10, H11, H12, H13, H14, H15, H16, H17, H18, H19, H20, H21, H22⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iapply (final_run_gen c _ _ _ _ _ _ _ _ _ _ _ _ _ _ _ _ _ _ _ _ _ _ _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (blk2 V c 16 t) (blk2 V c 17 t) (blk2 V c 18 t) (blk2 V c 19 t) (blk2 V c 20 t) hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexists _; iexact H21
    isplitl [H22]; · iexists _; iexact H22
    iintro ⟨H0, H1, H2, H3, H4, H5, H6, H7, H8, H9, H10, H11, H12, H13, H14, H15, H16, H17, H18, H19, H20, H21, H22⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.KernelIdeal.Hand

end
-- ==== Proof.Run.lean ====
/- The whole program's run: the host stretches and the three pallas_calls in order, each leaving the device's unscoped buffers
   at a valuation (`W1` … `W6`); the arguments end as launched and the two results at `W6`. -/
module

public import proofs.«01_k».proof.Proof.FinalBody
public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionArraysS
public import Idealize.ShloMosaic.Lib.WholeRead
public import Idealize.ShloMosaic.Lib.VecWindow
public import Idealize.ShloMosaic.Lib.Tactic
public import Idealize.ShloMosaic.Lib.Exec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.Pipeline (RegionSeg HostSeg Seg)

variable (m : (ℓ : Loc nD τ sig) → Buf (Elt F) ℓ) (ρ : Dev nD → PrngReg)

/-! ## What the buffers hold between the items -/

abbrev W1 (c : Dev nD) : Valuation τ sig (Elt F) := V1 m c
def W2 (c : Dev nD) : Valuation τ sig (Elt F) := Pipeline.afterRegion (dat0 (W1 m) c) (W1 m c)
def W3 (c : Dev nD) : Valuation τ sig (Elt F) := Pipeline.afterRegion (dat1 (W2 m) c) (W2 m c)
def W4 (c : Dev nD) : Valuation τ sig (Elt F) := StableHlo.after hostOps2 (W3 m c)
def W5 (c : Dev nD) : Valuation τ sig (Elt F) := Pipeline.afterRegion (dat2 (W4 m) c) (W4 m c)
def W6 (c : Dev nD) : Valuation τ sig (Elt F) := StableHlo.after hostOps3 (W5 m c)

theorem W2_keeps (c : Dev nD) (r : Ref sig .tc) (h : ∀ w, Pipeline.arrRef spec0 w = r → (cfg0.win w).isOut = false) : W2 m c r = W1 m c r :=
  Pipeline.afterRegion_keeps (dat0 (W1 m) c) (W1 m c) launch0.win.arr_inj (fun _ => rfl) r h
theorem W3_keeps (c : Dev nD) (r : Ref sig .tc) (h : ∀ w, Pipeline.arrRef spec1 w = r → (cfg1.win w).isOut = false) : W3 m c r = W2 m c r :=
  Pipeline.afterRegion_keeps (dat1 (W2 m) c) (W2 m c) launch1.win.arr_inj (fun _ => rfl) r h
theorem W4_keeps (c : Dev nD) (r : Ref sig .tc) (h : r ∉ hostOps2_W) : W4 m c r = W3 m c r :=
  StableHlo.after_of_writes_sub hostOps2 _ hostOps2_writes h
theorem W5_keeps (c : Dev nD) (r : Ref sig .tc) (h : ∀ w, Pipeline.arrRef spec2 w = r → (cfg2.win w).isOut = false) : W5 m c r = W4 m c r :=
  Pipeline.afterRegion_keeps (dat2 (W4 m) c) (W4 m c) launch2.win.arr_inj (fun _ => rfl) r h
theorem W6_keeps (c : Dev nD) (r : Ref sig .tc) (h : r ∉ hostOps3_W) : W6 m c r = W5 m c r :=
  StableHlo.after_of_writes_sub hostOps3 _ hostOps3_writes h

/-- A buffer no item writes, before the third pallas_call and at the end. -/
theorem W4_arg (c : Dev nD) (r : Ref sig .tc) (h0 : r ∉ hostOps0_W) (h1 : ∀ w, Pipeline.arrRef spec0 w = r → (cfg0.win w).isOut = false)
    (h2 : ∀ w, Pipeline.arrRef spec1 w = r → (cfg1.win w).isOut = false) (h3 : r ∉ hostOps2_W) : W4 m c r = V0 m c r :=
  (W4_keeps m c r h3).trans ((W3_keeps m c r h2).trans ((W2_keeps m c r h1).trans (V1_of m c r h0)))
theorem W6_arg (c : Dev nD) (r : Ref sig .tc) (h0 : r ∉ hostOps0_W) (h1 : ∀ w, Pipeline.arrRef spec0 w = r → (cfg0.win w).isOut = false)
    (h2 : ∀ w, Pipeline.arrRef spec1 w = r → (cfg1.win w).isOut = false) (h3 : r ∉ hostOps2_W)
    (h4 : ∀ w, Pipeline.arrRef spec2 w = r → (cfg2.win w).isOut = false) (h5 : r ∉ hostOps3_W) : W6 m c r = V0 m c r :=
  (W6_keeps m c r h5).trans ((W5_keeps m c r h4).trans (W4_arg m c r h0 h1 h2 h3))

/-! ## The segments -/

/-- The three pallas_calls' proof data. -/
def pdats : (p : Fin 3) → (c : Dev nD) → Dat τ (Elt F) Unit ℕ (UR sig nD τ) ℕ (cfgs p) c
  | 0 => dat0 (W1 m)
  | 1 => dat1 (W2 m)
  | 2 => dat2 (W4 m)

def LL (g : GSem nD τ sig) : Finset Unit := if g.1.2 = .tc then {()} else ∅
def lvl (_ : GSem nD τ sig) (_ : Unit) : ℕ := 0

/-- What rides beside the buffers: nothing owed, and the generator register at some state. -/
def noDue (_ : Dev nD) : CellTallies nD τ sig Unit := 0
def prngAny (c : Dev nD) : sProp 𝕄 := iprop(∃ r, prngReg c r)
def nothing (_ : Dev nD) : sProp 𝕄 := iprop(emp)
def EE (c : Dev nD) : sProp 𝕄 :=
  iprop((∃ Wd, owes (c : Thread nD τ) (noDue c) Wd) ∗ prngAny c ∗ nothing c)

theorem cut (p : Fin 3) : Pipeline.LevelCut (pcfgs (F := F)) adm () LL lvl p noDue (fun _ => 0) where
  hι _ _ _ := Finset.mem_singleton_self _
  hιb _ _ _ := le_refl _
  hD _ _ _ h := absurd h (lt_irrefl _)

theorem sub0 : Pipeline.arrRefs (τ := τ) (pcfgs (F := F) 0).spec ⊆ Pipeline.ucRefs τ sig := Pipeline.arrRefs_sub_ucRefs spec0 (by decide)
theorem kit0 : Pipeline.PLaunchFacts (nD := nD) (τ := τ) (pcfgs (F := F)) 0 := launch0.toP
theorem noPre0 : (pcfgs (F := F) 0).pre.K = 0 := rfl
theorem hbody0 (c : Dev nD) : Pipeline.BodyObligationLoose (pdats m 0 c) (defs₀ (F := F)) Variants.none () Set.univ := (body0 (W1 m) c).loose
theorem howed0 (c : Dev nD) (t) : (pdats m 0 c).owed t = noDue c := rfl
theorem hrec0 (c : Dev nD) : (pdats m 0 c).recorded 0 = Set.univ := rfl
theorem hshare0 (c : Dev nD) (w) : (pdats m 0 c).share w = fullShare := (dat0 (W1 m) c).share_full (fun _ => rfl) w
theorem hin0 (c : Dev nD) : iprop(Pipeline.scopedRest (Pipeline.pin (pcfgs (F := F)) adm 0).spec c ∗ prngAny c) ⊢ (pdats m 0 c).Φ 0 := .rfl
theorem hout0 (c : Dev nD) : (pdats m 0 c).Φ (Fin.last (Pipeline.pin (pcfgs (F := F)) adm 0).N) ⊢ iprop(Pipeline.scopedRest (Pipeline.pin (pcfgs (F := F)) adm 0).spec c ∗ prngAny c) := .rfl
theorem hW0 (c : Dev nD) (w) : (pdats m 0 c).arrAt w 0 = W1 m c (Proc.devRef .tc (Pipeline.arrRef (Pipeline.pin (pcfgs (F := F)) adm 0).spec w)) := rfl

def reg0 : RegionSeg (pcfgs (F := F)) adm (pdats m) () (defs₀ (F := F)) Variants.none LL lvl 0 :=
  RegionSeg.ofHeldIn (pcfgs (F := F)) adm (pdats m) () (defs₀ (F := F)) Variants.none LL lvl 0 noDue (Pipeline.ucRefs τ sig)
    prngAny prngAny kit0 noPre0 (hbody0 m) (howed0 m) (hrec0 m) (hshare0 m) (hin0 m) (hout0 m)
    (fun _ => 0) (cut 0) nothing (W1 m) (hW0 m)

theorem reg0_pre (c : Dev nD) : iprop(StableHlo.held (c : Thread nD τ) (Pipeline.ucRefs τ sig) (W1 m c) ∗ EE c) ⊢ (reg0 m).pre c :=
  RegionSeg.ofHeldIn_pre (S := Pipeline.ucRefs τ sig) sub0 c

theorem reg0_post (c : Dev nD) : (reg0 m).post c ⊢ iprop(StableHlo.held (c : Thread nD τ) (Pipeline.ucRefs τ sig) (W2 m c) ∗ EE c) :=
  RegionSeg.ofHeldIn_post (S := Pipeline.ucRefs τ sig) sub0 c

theorem sub1 : Pipeline.arrRefs (τ := τ) (pcfgs (F := F) 1).spec ⊆ Pipeline.ucRefs τ sig := Pipeline.arrRefs_sub_ucRefs spec1 (by decide)
theorem kit1 : Pipeline.PLaunchFacts (nD := nD) (τ := τ) (pcfgs (F := F)) 1 := launch1.toP
theorem noPre1 : (pcfgs (F := F) 1).pre.K = 0 := rfl
theorem hbody1 (c : Dev nD) : Pipeline.BodyObligationLoose (pdats m 1 c) (defs₀ (F := F)) Variants.none () Set.univ := (body1 (W2 m) c).loose
theorem howed1 (c : Dev nD) (t) : (pdats m 1 c).owed t = noDue c := rfl
theorem hrec1 (c : Dev nD) : (pdats m 1 c).recorded 0 = Set.univ := rfl
theorem hshare1 (c : Dev nD) (w) : (pdats m 1 c).share w = fullShare := (dat1 (W2 m) c).share_full (fun _ => rfl) w
theorem hin1 (c : Dev nD) : iprop(Pipeline.scopedRest (Pipeline.pin (pcfgs (F := F)) adm 1).spec c ∗ prngAny c) ⊢ (pdats m 1 c).Φ 0 := .rfl
theorem hout1 (c : Dev nD) : (pdats m 1 c).Φ (Fin.last (Pipeline.pin (pcfgs (F := F)) adm 1).N) ⊢ iprop(Pipeline.scopedRest (Pipeline.pin (pcfgs (F := F)) adm 1).spec c ∗ prngAny c) := .rfl
theorem hW1 (c : Dev nD) (w) : (pdats m 1 c).arrAt w 0 = W2 m c (Proc.devRef .tc (Pipeline.arrRef (Pipeline.pin (pcfgs (F := F)) adm 1).spec w)) := rfl

def reg1 : RegionSeg (pcfgs (F := F)) adm (pdats m) () (defs₀ (F := F)) Variants.none LL lvl 1 :=
  RegionSeg.ofHeldIn (pcfgs (F := F)) adm (pdats m) () (defs₀ (F := F)) Variants.none LL lvl 1 noDue (Pipeline.ucRefs τ sig)
    prngAny prngAny kit1 noPre1 (hbody1 m) (howed1 m) (hrec1 m) (hshare1 m) (hin1 m) (hout1 m)
    (fun _ => 0) (cut 1) nothing (W2 m) (hW1 m)

theorem reg1_pre (c : Dev nD) : iprop(StableHlo.held (c : Thread nD τ) (Pipeline.ucRefs τ sig) (W2 m c) ∗ EE c) ⊢ (reg1 m).pre c :=
  RegionSeg.ofHeldIn_pre (S := Pipeline.ucRefs τ sig) sub1 c

theorem reg1_post (c : Dev nD) : (reg1 m).post c ⊢ iprop(StableHlo.held (c : Thread nD τ) (Pipeline.ucRefs τ sig) (W3 m c) ∗ EE c) :=
  RegionSeg.ofHeldIn_post (S := Pipeline.ucRefs τ sig) sub1 c

theorem sub2 : Pipeline.arrRefs (τ := τ) (pcfgs (F := F) 2).spec ⊆ Pipeline.ucRefs τ sig := Pipeline.arrRefs_sub_ucRefs spec2 (by decide)
theorem kit2 : Pipeline.PLaunchFacts (nD := nD) (τ := τ) (pcfgs (F := F)) 2 := launch2.toP
theorem noPre2 : (pcfgs (F := F) 2).pre.K = 0 := rfl
theorem hbody2 (c : Dev nD) : Pipeline.BodyObligationLoose (pdats m 2 c) (defs₀ (F := F)) Variants.none () Set.univ := (body2 (W4 m) c).loose
theorem howed2 (c : Dev nD) (t) : (pdats m 2 c).owed t = noDue c := rfl
theorem hrec2 (c : Dev nD) : (pdats m 2 c).recorded 0 = Set.univ := rfl
theorem hshare2 (c : Dev nD) (w) : (pdats m 2 c).share w = fullShare := (dat2 (W4 m) c).share_full (fun _ => rfl) w
theorem hin2 (c : Dev nD) : iprop(Pipeline.scopedRest (Pipeline.pin (pcfgs (F := F)) adm 2).spec c ∗ prngAny c) ⊢ (pdats m 2 c).Φ 0 := .rfl
theorem hout2 (c : Dev nD) : (pdats m 2 c).Φ (Fin.last (Pipeline.pin (pcfgs (F := F)) adm 2).N) ⊢ iprop(Pipeline.scopedRest (Pipeline.pin (pcfgs (F := F)) adm 2).spec c ∗ prngAny c) := .rfl
theorem hW2 (c : Dev nD) (w) : (pdats m 2 c).arrAt w 0 = W4 m c (Proc.devRef .tc (Pipeline.arrRef (Pipeline.pin (pcfgs (F := F)) adm 2).spec w)) := rfl

def reg2 : RegionSeg (pcfgs (F := F)) adm (pdats m) () (defs₀ (F := F)) Variants.none LL lvl 2 :=
  RegionSeg.ofHeldIn (pcfgs (F := F)) adm (pdats m) () (defs₀ (F := F)) Variants.none LL lvl 2 noDue (Pipeline.ucRefs τ sig)
    prngAny prngAny kit2 noPre2 (hbody2 m) (howed2 m) (hrec2 m) (hshare2 m) (hin2 m) (hout2 m)
    (fun _ => 0) (cut 2) nothing (W4 m) (hW2 m)

theorem reg2_pre (c : Dev nD) : iprop(StableHlo.held (c : Thread nD τ) (Pipeline.ucRefs τ sig) (W4 m c) ∗ EE c) ⊢ (reg2 m).pre c :=
  RegionSeg.ofHeldIn_pre (S := Pipeline.ucRefs τ sig) sub2 c

theorem reg2_post (c : Dev nD) : (reg2 m).post c ⊢ iprop(StableHlo.held (c : Thread nD τ) (Pipeline.ucRefs τ sig) (W5 m c) ∗ EE c) :=
  RegionSeg.ofHeldIn_post (S := Pipeline.ucRefs τ sig) sub2 c

def host0 : HostSeg (Ix := Unit) (Name := ℕ) (U := UR sig nD τ) (Lvl := ℕ) (pcfgs (F := F)) (defs₀ (F := F)) Variants.none LL lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) EE

def host2 : HostSeg (Ix := Unit) (Name := ℕ) (U := UR sig nD τ) (Lvl := ℕ) (pcfgs (F := F)) (defs₀ (F := F)) Variants.none LL lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) EE

def host3 : HostSeg (Ix := Unit) (Name := ℕ) (U := UR sig nD τ) (Lvl := ℕ) (pcfgs (F := F)) (defs₀ (F := F)) Variants.none LL lvl :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W5 m) EE

abbrev segsL : List (Seg (pcfgs (F := F)) adm (pdats m) () (defs₀ (F := F)) Variants.none LL lvl) :=
  [.host (host0 m), .region (reg0 m), .region (reg1 m), .host (host2 m), .region (reg2 m), .host (host3 m)]

/-! ## The run -/

/-- What a final state holds on core `c`. -/
def Ends (c : Dev nD) (s : MemSt nD τ sig (Elt F)) : Prop :=
  s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18)
  ∧ s.mem ((c.tc : Thread nD τ).loc main_v34) = W6 m c main_v34 ∧ s.mem ((c.tc : Thread nD τ).loc main_v33_1) = W6 m c main_v33_1

theorem launch_one (c : Dev nD) :
    (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) : sProp 𝕄)
      ⊢ iprop(StableHlo.held (c : Thread nD τ) (Pipeline.ucRefs τ sig) (V0 m c) ∗ EE c) := by
  rw [← Pipeline.unscopedBufs_held (Ix := Unit) (Name := ℕ) (U := UR sig nD τ) (Lvl := ℕ) c (V0 m c)]
  unfold EE noDue prngAny nothing
  iintro ⟨Hb, -, Ho, -, Hp, He⟩
  isplitl [Hb]; · iexact Hb
  isplitl [Ho]; · iexists _; iexact Ho
  isplitl [Hp]; · iexists _; iexact Hp
  iexact He

set_option backward.isDefEq.respectTransparency.types false in
set_option maxHeartbeats 1000000 in
theorem run_main :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj emb₁ (defs₀ (F := F)) Variants.none LL lvl m ρ main
    (fun _ => segsL m)
    (fun c Q => by
      rewrite [main_chain c, Seg.run_eq_chain,
        show (segsL m).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segsL, Seg.pipes_host, Seg.pipes_region, Seg.pipes_nil]; decide) (fun _ => 0)
    (fun g hg => if_neg hg) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ EE c))
    (Tₙ := fun c => StableHlo.held (c : Thread nD τ) (Pipeline.ucRefs τ sig) (W6 m c))
    (hch := fun c => ⟨.rfl, reg0_pre m c, (reg0_post m c).trans (reg1_pre m c), reg1_post m c, reg2_pre m c, reg2_post m c,
      sep_mono .rfl (by unfold EE noDue; iintro ⟨H, -, -⟩; iexact H)⟩)
    (hinit := ?_) (QY := fun c s => Ends m c s)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ EE c) : sProp 𝕄) := by
      exact bigSep_mono fun c _ => launch_one m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W6_arg m c main_arg0 (by decide) (by decide) (by decide) (by decide) (by decide) (by decide)),
        (h (Proc.devRef .tc main_arg1) (Finset.mem_filter.mpr ⟨StableHlo.devRef_mem_tcRefs main_arg1, by decide⟩)).trans (W6_arg m c main_arg1 (by decide) (by decide) (by decide) (by decide) (by decide) (by decide)),
        (h (Proc.devRef .tc main_arg2) (Finset.mem_filter.mpr ⟨StableHlo.devRef_mem_tcRefs main_arg2, by decide⟩)).trans (W6_arg m c main_arg2 (by decide) (by decide) (by decide) (by decide) (by decide) (by decide)),
        (h (Proc.devRef .tc main_arg3) (Finset.mem_filter.mpr ⟨StableHlo.devRef_mem_tcRefs main_arg3, by decide⟩)).trans (W6_arg m c main_arg3 (by decide) (by decide) (by decide) (by decide) (by decide) (by decide)),
        (h (Proc.devRef .tc main_arg4) (Finset.mem_filter.mpr ⟨StableHlo.devRef_mem_tcRefs main_arg4, by decide⟩)).trans (W6_arg m c main_arg4 (by decide) (by decide) (by decide) (by decide) (by decide) (by decide)),
        (h (Proc.devRef .tc main_arg5) (Finset.mem_filter.mpr ⟨StableHlo.devRef_mem_tcRefs main_arg5, by decide⟩)).trans (W6_arg m c main_arg5 (by decide) (by decide) (by decide) (by decide) (by decide) (by decide)),
        (h (Proc.devRef .tc main_arg6) (Finset.mem_filter.mpr ⟨StableHlo.devRef_mem_tcRefs main_arg6, by decide⟩)).trans (W6_arg m c main_arg6 (by decide) (by decide) (by decide) (by decide) (by decide) (by decide)),
        (h (Proc.devRef .tc main_arg7) (Finset.mem_filter.mpr ⟨StableHlo.devRef_mem_tcRefs main_arg7, by decide⟩)).trans (W6_arg m c main_arg7 (by decide) (by decide) (by decide) (by decide) (by decide) (by decide)),
        (h (Proc.devRef .tc main_arg8) (Finset.mem_filter.mpr ⟨StableHlo.devRef_mem_tcRefs main_arg8, by decide⟩)).trans (W6_arg m c main_arg8 (by decide) (by decide) (by decide) (by decide) (by decide) (by decide)),
        (h (Proc.devRef .tc main_arg9) (Finset.mem_filter.mpr ⟨StableHlo.devRef_mem_tcRefs main_arg9, by decide⟩)).trans (W6_arg m c main_arg9 (by decide) (by decide) (by decide) (by decide) (by decide) (by decide)),
        (h (Proc.devRef .tc main_arg10) (Finset.mem_filter.mpr ⟨StableHlo.devRef_mem_tcRefs main_arg10, by decide⟩)).trans (W6_arg m c main_arg10 (by decide) (by decide) (by decide) (by decide) (by decide) (by decide)),
        (h (Proc.devRef .tc main_arg11) (Finset.mem_filter.mpr ⟨StableHlo.devRef_mem_tcRefs main_arg11, by decide⟩)).trans (W6_arg m c main_arg11 (by decide) (by decide) (by decide) (by decide) (by decide) (by decide)),
        (h (Proc.devRef .tc main_arg12) (Finset.mem_filter.mpr ⟨StableHlo.devRef_mem_tcRefs main_arg12, by decide⟩)).trans (W6_arg m c main_arg12 (by decide) (by decide) (by decide) (by decide) (by decide) (by decide)),
        (h (Proc.devRef .tc main_arg13) (Finset.mem_filter.mpr ⟨StableHlo.devRef_mem_tcRefs main_arg13, by decide⟩)).trans (W6_arg m c main_arg13 (by decide) (by decide) (by decide) (by decide) (by decide) (by decide)),
        (h (Proc.devRef .tc main_arg14) (Finset.mem_filter.mpr ⟨StableHlo.devRef_mem_tcRefs main_arg14, by decide⟩)).trans (W6_arg m c main_arg14 (by decide) (by decide) (by decide) (by decide) (by decide) (by decide)),
        (h (Proc.devRef .tc main_arg15) (Finset.mem_filter.mpr ⟨StableHlo.devRef_mem_tcRefs main_arg15, by decide⟩)).trans (W6_arg m c main_arg15 (by decide) (by decide) (by decide) (by decide) (by decide) (by decide)),
        (h (Proc.devRef .tc main_arg16) (Finset.mem_filter.mpr ⟨StableHlo.devRef_mem_tcRefs main_arg16, by decide⟩)).trans (W6_arg m c main_arg16 (by decide) (by decide) (by decide) (by decide) (by decide) (by decide)),
        (h (Proc.devRef .tc main_arg17) (Finset.mem_filter.mpr ⟨StableHlo.devRef_mem_tcRefs main_arg17, by decide⟩)).trans (W6_arg m c main_arg17 (by decide) (by decide) (by decide) (by decide) (by decide) (by decide)),
        (h (Proc.devRef .tc main_arg18) (Finset.mem_filter.mpr ⟨StableHlo.devRef_mem_tcRefs main_arg18, by decide⟩)).trans (W6_arg m c main_arg18 (by decide) (by decide) (by decide) (by decide) (by decide) (by decide)),
        (h (Proc.devRef .tc main_v34) (Finset.mem_filter.mpr ⟨StableHlo.devRef_mem_tcRefs main_v34, by decide⟩)),
        (h (Proc.devRef .tc main_v33_1) (Finset.mem_filter.mpr ⟨StableHlo.devRef_mem_tcRefs main_v33_1, by decide⟩))⟩
    · iexact HSI

end Cert.KernelIdeal.Hand

end
-- ==== Proof.KAcc.lean ====
module

public import proofs.«01_k».proof.Proof.KSweep
public import proofs.«01_k».proof.Proof.Run
public import Idealize.ShloMosaic.Lib.Pipeline.ValueKit

/-! What the second call's runs of points add up, over arrays of reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

/-- Node `j` of block `q`. -/
def node (q : ℕ) (j : Fin 512) : Fin 2048 := ⟨512 * (q % 4) + j.val, by omega⟩

theorem node_mod (q : ℕ) : node (q % 4) = node q := funext fun j => Fin.ext (by simp [node])

/-- The sum over the blocks of a run up to point `n`. -/
def runSum (g : Fin 2048 → ℝ) (n : ℕ) : ℝ := ∑ q ∈ Finset.range (n % 4 + 1), ∑ k, g (node q k)

theorem runSum_reset (g : Fin 2048 → ℝ) (n : ℕ) (h : n % 4 = 0) : runSum g n = ∑ k, g (node n k) := by
  rw [runSum, h, Finset.sum_range_one, ← h, node_mod]

theorem runSum_step (g : Fin 2048 → ℝ) (n : ℕ) (h : ¬ (n + 1) % 4 = 0) : runSum g (n + 1) = runSum g n + ∑ k, g (node (n + 1) k) := by
  have e : (n + 1) % 4 = n % 4 + 1 := by omega
  rw [runSum, Finset.sum_range_succ, e, ← e, node_mod, runSum, e]

theorem runSum_last (g : Fin 2048 → ℝ) (n : ℕ) (h : n % 4 = 3) : runSum g n = ∑ k, g k := by
  rw [runSum, h, Finset.sum_range]
  refine Eq.trans ?_ (Fin.sum_univ_tiles 4 512 rfl g).symm
  refine Finset.sum_congr rfl fun q _ => Finset.sum_congr rfl fun k _ => congrArg g (Fin.ext ?_)
  have := q.isLt
  simp only [node]
  omega

variable (V : Dev nD → Valuation τ sig (Elt Ideal)) (c : Dev nD) (AT : Fin 5 → Fin 2048 → Fin 2048 → ℝ) (P : Fin 64 → Fin 2048 → ℝ)

theorem coords1 : ∀ t : Fin cfg1.N, (grid1.coords t 0).val = t.val / 4 ∧ (grid1.coords t 1).val = t.val % 4 := by decide +kernel

theorem idx1 : ∀ t : Fin cfg1.N, win1_0.index t = ![0, t.val % 4, t.val / 4] ∧ win1_1.index t = ![0, t.val % 4] := by decide +kernel

theorem blkA_val (h : V c (Proc.devRef .tc (Pipeline.arrRef spec1 0)) = (cv3 AT : FVec Ideal S5x2048x2048 .f32)) (t : Fin cfg1.N) :
    blkA V c t = cv3 (fun e r p => AT e (node t.val r) (node (t.val / 4) p)) := by
  funext j
  idx_vars j
  have e : blkA V c t (ix3 j0 j1 j2) = V c (Proc.devRef .tc (Pipeline.arrRef spec1 0)) (((cfg1.win 0).blk t).view.emb (ix3 j0 j1 j2)) := rfl
  rw [e, h]
  refine congrArg (cv3 AT) (a₂ := ix3 _ _ _) ?_
  blk_ext [idx1 t]

theorem blkX_val (h : V c (Proc.devRef .tc (Pipeline.arrRef spec1 1)) = (cv2 P : FVec Ideal S64x2048 .f32)) (t : Fin cfg1.N) :
    blkX V c t = cv2 (fun f r => P f (node t.val r)) := by
  funext j
  idx_vars j
  have e : blkX V c t (ix2 j0 j1) = V c (Proc.devRef .tc (Pipeline.arrRef spec1 1)) (((cfg1.win 1).blk t).view.emb (ix2 j0 j1)) := rfl
  rw [e, h]
  refine congrArg (cv2 P) (a₂ := ix2 _ _) ?_
  blk_ext [idx1 t]

theorem same_col (n : ℕ) (h : ¬ (n + 1) % 4 = 0) : (n + 1) / 4 = n / 4 := by omega

theorem accT_val (hA : V c (Proc.devRef .tc (Pipeline.arrRef spec1 0)) = (cv3 AT : FVec Ideal S5x2048x2048 .f32))
    (hP : V c (Proc.devRef .tc (Pipeline.arrRef spec1 1)) = (cv2 P : FVec Ideal S64x2048 .f32)) (n : ℕ) (hn : n < cfg1.N) :
    accT V c n hn = cv3 (fun e f p => runSum (fun k => P f k * AT e k (node (n / 4) p)) n) := by
  induction n with
  | zero =>
    rw [accT, blkA_val V c AT hA, blkX_val V c P hP, sweepT0_val]
    simp only [runSum_reset _ 0 rfl]
  | succ n ih =>
    rw [accT]
    split_ifs with h
    · rw [blkA_val V c AT hA, blkX_val V c P hP, sweepT0_val]
      simp only [runSum_reset _ _ h]
    · rw [blkA_val V c AT hA, blkX_val V c P hP, ih, sweepT_val]
      simp only [runSum_step _ _ h, same_col n h]

theorem accC_val (hA : V c (Proc.devRef .tc (Pipeline.arrRef spec1 0)) = (cv3 AT : FVec Ideal S5x2048x2048 .f32)) (n : ℕ) (hn : n < cfg1.N) :
    accC V c n hn = cv3 (fun e _ p => runSum (fun k => AT e k (node (n / 4) p)) n) := by
  induction n with
  | zero =>
    rw [accC, blkA_val V c AT hA, sweepC0_val]
    simp only [runSum_reset _ 0 rfl]
  | succ n ih =>
    rw [accC]
    split_ifs with h
    · rw [blkA_val V c AT hA, sweepC0_val]
      simp only [runSum_reset _ _ h]
    · rw [blkA_val V c AT hA, ih, sweepC_val]
      simp only [runSum_step _ _ h, same_col n h]

/-- The mask over the transposed relations. -/
def patT (r k : Fin 2048) : ℝ := if r = k then 1 else if ∑ e, AT e r k ≠ 0 then 1 else 0

theorem onDiag_iff (t : Fin cfg1.N) (r p : Fin 512) : onDiag (grid1.coords t) r p ↔ node t.val r = node (t.val / 4) p := by
  have ht : t.val < 16 := lt_of_lt_of_eq t.isLt (by decide)
  rw [onDiag, (coords1 t).1, (coords1 t).2, Fin.ext_iff]
  simp only [node]
  omega

theorem mask_blk (t : Fin cfg1.N) : maskB (grid1.coords t) (fun e r p => AT e (node t.val r) (node (t.val / 4) p)) = fun r p => patT AT (node t.val r) (node (t.val / 4) p) := by
  funext r p
  simp only [maskB, patT, onDiag_iff]

theorem accD_val (hA : V c (Proc.devRef .tc (Pipeline.arrRef spec1 0)) = (cv3 AT : FVec Ideal S5x2048x2048 .f32)) (n : ℕ) (hn : n < cfg1.N) :
    accD V c n hn = cv2 (fun _ p => runSum (fun k => patT AT k (node (n / 4) p)) n) := by
  induction n with
  | zero =>
    rw [accD, blkA_val V c AT hA, sweepD0_val, mask_blk]
    simp only [runSum_reset _ 0 rfl]
  | succ n ih =>
    rw [accD]
    split_ifs with h
    · rw [blkA_val V c AT hA, sweepD0_val, mask_blk]
      simp only [runSum_reset _ _ h]
    · rw [blkA_val V c AT hA, ih, sweepD_val, mask_blk]
      simp only [runSum_step _ _ h, same_col n h]

theorem sweepB_blk (hA : V c (Proc.devRef .tc (Pipeline.arrRef spec1 0)) = (cv3 AT : FVec Ideal S5x2048x2048 .f32)) (t : Fin cfg1.N) :
    sweepB (grid1.coords t) (blkA V c t) = cb2 (fun r p => patT AT (node t.val r) (node (t.val / 4) p)) := by
  rw [blkA_val V c AT hA, sweepB_val, mask_blk]

theorem zeros_val : k1_pay6 (F := Ideal) = cv3 (fun _ _ _ => 0) := by
  funext j
  idx_vars j
  pointwise [k1_pay6, cv3_at]
  exact EReal.coe_zero.symm

theorem diag_blk (hA : V c (Proc.devRef .tc (Pipeline.arrRef spec1 0)) = (cv3 AT : FVec Ideal S5x2048x2048 .f32)) (t : Fin cfg1.N) (h : t.val % 5 = 0) :
    sweepG (grid1.coords t) (blkA V c t) = cv3 (fun e _ p => AT e (node (t.val / 4) p) (node (t.val / 4) p)) := by
  rw [blkA_val V c AT hA, sweepG_val]
  refine congrArg cv3 (funext fun e => funext fun _ => funext fun p => ?_)
  have ht : t.val < 16 := lt_of_lt_of_eq t.isLt (by decide)
  have hq : node t.val = node (t.val / 4) := by rw [← node_mod t.val, ← node_mod (t.val / 4)]; rcases (by omega : t.val = 0 ∨ t.val = 5 ∨ t.val = 10 ∨ t.val = 15) with e | e | e | e <;> rw [e]
  simp only [onDiag_iff, hq]
  rw [Finset.sum_eq_single p]
  · rw [if_pos rfl]
  · intro k _ hk
    refine if_neg fun e => hk (Fin.ext ?_)
    have := congrArg Fin.val e
    simp only [node] at this
    omega
  · intro hp; exact absurd (Finset.mem_univ p) hp

theorem accG_val (hA : V c (Proc.devRef .tc (Pipeline.arrRef spec1 0)) = (cv3 AT : FVec Ideal S5x2048x2048 .f32)) (n : ℕ) (hn : n < cfg1.N) :
    n / 4 ≤ n % 4 → accG V c n hn = cv3 (fun e _ p => AT e (node (n / 4) p) (node (n / 4) p)) := by
  induction n with
  | zero =>
    intro _
    rw [accG]
    exact diag_blk V c AT hA ⟨0, hn⟩ rfl
  | succ n ih =>
    intro hd
    have ht : n + 1 < 16 := lt_of_lt_of_eq hn (by decide)
    rw [accG]
    split_ifs with h5 h4
    · exact diag_blk V c AT hA ⟨n + 1, hn⟩ h5
    · omega
    · rw [ih _ (by omega), same_col n h4]

end Cert.KernelIdeal.Hand

end
-- ==== Proof.RefVal.lean ====
module

public import proofs.«01_k».proof.Proof.Spec
public import proofs.«01_k».proof.Proof.Gen.ReferenceIdeal.Run

/-! The reference's stages as functions of arrays, and their values over arrays of reals. -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Spec

/-! ## Before the loop -/

def rLin (X : FVec Ideal S2048x256 .f32) (W1 : FVec Ideal S256x256 .f32) (b1 : FVec Ideal S256 .f32) : FVec Ideal S2048x256 .f32 :=
  addf (Host.dotGeneral dot_S2048x256_S256x256_S2048x256_1_0_0_1_n_n none X W1)
    (broadcastInDim S2048x256 ![0, 1] bcast_S1x256_S2048x256_0_1 (broadcastInDim S1x256 ![1] bcast_S256_S1x256_1 b1))

def rLr1 (h : FVec Ideal S2048x256 .f32) : FVec Ideal S2048x256 .f32 :=
  select (cmpf .oge h (broadcastInDim S2048x256 ![] bcast_S_S2048x256 (constant S_ .f32 0x00000000#32))) h
    (mulf (broadcastInDim S2048x256 ![] bcast_S_S2048x256 (constant S_ .f32 0x3C23D70A#32)) h)

def rLr (h : FVec Ideal S2048x64 .f32) : FVec Ideal S2048x64 .f32 :=
  select (cmpf .oge h (broadcastInDim S2048x64 ![] bcast_S_S2048x64 (constant S_ .f32 0x00000000#32))) h
    (mulf (broadcastInDim S2048x64 ![] bcast_S_S2048x64 (constant S_ .f32 0x3C23D70A#32)) h)

def rXp (X : FVec Ideal S2048x256 .f32) (W1 : FVec Ideal S256x256 .f32) (b1 : FVec Ideal S256 .f32) (W2 : FVec Ideal S256x64 .f32) :
    FVec Ideal S2048x64 .f32 :=
  rLr (Host.dotGeneral dot_S2048x256_S256x64_S2048x64_1_0_0_1_n_n none (rLr1 (rLin X W1 b1)) W2)

theorem rXp_val (X : Fin 2048 → Fin 256 → ℝ) (W1 : Fin 256 → Fin 256 → ℝ) (b1 : Fin 256 → ℝ) (W2 : Fin 256 → Fin 64 → ℝ) :
    rXp (cv2 X) (cv2 W1) (cv1 b1) (cv2 W2) = cv2 (xp cLr X W1 b1 W2) := by
  funext j
  idx_vars j
  pointwise [rXp, rLr, rLr1, rLin, cv2_at, cv1_at]
  simp only [cLr_eq, ← EReal.coe_zero, ← EReal.coe_mul, ← EReal.coe_add, coe_sum, coe_ite, EReal.coe_le_coe_iff]
  simp only [xp, lr]
  congr!

def rEye : FVec Ideal S2048x2048 .f32 :=
  uitofp .f32 (cmpi .eq (addi (iotaInDim S2048x2048 32 0) (broadcastInDim S2048x2048 ![] bcast_S_S2048x2048 (constantI S_ 32 0#32)))
    (iotaInDim S2048x2048 32 1))

def rAp (A : FVec Ideal S2048x2048x5 .f32) : FVec Ideal S5x2048x2048 .f32 :=
  transpose S5x2048x2048 [2, 0, 1] A transposes_S2048x2048x5_S5x2048x2048_2_0_1

def rHt (A : FVec Ideal S2048x2048x5 .f32) : FVec Ideal S5x2048x2048 .f32 :=
  addf (mulf (transpose S5x2048x2048 [0, 2, 1] (rAp A) transposes_S5x2048x2048_S5x2048x2048_0_2_1)
      (broadcastInDim S5x2048x2048 ![0, 1, 2] bcast_S1x2048x2048_S5x2048x2048_0_1_2 (broadcastInDim S1x2048x2048 ![1, 2] bcast_S2048x2048_S1x2048x2048_1_2
        (subf (broadcastInDim S2048x2048 ![] bcast_S_S2048x2048 (constant S_ .f32 0x3F800000#32)) rEye))))
    (broadcastInDim S5x2048x2048 ![0, 1, 2] bcast_S1x2048x2048_S5x2048x2048_0_1_2 (broadcastInDim S1x2048x2048 ![1, 2] bcast_S2048x2048_S1x2048x2048_1_2 rEye))

def rDeg (H : FVec Ideal S5x2048x2048 .f32) : FVec Ideal S5x2048 .f32 :=
  Host.reduceAdd H (constant S_ .f32 0x00000000#32) reducesTo_S5x2048x2048_S5x2048_d2 h_S_

def rInv (D : FVec Ideal S5x2048 .f32) : FVec Ideal S5x2048 .f32 :=
  select (cmpf .oeq D (broadcastInDim S5x2048 ![] bcast_S_S5x2048 (constant S_ .f32 0x00000000#32)))
    (broadcastInDim S5x2048 ![] bcast_S_S5x2048 (id (constant S_ .f32 0x00000000#32)))
    (Host.divf (broadcastInDim S5x2048 ![] bcast_S_S5x2048 (constant S_ .f32 0x3F800000#32)) D)

def rLg (H : FVec Ideal S5x2048x2048 .f32) (I : FVec Ideal S5x2048 .f32) (P : FVec Ideal S2048x64 .f32) : FVec Ideal S5x2048x64 .f32 :=
  maximumf (Host.dotGeneral dot_S5x2048x2048_S2048x64_S5x2048x64_2_0_01_1_n_n none
      (mulf (broadcastInDim S5x2048x2048 ![0, 1, 2] bcast_S5x2048x1_S5x2048x2048_0_1_2 (broadcastInDim S5x2048x1 ![0, 1] bcast_S5x2048_S5x2048x1_0_1 I)) H) P)
    (broadcastInDim S5x2048x64 ![] bcast_S_S5x2048x64 (constant S_ .f32 0x00000000#32))

theorem eye_word (i j : Fin 2048) :
    (FloatOps.uitofp (F := Ideal) .f32 (IntOp.cmpi .eq (IntOp.addi (BitVec.ofNat 32 ↑i) 0#32) (BitVec.ofNat 32 ↑j)) : EReal) = ((eye i j : ℝ) : EReal) := by
  have h : IntOp.addi (BitVec.ofNat 32 ↑i) 0#32 = BitVec.ofNat 32 ↑i := BitVec.add_zero _
  rw [h]
  by_cases e : i = j
  · subst e
    have : IntOp.cmpi .eq (BitVec.ofNat 32 ↑i) (BitVec.ofNat 32 ↑i) = 1#1 := by simp [IntOp.cmpi]
    rw [this]
    simp [eye, FloatOps.uitofp]
  · have ne : BitVec.ofNat 32 ↑i ≠ BitVec.ofNat 32 ↑j := fun h => e (Fin.ext (by
      have := congrArg BitVec.toNat h
      simp only [BitVec.toNat_ofNat] at this
      omega))
    have : IntOp.cmpi .eq (BitVec.ofNat 32 ↑i) (BitVec.ofNat 32 ↑j) = 0#1 := by
      show BitVec.ofBool (_ == _) = 0#1
      rw [beq_eq_false_iff_ne.mpr ne]
      rfl
    rw [this]
    simp [eye, e, FloatOps.uitofp]

theorem rEye_val : rEye = cv2 eye := by
  funext j
  idx_vars j
  pointwise [rEye, cv2_at]
  exact eye_word j0 j1

theorem rHt_val (A : Fin 2048 → Fin 2048 → Fin 5 → ℝ) : rHt (cv3 A) = cv3 (ht A) := by
  funext j
  idx_vars j
  pointwise [rHt, rAp, rEye_val, cv2_at, cv3_at]
  simp only [← EReal.coe_one, ← EReal.coe_mul, ← EReal.coe_add, ← EReal.coe_sub]
  simp only [ht]

theorem rDeg_val (A : Fin 2048 → Fin 2048 → Fin 5 → ℝ) : rDeg (cv3 (ht A)) = cv2 (deg A) := by
  funext j
  idx_vars j
  pointwise [rDeg, cv2_at, cv3_at]
  simp only [coe_sum]
  rfl

theorem rInv_val (A : Fin 2048 → Fin 2048 → Fin 5 → ℝ) : rInv (cv2 (deg A)) = cv2 (dinvA A) := by
  funext j
  idx_vars j
  pointwise [rInv, cv2_at, cv3_at, id]
  exact inv_or_zero (deg A j0 j1)

theorem rLg_val (A : Fin 2048 → Fin 2048 → Fin 5 → ℝ) (p : Fin 2048 → Fin 64 → ℝ) :
    rLg (cv3 (ht A)) (cv2 (dinvA A)) (cv2 p) = cv3 (lg A p) := by
  funext j
  idx_vars j
  pointwise [rLg, cv2_at, cv3_at]
  simp only [← EReal.coe_zero, ← EReal.coe_mul, ← EReal.coe_add, coe_sum, coe_max]
  simp only [lg]

end Cert.ReferenceIdeal.Hand

end
-- ==== Proof.RefVal2.lean ====
module

public import proofs.«01_k».proof.Proof.RefVal

/-! The reference's stages after the graph convolutions and up to the loop. -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Spec

def rWatt (G : FVec Ideal S5x2048x64 .f32) (w : FVec Ideal S1x2048 .f32) (b q : FVec Ideal S1x64 .f32) : FVec Ideal S5 .f32 :=
  Host.reduceAdd (mulf (broadcastInDim S5x64 ![0, 1] bcast_S1x64_S5x64_0_1 q)
      (Host.tanh (addf (Host.dotGeneral dot_S2048_S5x2048x64_S5x64_0_1_n_02_n_n none (shapeCast S2048 w shapeCasts_S1x2048_S2048) G)
        (broadcastInDim S5x64 ![0, 1] bcast_S1x64_S5x64_0_1 b))))
    (constant S_ .f32 0x00000000#32) reducesTo_S5x64_S5_d1 h_S_

def rExps (s : FVec Ideal S5 .f32) : FVec Ideal S5 .f32 :=
  Host.exp (subf s (broadcastInDim S5 ![0] bcast_S1_S5_0 (broadcastInDim S1 ![] bcast_S_S1
    (maximumf (constant S_ .f32 0xFF800000#32) (Host.reduce FloatOps.maximumf s (constant S_ .f32 0xFF800000#32) reducesTo_S5_S_d0 h_S_)))))

def rBeta (x : FVec Ideal S5 .f32) : FVec Ideal S5 .f32 :=
  mulf (Host.divf x (broadcastInDim S5 ![0] bcast_S1_S5_0 (broadcastInDim S1 ![] bcast_S_S1
      (Host.reduceAdd x (constant S_ .f32 0x00000000#32) reducesTo_S5_S_d0 h_S_))))
    (broadcastInDim S5 ![] bcast_S_S5 (constant S_ .f32 0x40A00000#32))

def rCat (β : FVec Ideal S5 .f32) (G : FVec Ideal S5x2048x64 .f32) (X : FVec Ideal S2048x256 .f32) : FVec Ideal S2048x576 .f32 :=
  concatenate S2048x576 1 [⟨S2048x320, shapeCast S2048x320 (transpose S2048x5x64 [1, 0, 2]
      (mulf (broadcastInDim S5x2048x64 ![0, 1, 2] bcast_S5x1x1_S5x2048x64_0_1_2 (broadcastInDim S5x1x1 ![0] bcast_S5_S5x1x1_0 β)) G)
      transposes_S5x2048x64_S2048x5x64_1_0_2) shapeCasts_S2048x5x64_S2048x320⟩, ⟨S2048x256, X⟩] concatenates_S2048x320_S2048x256_S2048x576_d1

def rX0 (C : FVec Ideal S2048x576 .f32) (W : FVec Ideal S576x64 .f32) (b : FVec Ideal S64 .f32) : FVec Ideal S2048x64 .f32 :=
  maximumf (addf (Host.dotGeneral dot_S2048x576_S576x64_S2048x64_1_0_0_1_n_n none C W)
      (broadcastInDim S2048x64 ![0, 1] bcast_S1x64_S2048x64_0_1 (broadcastInDim S1x64 ![1] bcast_S64_S1x64_1 b)))
    (broadcastInDim S2048x64 ![] bcast_S_S2048x64 (constant S_ .f32 0x00000000#32))

def rB (A : FVec Ideal S2048x2048x5 .f32) : FVec Ideal S2048x2048 .f32 :=
  select (cmpf .ogt rEye (broadcastInDim S2048x2048 ![] bcast_S_S2048x2048 (constant S_ .f32 0x00000000#32)))
    (broadcastInDim S2048x2048 ![] bcast_S_S2048x2048 (id (constant S_ .f32 0x3F800000#32)))
    (uitofp .f32 (cmpf .une (Host.divf (Host.reduceAdd (rAp A) (constant S_ .f32 0x00000000#32) reducesTo_S5x2048x2048_S2048x2048_d0 h_S_)
        (broadcastInDim S2048x2048 ![] bcast_S_S2048x2048 (constant S_ .f32 0x40A00000#32)))
      (broadcastInDim S2048x2048 ![] bcast_S_S2048x2048 (constant S_ .f32 0x00000000#32))))

def rDegB (B : FVec Ideal S2048x2048 .f32) : FVec Ideal S2048 .f32 :=
  Host.reduceAdd B (constant S_ .f32 0x00000000#32) reducesTo_S2048x2048_S2048_d0 h_S_

def rDinv (D : FVec Ideal S2048 .f32) : FVec Ideal S2048 .f32 :=
  select (cmpf .ogt D (broadcastInDim S2048 ![] bcast_S_S2048 (constant S_ .f32 0x00000000#32)))
    (Host.powf D (broadcastInDim S2048 ![] bcast_S_S2048 (constant S_ .f32 0xBF000000#32)))
    (broadcastInDim S2048 ![] bcast_S_S2048 (id (constant S_ .f32 0x00000000#32)))

def rAhat (B : FVec Ideal S2048x2048 .f32) (I : FVec Ideal S2048 .f32) : FVec Ideal S2048x2048 .f32 :=
  mulf (mulf (broadcastInDim S2048x2048 ![0, 1] bcast_S2048x1_S2048x2048_0_1 (broadcastInDim S2048x1 ![0] bcast_S2048_S2048x1_0 I))
      (transpose S2048x2048 [1, 0] B transposes_S2048x2048_S2048x2048_1_0))
    (broadcastInDim S2048x2048 ![0, 1] bcast_S1x2048_S2048x2048_0_1 (broadcastInDim S1x2048 ![1] bcast_S2048_S1x2048_1 I))

theorem rWatt_val (G : Fin 5 → Fin 2048 → Fin 64 → ℝ) (w : Fin 1 → Fin 2048 → ℝ) (b q : Fin 1 → Fin 64 → ℝ) :
    rWatt (cv3 G) (cv2 w) (cv2 b) (cv2 q) = cv1 (fun e => watt (w 0) (b 0) (q 0) (G e)) := by
  funext j
  idx_vars j
  pointwise [rWatt, cv1_at, cv2_at, cv3_at]
  simp only [← EReal.coe_mul, ← EReal.coe_add, coe_sum, Ideal.tanh_coe]
  simp only [watt]

theorem fold5 (w : Fin 5 → ℝ) : Finset.univ.fold max (⊥ : EReal) (fun k : Fin 5 => ((w k : ℝ) : EReal)) = ((top5 w : ℝ) : EReal) := by
  simp only [top5, ← coe_max]
  simp [Fin.univ_succ, Finset.fold_cons, Finset.fold_map, max_assoc]

theorem rExps_val (s : Fin 5 → ℝ) : rExps (cv1 s) = cv1 (fun e => Real.exp (s e - top5 s)) := by
  funext j
  idx_vars j
  pointwise [rExps, cv1_at]
  rw [ofBits_bot, max_eq_right bot_le, fold5, ← EReal.coe_sub, Ideal.exp_coe]

theorem rBeta_val (s : Fin 5 → ℝ) : rBeta (cv1 (fun e => Real.exp (s e - top5 s))) = cv1 (beta5 s) := by
  funext j
  idx_vars j
  have h : (∑ i, Real.exp (s i - top5 s)) ≠ 0 := (Finset.sum_pos (fun i _ => Real.exp_pos _) ⟨0, Finset.mem_univ _⟩).ne'
  pointwise [rBeta, cv1_at]
  simp only [coe_sum, coe_div _ h, ofBits_five, ← EReal.coe_mul]
  rfl

theorem rX0_val (β : Fin 5 → ℝ) (G : Fin 5 → Fin 2048 → Fin 64 → ℝ) (X : Fin 2048 → Fin 256 → ℝ) (W : Fin 576 → Fin 64 → ℝ) (b : Fin 64 → ℝ) :
    rX0 (rCat (cv1 β) (cv3 G) (cv2 X)) (cv2 W) (cv1 b) = cv2 (x0 β G X W b) := by
  funext j
  idx_vars j
  pointwise [rX0, rCat, cv1_at, cv2_at, cv3_at]
  simp only [← EReal.coe_zero, ← EReal.coe_mul, ← EReal.coe_add, coe_sum, coe_max]
  refine congrArg _ ?_
  rw [x0]
  refine congrArg (fun t => max (t + _ + _) 0) ?_
  rw [Fin.sum_univ_tiles 5 64 rfl]
  refine Finset.sum_congr rfl fun e _ => Finset.sum_congr rfl fun g _ => ?_
  have h1 : (e.val * 64 + g.val) / 64 = e.val := by omega
  have h2 : (e.val * 64 + g.val) % 64 = g.val := by omega
  simp only [h1, h2]

theorem rB_val (A : Fin 2048 → Fin 2048 → Fin 5 → ℝ) : rB (cv3 A) = cv2 (pat A) := by
  funext j
  idx_vars j
  pointwise [rB, rAp, rEye_val, id, cv1_at, cv2_at, cv3_at]
  rw [ofBits_five, coe_sum, coe_div _ (by norm_num : (5 : ℝ) ≠ 0), ← EReal.coe_zero]
  by_cases h : j0 = j1
  · have e1 : eye j0 j1 = 1 := if_pos h
    rw [e1, if_pos (EReal.coe_lt_coe_iff.mpr one_pos), pat, if_pos h, EReal.coe_one]
  · have e0 : eye j0 j1 = 0 := if_neg h
    rw [e0, if_neg (lt_irrefl _), pat, if_neg h]
    by_cases hs : ∑ e, A j0 j1 e = 0
    · simp [hs, FloatOps.uitofp]
    · have hs' : (∑ e, A j0 j1 e) / 5 ≠ 0 := div_ne_zero hs (by norm_num)
      have hn : (((∑ e, A j0 j1 e) / 5 : ℝ) : EReal) ≠ ((0 : ℝ) : EReal) := fun e => hs' (EReal.coe_eq_coe_iff.mp e)
      rw [if_pos hs, decide_eq_true hn]
      simp [FloatOps.uitofp]

theorem rDegB_val (B : Fin 2048 → Fin 2048 → ℝ) : rDegB (cv2 B) = cv1 (degB B) := by
  funext j
  idx_vars j
  pointwise [rDegB, cv1_at, cv2_at]
  simp only [coe_sum]
  rfl

theorem rDinv_val (B : Fin 2048 → Fin 2048 → ℝ) : rDinv (cv1 (degB B)) = cv1 (dinvB B) := by
  funext j
  idx_vars j
  pointwise [rDinv, id, cv1_at, cv2_at]
  rw [ofBits_neg_half, Ideal.pow_coe_coe, ← EReal.coe_zero, coe_ite, dinvB]
  simp only [EReal.coe_lt_coe_iff]
  refine congrArg _ ?_
  by_cases h : 0 < degB B j0
  · rw [if_pos h, if_pos h]
    show degB B j0 ^ (-(1 / 2) : ℝ) = _
    rw [Real.rpow_neg h.le, Real.sqrt_eq_rpow]
  · rw [if_neg h, if_neg h]

theorem rAhat_val (B : Fin 2048 → Fin 2048 → ℝ) (d : Fin 2048 → ℝ) :
    rAhat (cv2 B) (cv1 d) = cv2 (fun n k => d n * B k n * d k) := by
  funext j
  idx_vars j
  pointwise [rAhat, cv1_at, cv2_at]
  simp only [← EReal.coe_mul]

end Cert.ReferenceIdeal.Hand

end
-- ==== Proof.RefLoop.lean ====
module

public import proofs.«01_k».proof.Proof.RefVal2

/-! The reference's loop of 64 layers and the classifier's head. -/

@[expose] public section

set_option maxRecDepth 16384

noncomputable section

namespace Cert.ReferenceIdeal.Hand

open Idealize.ShloMosaic Idealize.ShloMosaic.TcCoe Idealize.SL.Sem
open Idealize.ShloMosaic.StableHlo
open Cert.ReferenceIdeal Cert.ReferenceIdeal.Gen Cert.ReferenceIdeal.Value Cert.Spec

/-- The layer's number as the loop's slices take it: counted from the end if it is negative. -/
def rIdx (l : IVec S_ 32) : IVec S_ 32 := select (cmpi .slt l (constantI S_ 32 0#32)) (addi l (constantI S_ 32 64#32)) l

def rPick (K : FVec Ideal S64 .f32) (l : IVec S_ 32) : FVec Ideal S_ .f32 :=
  shapeCast S_ (Host.dynamicSlice S1 K (fun k => (((![rIdx l] : Fin 1 → (⟨S_, .i32⟩ : BufTy).Contents (Elt Ideal))) k (Shape.Idx.first h_S_)).toInt)
    sliceFits_S64_S1) shapeCasts_S1_S_

def rPickW (W : FVec Ideal S64x64x64 .f32) (l : IVec S_ 32) : FVec Ideal S64x64 .f32 :=
  shapeCast S64x64 (Host.dynamicSlice S1x64x64 W (fun k => (((![rIdx l, rIdx (constantI S_ 32 0#32), rIdx (constantI S_ 32 0#32)] :
    Fin 3 → (⟨S_, .i32⟩ : BufTy).Contents (Elt Ideal))) k (Shape.Idx.first h_S_)).toInt) sliceFits_S64x64x64_S1x64x64) shapeCasts_S1x64x64_S64x64

def rMid (Ah : FVec Ideal S2048x2048 .f32) (h x : FVec Ideal S2048x64 .f32) : FVec Ideal S2048x64 .f32 :=
  addf (mulf (Host.dotGeneral dot_S2048x2048_S2048x64_S2048x64_1_0_0_1_n_n none Ah x)
      (broadcastInDim S2048x64 ![] bcast_S_S2048x64 (constant S_ .f32 0x3F666666#32)))
    (mulf (broadcastInDim S2048x64 ![] bcast_S_S2048x64 (constant S_ .f32 0x3DCCCCCD#32)) h)

def rLayer (k b : FVec Ideal S_ .f32) (W : FVec Ideal S64x64 .f32) (o : FVec Ideal S2048x64 .f32) : FVec Ideal S2048x64 .f32 :=
  maximumf (addf (mulf (broadcastInDim S2048x64 ![] bcast_S_S2048x64 k) o)
      (mulf (broadcastInDim S2048x64 ![] bcast_S_S2048x64 b) (Host.dotGeneral dot_S2048x64_S64x64_S2048x64_1_0_0_1_n_n none o W)))
    (broadcastInDim S2048x64 ![] bcast_S_S2048x64 (constant S_ .f32 0x00000000#32))

/-- A trip of the loop is the layer's term. -/
theorem step_layer (V : Valuation τ sig (Elt Ideal)) :
    step_main_v95_7 V = rLayer (rPick (V (Proc.devRef .tc main_v95_2)) (V (Proc.devRef .tc main_v95_6)))
      (rPick (V (Proc.devRef .tc main_v95_3)) (V (Proc.devRef .tc main_v95_6)))
      (rPickW (V (Proc.devRef .tc main_v95_4)) (V (Proc.devRef .tc main_v95_6)))
      (rMid (V (Proc.devRef .tc main_v95_0)) (V (Proc.devRef .tc main_v95_1)) (V (Proc.devRef .tc main_v95_7))) := rfl

theorem pick_start : ∀ l : Fin 64, Host.clampedStart S64 S1 sliceFits_S64_S1.1
    (fun _ => (rIdx (fun _ => BitVec.ofNat 32 l.val) (Shape.Idx.first h_S_)).toInt) 0 = l.val := by
  decide +kernel

theorem pickW_start : ∀ l : Fin 64, ∀ a : Fin 3, Host.clampedStart S64x64x64 S1x64x64 sliceFits_S64x64x64_S1x64x64.1
    (fun k => (((![rIdx (fun _ => BitVec.ofNat 32 l.val), rIdx (constantI S_ 32 0#32), rIdx (constantI S_ 32 0#32)] :
      Fin 3 → (⟨S_, .i32⟩ : BufTy).Contents (Elt Ideal))) k (Shape.Idx.first h_S_)).toInt) a = if a = 0 then l.val else 0 := by
  decide +kernel

theorem at_congr (W : Fin 64 → Fin 64 → Fin 64 → ℝ) {a b c a' b' c' : Fin 64} (ha : a = a') (hb : b = b') (hc : c = c') :
    ((W a b c : ℝ) : EReal) = ((W a' b' c' : ℝ) : EReal) := by rw [ha, hb, hc]

theorem rPick_val (K : Fin 64 → ℝ) (l : Fin 64) : rPick (cv1 K) (fun _ => BitVec.ofNat 32 l.val) = fun _ => ((K l : ℝ) : EReal) := by
  funext j
  pointwise [rPick, cv1_at]
  exact congrArg (fun i => ((K i : ℝ) : EReal)) (Fin.ext (pick_start l))

theorem rPickW_val (W : Fin 64 → Fin 64 → Fin 64 → ℝ) (l : Fin 64) : rPickW (cv3 W) (fun _ => BitVec.ofNat 32 l.val) = cv2 (W l) := by
  funext j
  idx_vars j
  pointwise [rPickW, cv3_at, cv2_at]
  exact at_congr W (Fin.ext (pickW_start l 0)) (Fin.ext ((congrArg (· + j0.val) (pickW_start l 1)).trans (Nat.zero_add _)))
    (Fin.ext ((congrArg (· + j1.val) (pickW_start l 2)).trans (Nat.zero_add _)))

theorem rMid_val (B : Fin 2048 → Fin 2048 → ℝ) (h x : Fin 2048 → Fin 64 → ℝ) :
    rMid (cv2 fun n k => dinvB B n * B k n * dinvB B k) (cv2 h) (cv2 x) = cv2 (mid c9 c1 B h x) := by
  funext j
  idx_vars j
  pointwise [rMid, cv2_at]
  simp only [c9_eq, c1_eq, ← EReal.coe_mul, ← EReal.coe_add, coe_sum]
  rfl

theorem rLayer_val (k b : ℝ) (W : Fin 64 → Fin 64 → ℝ) (B : Fin 2048 → Fin 2048 → ℝ) (h x : Fin 2048 → Fin 64 → ℝ) :
    rLayer (fun _ => ((k : ℝ) : EReal)) (fun _ => ((b : ℝ) : EReal)) (cv2 W) (cv2 (mid c9 c1 B h x)) = cv2 (layer c9 c1 k b W B h x) := by
  funext j
  idx_vars j
  pointwise [rLayer, cv2_at]
  simp only [← EReal.coe_zero, ← EReal.coe_mul, ← EReal.coe_add, coe_sum, coe_max]
  rfl

/-- The layer of number `k`, its constants and weights picked by the number held as a word. -/
theorem layer_at (B : Fin 2048 → Fin 2048 → ℝ) (h x : Fin 2048 → Fin 64 → ℝ) (keep bet : Fin 64 → ℝ) (W : Fin 64 → Fin 64 → Fin 64 → ℝ)
    (l : IVec S_ 32) (k : Fin 64) (hl : l = fun _ => BitVec.ofNat 32 k.val) :
    rLayer (rPick (cv1 keep) l) (rPick (cv1 bet) l) (rPickW (cv3 W) l) (rMid (cv2 fun n k => dinvB B n * B k n * dinvB B k) (cv2 h) (cv2 x))
      = cv2 (layer c9 c1 (keep k) (bet k) (W k) B h x) := by
  rw [hl, rPick_val, rPick_val, rPickW_val, rMid_val, rLayer_val]

/-- `k` trips of the loop are `k` layers. -/
theorem iter_val (V : Valuation τ sig (Elt Ideal)) (B : Fin 2048 → Fin 2048 → ℝ) (h : Fin 2048 → Fin 64 → ℝ)
    (keep bet : Fin 64 → ℝ) (W : Fin 64 → Fin 64 → Fin 64 → ℝ)
    (h0 : V (Proc.devRef .tc main_v95_0) = cv2 fun n k => dinvB B n * B k n * dinvB B k) (h1 : V (Proc.devRef .tc main_v95_1) = cv2 h)
    (h2 : V (Proc.devRef .tc main_v95_2) = cv1 keep) (h3 : V (Proc.devRef .tc main_v95_3) = cv1 bet)
    (h4 : V (Proc.devRef .tc main_v95_4) = cv3 W) (h6 : V (Proc.devRef .tc main_v95_6) = fun _ => 0#32)
    (h7 : V (Proc.devRef .tc main_v95_7) = cv2 h) :
    ∀ k, k ≤ 64 → (STEP^[k] V) (Proc.devRef .tc main_v95_0) = V (Proc.devRef .tc main_v95_0)
      ∧ (STEP^[k] V) (Proc.devRef .tc main_v95_1) = V (Proc.devRef .tc main_v95_1)
      ∧ (STEP^[k] V) (Proc.devRef .tc main_v95_2) = V (Proc.devRef .tc main_v95_2)
      ∧ (STEP^[k] V) (Proc.devRef .tc main_v95_3) = V (Proc.devRef .tc main_v95_3)
      ∧ (STEP^[k] V) (Proc.devRef .tc main_v95_4) = V (Proc.devRef .tc main_v95_4)
      ∧ (STEP^[k] V) (Proc.devRef .tc main_v95_6) = (fun _ => BitVec.ofNat 32 k)
      ∧ (STEP^[k] V) (Proc.devRef .tc main_v95_7) = cv2 (hid c9 c1 keep bet W B h k)
  | 0, _ => ⟨rfl, rfl, rfl, rfl, rfl, h6, h7⟩
  | k + 1, hk => by
    obtain ⟨i0, i1, i2, i3, i4, i6, i7⟩ := iter_val V B h keep bet W h0 h1 h2 h3 h4 h6 h7 k (by omega)
    rw [Function.iterate_succ_apply']
    refine ⟨(STEP_main_v95_0 _).trans i0, (STEP_main_v95_1 _).trans i1, (STEP_main_v95_2 _).trans i2, (STEP_main_v95_3 _).trans i3,
      (STEP_main_v95_4 _).trans i4, (STEP_main_v95_6 _).trans ?_, (STEP_main_v95_7 _).trans ?_⟩
    · show addi ((STEP^[k] V) (Proc.devRef .tc main_v95_6)) (constantI S_ 32 1#32) = _
      rw [i6]
      funext j
      exact (BitVec.ofNat_add k 1).symm
    · rw [step_layer, i0, i1, i2, i3, i4, i7, h0, h1, h2, h3, h4]
      refine layer_at B h (hid c9 c1 keep bet W B h k) keep bet W _ (Fin.ofNat 64 k) (i6.trans ?_)
      rw [show (Fin.ofNat 64 k).val = k from Nat.mod_eq_of_lt (by omega)]
      rfl

end Cert.ReferenceIdeal.Hand

end
-- ==== Proof.RefHead.lean ====
module

public import proofs.«01_k».proof.Proof.RefLoop

/-! The reference's classifier and its loss. -/

@[expose] public section

set_option maxRecDepth 16384

noncomputable section

namespace Cert.ReferenceIdeal.Hand

open Idealize.ShloMosaic Idealize.ShloMosaic.TcCoe Idealize.SL.Sem
open Idealize.ShloMosaic.StableHlo
open Cert.ReferenceIdeal Cert.ReferenceIdeal.Gen Cert.ReferenceIdeal.Value Cert.Spec

/-- Whole numbers as an array of words. -/
def ci1 {a N : ℕ} (f : Fin a → Fin N) : IVec ⟨1, ![a]⟩ 32 := fun i => BitVec.ofNat 32 (f (i 0)).val

def rPre (W : FVec Ideal S64x64 .f32) (b : FVec Ideal S64 .f32) (x : FVec Ideal S2048x64 .f32) : FVec Ideal S2048x64 .f32 :=
  addf (Host.dotGeneral dot_S2048x64_S64x64_S2048x64_1_0_0_1_n_n none x W)
    (broadcastInDim S2048x64 ![0, 1] bcast_S1x64_S2048x64_0_1 (broadcastInDim S1x64 ![1] bcast_S64_S1x64_1 b))

def rAct (z : FVec Ideal S2048x64 .f32) : FVec Ideal S2048x64 .f32 :=
  select (cmpf .oge z (broadcastInDim S2048x64 ![] bcast_S_S2048x64 (constant S_ .f32 0x00000000#32))) z
    (mulf (broadcastInDim S2048x64 ![] bcast_S_S2048x64 (constant S_ .f32 0x3C23D70A#32)) z)

def rRow (tx : IVec S256 32) : IVec S256x1 32 :=
  broadcastInDim S256x1 ![0] bcast_S256_S256x1_0 (select (cmpi .slt tx (broadcastInDim S256 ![] bcast_S_S256 (constantI S_ 32 0#32)))
    (addi tx (broadcastInDim S256 ![] bcast_S_S256 (constantI S_ 32 2048#32))) tx)

def rTake (z : FVec Ideal S2048x64 .f32) (i : IVec S256x1 32) : FVec Ideal S256x64 .f32 :=
  Host.gather gather_S2048x64_S256x1_S256x64_1_0_n_n_0_1_164 z i

def rScore (g : FVec Ideal S256x64 .f32) (W : FVec Ideal S64x32 .f32) (b : FVec Ideal S32 .f32) : FVec Ideal S256x32 .f32 :=
  addf (Host.dotGeneral dot_S256x64_S64x32_S256x32_1_0_0_1_n_n none g W)
    (broadcastInDim S256x32 ![0, 1] bcast_S1x32_S256x32_0_1 (broadcastInDim S1x32 ![1] bcast_S32_S1x32_1 b))

def rLabel (tg : IVec S256 32) : IVec S256x1x1 32 :=
  shapeCast S256x1x1 (select (cmpi .slt (broadcastInDim S256x1 ![0] bcast_S256_S256x1_0 tg) (broadcastInDim S256x1 ![] bcast_S_S256x1 (constantI S_ 32 0#32)))
    (addi (broadcastInDim S256x1 ![0] bcast_S256_S256x1_0 tg) (broadcastInDim S256x1 ![] bcast_S_S256x1 (constantI S_ 32 32#32)))
    (broadcastInDim S256x1 ![0] bcast_S256_S256x1_0 tg)) shapeCasts_S256x1_S256x1x1

def rInside (i : IVec S256x1x1 32) : IVec S256x1x1 1 :=
  andi (cmpi .sge i (broadcastInDim S256x1x1 ![] bcast_S_S256x1x1 (constantI S_ 32 0#32)))
    (cmpi .sle i (broadcastInDim S256x1x1 ![0, 1, 2] bcast_S1x1x1_S256x1x1_0_1_2 (broadcastInDim S1x1x1 ![2] bcast_S1_S1x1x1_2 (constantI S1 32 31#32))))

def rAll (p : IVec S256x1x1 1) : IVec S256x1 1 :=
  Host.reduce IntOp.andi p (constantI S_ 1 1#1) reducesTo_S256x1x1_S256x1_d2 h_S_

def rTakeLabel (y : FVec Ideal S256x32 .f32) (i : IVec S256x1x1 32) : FVec Ideal S256x1 .f32 :=
  Host.gather gather_S256x32_S256x1x1_S256x1_n_1_0_0_1_2_11 y i

def rPicked (p : IVec S256x1 1) (x : FVec Ideal S256x1 .f32) : FVec Ideal S256 .f32 :=
  shapeCast S256 (select p x (broadcastInDim S256x1 ![] bcast_S_S256x1 (constant S_ .f32 0x7FC00000#32))) shapeCasts_S256x1_S256

def rLse (y : FVec Ideal S256x32 .f32) : FVec Ideal S256 .f32 :=
  Host.log (Host.reduceAdd (Host.exp y) (constant S_ .f32 0x00000000#32) reducesTo_S256x32_S256_d1 h_S_)

def rMean (x : FVec Ideal S256 .f32) : FVec Ideal S_ .f32 :=
  Host.divf (Host.reduceAdd x (constant S_ .f32 0x00000000#32) reducesTo_S256_S_d0 h_S_) (constant S_ .f32 0x43800000#32)

/-- The scores over the loop's state. -/
def rY (x : FVec Ideal S2048x64 .f32) (W1 : FVec Ideal S64x64 .f32) (b1 : FVec Ideal S64 .f32) (W : FVec Ideal S64x64 .f32) (b : FVec Ideal S64 .f32)
    (tx : IVec S256 32) (W2 : FVec Ideal S64x32 .f32) (b2 : FVec Ideal S32 .f32) : FVec Ideal S256x32 .f32 :=
  rScore (rTake (rAct (rPre W b (rAct (rPre W1 b1 x)))) (rRow tx)) W2 b2

/-- The loss over the scores. -/
def rLoss (y : FVec Ideal S256x32 .f32) (tg : IVec S256 32) : FVec Ideal S_ .f32 :=
  rMean (subf (rLse y) (rPicked (rAll (rInside (rLabel tg))) (rTakeLabel y (rLabel tg))))

theorem out_y (V : Valuation τ sig (Elt Ideal)) :
    out_main_v124 V = rY (V (Proc.devRef .tc main_v95_7)) (V (Proc.devRef .tc main_arg13)) (V (Proc.devRef .tc main_arg14))
      (V (Proc.devRef .tc main_arg15)) (V (Proc.devRef .tc main_arg16)) (V (Proc.devRef .tc main_arg2)) (V (Proc.devRef .tc main_arg17))
      (V (Proc.devRef .tc main_arg18)) := rfl

theorem out_loss (V : Valuation τ sig (Elt Ideal)) :
    out_main_v133 V = rLoss (rY (V (Proc.devRef .tc main_v95_7)) (V (Proc.devRef .tc main_arg13)) (V (Proc.devRef .tc main_arg14))
      (V (Proc.devRef .tc main_arg15)) (V (Proc.devRef .tc main_arg16)) (V (Proc.devRef .tc main_arg2)) (V (Proc.devRef .tc main_arg17))
      (V (Proc.devRef .tc main_arg18))) (V (Proc.devRef .tc main_arg3)) := rfl

theorem dense_val (W : Fin 64 → Fin 64 → ℝ) (b : Fin 64 → ℝ) (x : Fin 2048 → Fin 64 → ℝ) :
    rAct (rPre (cv2 W) (cv1 b) (cv2 x)) = cv2 (dense cLr W b x) := by
  funext j
  idx_vars j
  pointwise [rAct, rPre, cv2_at, cv1_at, id]
  simp only [cLr_eq, ← EReal.coe_zero, ← EReal.coe_mul, ← EReal.coe_add, coe_sum, coe_ite, EReal.coe_le_coe_iff]
  simp only [dense, lr]

theorem row_word : ∀ n : Fin 2048, (if BitVec.slt (BitVec.ofNat 32 n.val) 0#32 then BitVec.ofNat 32 n.val + 2048#32 else BitVec.ofNat 32 n.val) = BitVec.ofNat 32 n.val := by
  decide +kernel

theorem label_word : ∀ n : Fin 32, (if BitVec.slt (BitVec.ofNat 32 n.val) 0#32 then BitVec.ofNat 32 n.val + 32#32 else BitVec.ofNat 32 n.val) = BitVec.ofNat 32 n.val := by
  decide +kernel

theorem label_inside : ∀ n : Fin 32, IntOp.andi (IntOp.cmpi .sge (BitVec.ofNat 32 n.val) 0#32) (IntOp.cmpi .sle (BitVec.ofNat 32 n.val) 31#32) = 1#1 := by
  decide +kernel

theorem sel_slt {α : Type} (x y : BitVec 32) (a b : α) : Scalar.select (IntOp.cmpi .slt x y) a b = if BitVec.slt x y then a else b := by
  by_cases h : BitVec.slt x y = true
  · simp [Scalar.select, IntOp.cmpi, h]
  · simp [Scalar.select, IntOp.cmpi, h]

theorem rRow_val (tx : Fin 256 → Fin 2048) : rRow (ci1 tx) = fun i => BitVec.ofNat 32 (tx (i 0)).val := by
  funext j
  refine (sel_slt _ _ _ _).trans ?_
  exact row_word _

theorem rLabel_val (tg : Fin 256 → Fin 32) : rLabel (ci1 tg) = fun i => BitVec.ofNat 32 (tg (i 0)).val := by
  funext j
  idx_vars j
  pointwise [rLabel]
  refine (sel_slt _ _ _ _).trans ?_
  exact label_word _

theorem rAll_one : rAll (fun _ => 1#1) = fun _ => 1#1 := by
  funext j
  have h : ∀ l : List (Fin S256x1x1.numel), l.foldl (fun r _ => IntOp.andi r (1#1)) (1#1) = 1#1 := fun l => by
    induction l with
    | nil => rfl
    | cons a l ih => exact ih
  exact h _

theorem rInside_val (tg : Fin 256 → Fin 32) : rInside (fun i => BitVec.ofNat 32 (tg (i 0)).val) = fun _ => 1#1 := by
  funext j
  exact label_inside _

theorem rTake_val (z : Fin 2048 → Fin 64 → ℝ) (tx : Fin 256 → Fin 2048) :
    rTake (cv2 z) (fun i => BitVec.ofNat 32 (tx (i 0)).val) = cv2 fun t g => z (tx t) g := by
  funext j
  have h : (BitVec.ofNat 32 (tx (j 0)).val).toInt.toNat = (tx (j 0)).val := (by decide +kernel : ∀ n : Fin 2048, (BitVec.ofNat 32 n.val).toInt.toNat = n.val) _
  refine congrArg (cv2 z) (a₂ := (ix2 (tx (j 0)) (j 1))) (funext fun a => Fin.ext ?_)
  match a with
  | ⟨0, _⟩ =>
    show min (BitVec.ofNat 32 (tx (j 0)).val).toInt.toNat 2047 + 0 + 0 = _
    rw [h]
    have := (tx (j 0)).isLt
    show min (tx (j 0)).val 2047 + 0 + 0 = (tx (j 0)).val
    omega
  | ⟨1, _⟩ =>
    show 0 + 0 + (j 1).val = (j 1).val
    omega

theorem rTakeLabel_val (y : Fin 256 → Fin 32 → ℝ) (tg : Fin 256 → Fin 32) :
    rTakeLabel (cv2 y) (fun i => BitVec.ofNat 32 (tg (i 0)).val) = fun i => ((y (i 0) (tg (i 0)) : ℝ) : EReal) := by
  funext j
  have h : (BitVec.ofNat 32 (tg (j 0)).val).toInt.toNat = (tg (j 0)).val := (by decide +kernel : ∀ n : Fin 32, (BitVec.ofNat 32 n.val).toInt.toNat = n.val) _
  refine congrArg (cv2 y) (a₂ := (ix2 (j 0) (tg (j 0)))) (funext fun a => Fin.ext ?_)
  match a with
  | ⟨0, _⟩ =>
    show 0 + (j 0).val + 0 = (j 0).val
    omega
  | ⟨1, _⟩ =>
    show min (BitVec.ofNat 32 (tg (j 0)).val).toInt.toNat 31 + 0 + 0 = _
    rw [h]
    have := (tg (j 0)).isLt
    show min (tg (j 0)).val 31 + 0 + 0 = (tg (j 0)).val
    omega

theorem rScore_val (z : Fin 2048 → Fin 64 → ℝ) (W : Fin 64 → Fin 32 → ℝ) (b : Fin 32 → ℝ) (tx : Fin 256 → Fin 2048) :
    rScore (cv2 fun t g => z (tx t) g) (cv2 W) (cv1 b) = cv2 (score z W b tx) := by
  funext j
  idx_vars j
  pointwise [rScore, cv2_at, cv1_at, id]
  simp only [← EReal.coe_mul, ← EReal.coe_add, coe_sum]
  rfl

theorem rY_val (x : Fin 2048 → Fin 64 → ℝ) (W1 W : Fin 64 → Fin 64 → ℝ) (b1 b : Fin 64 → ℝ) (tx : Fin 256 → Fin 2048)
    (W2 : Fin 64 → Fin 32 → ℝ) (b2 : Fin 32 → ℝ) :
    rY (cv2 x) (cv2 W1) (cv1 b1) (cv2 W) (cv1 b) (ci1 tx) (cv2 W2) (cv1 b2)
      = cv2 (score (dense cLr W b (dense cLr W1 b1 x)) W2 b2 tx) := by
  rw [rY, dense_val, dense_val, rRow_val, rTake_val, rScore_val]

theorem rLse_val (y : Fin 256 → Fin 32 → ℝ) : rLse (cv2 y) = cv1 fun t => Real.log (∑ o, Real.exp (y t o)) := by
  funext j
  idx_vars j
  pointwise [rLse, cv2_at, cv1_at]
  have h : 0 < ∑ o, Real.exp (y j0 o) := Finset.sum_pos (fun i _ => Real.exp_pos _) ⟨0, Finset.mem_univ _⟩
  simp only [Ideal.exp_coe, coe_sum]
  rw [Ideal.log_coe, if_neg h.not_ge]

theorem rPicked_val (x : Fin 256 → ℝ) : rPicked (fun _ => 1#1) (fun i => ((x (i 0) : ℝ) : EReal)) = cv1 x := by
  funext j
  idx_vars j
  pointwise [rPicked, cv1_at]

theorem rMean_val (a b : Fin 256 → ℝ) : rMean (subf (cv1 a) (cv1 b)) = fun _ => (((∑ t, (a t - b t)) / 256 : ℝ) : EReal) := by
  funext j
  pointwise [rMean, cv1_at]
  simp only [← EReal.coe_sub, coe_sum, ofBits_256]
  rw [coe_div _ (by norm_num : (256 : ℝ) ≠ 0)]

theorem rLoss_val (y : Fin 256 → Fin 32 → ℝ) (tg : Fin 256 → Fin 32) : rLoss (cv2 y) (ci1 tg) = fun _ => ((nll y tg : ℝ) : EReal) := by
  rw [rLoss, rLabel_val, rInside_val, rAll_one, rTakeLabel_val, rPicked_val (fun t => y t (tg t)), rLse_val, rMean_val]
  rfl

end Cert.ReferenceIdeal.Hand

end
-- ==== Proof.RefEntry.lean ====
module

public import proofs.«01_k».proof.Proof.RefHead

/-! What the reference's loop starts from, and what the reference leaves. -/

@[expose] public section

set_option maxRecDepth 16384

noncomputable section

namespace Cert.ReferenceIdeal.Hand

open Idealize.ShloMosaic Idealize.ShloMosaic.TcCoe Idealize.SL.Sem
open Idealize.ShloMosaic.StableHlo
open Cert.ReferenceIdeal Cert.ReferenceIdeal.Gen Cert.ReferenceIdeal.Value Cert.Spec

variable (m : (ℓ : Loc nD τ sig) → Buf (Elt Ideal) ℓ) (c : Dev nD)

/-- The literals of the loop: what is kept, and what is convolved. -/
def rLit1 : FVec Ideal S64 .f32 := fun i => FloatOps.ofBits .f32 (lit1 (S64.rowMajor i))
def rLit0 : FVec Ideal S64 .f32 := fun i => FloatOps.ofBits .f32 (lit0 (S64.rowMajor i))

theorem e0_0 : entryContents preI m c (Proc.devRef .tc main_v95_0)
    = rAhat (rB (m ((c.tc : Thread nD τ).loc main_arg0))) (rDinv (rDegB (rB (m ((c.tc : Thread nD τ).loc main_arg0))))) := by
  simp only [entryContents, afterL_cons, afterL_nil]
  after_reads_simp
  rfl

theorem e0_2 : entryContents preI m c (Proc.devRef .tc main_v95_2) = rLit1 := by
  simp only [entryContents, afterL_cons, afterL_nil]
  after_reads_simp
  rfl

theorem e0_3 : entryContents preI m c (Proc.devRef .tc main_v95_3) = rLit0 := by
  simp only [entryContents, afterL_cons, afterL_nil]
  after_reads_simp
  rfl

theorem e0_4 : entryContents preI m c (Proc.devRef .tc main_v95_4) = m ((c.tc : Thread nD τ).loc main_arg12) := by
  simp only [entryContents, afterL_cons, afterL_nil]
  after_reads_simp
  rfl

theorem e0_6 : entryContents preI m c (Proc.devRef .tc main_v95_6) = fun _ => 0#32 := by
  simp only [entryContents, afterL_cons, afterL_nil]
  after_reads_simp
  rfl

theorem last_group (V : Valuation τ sig (Elt Ideal)) :
    after hostOps0_14 V (Proc.devRef .tc main_v95_1) = after hostOps0_14 V (Proc.devRef .tc main_v95_7) := by
  after_reads_simp

theorem e0_1 : entryContents preI m c (Proc.devRef .tc main_v95_1) = entryContents preI m c (Proc.devRef .tc main_v95_7) := by
  simp only [entryContents, afterL_cons, afterL_nil]
  exact last_group _

set_option maxHeartbeats 2000000 in
theorem e0_7 : entryContents preI m c (Proc.devRef .tc main_v95_7)
    = rX0 (rCat (rBeta (rExps (rWatt (rLg (rHt (m ((c.tc : Thread nD τ).loc main_arg0))) (rInv (rDeg (rHt (m ((c.tc : Thread nD τ).loc main_arg0)))))
        (rXp (m ((c.tc : Thread nD τ).loc main_arg1)) (m ((c.tc : Thread nD τ).loc main_arg8)) (m ((c.tc : Thread nD τ).loc main_arg9)) (m ((c.tc : Thread nD τ).loc main_arg4))))
        (m ((c.tc : Thread nD τ).loc main_arg5)) (m ((c.tc : Thread nD τ).loc main_arg6)) (m ((c.tc : Thread nD τ).loc main_arg7)))))
        (rLg (rHt (m ((c.tc : Thread nD τ).loc main_arg0))) (rInv (rDeg (rHt (m ((c.tc : Thread nD τ).loc main_arg0)))))
        (rXp (m ((c.tc : Thread nD τ).loc main_arg1)) (m ((c.tc : Thread nD τ).loc main_arg8)) (m ((c.tc : Thread nD τ).loc main_arg9)) (m ((c.tc : Thread nD τ).loc main_arg4))))
        (m ((c.tc : Thread nD τ).loc main_arg1))) (m ((c.tc : Thread nD τ).loc main_arg10)) (m ((c.tc : Thread nD τ).loc main_arg11)) := by
  simp only [entryContents, afterL_cons, afterL_nil]
  after_reads_simp
  rfl

end Cert.ReferenceIdeal.Hand

end
-- ==== Proof.RefTop.lean ====
module

public import proofs.«01_k».proof.Proof.RefEntry
public import proofs.«01_k».proof.Proof.Net

/-! The reference's results over arrays of reals. -/

@[expose] public section

set_option maxRecDepth 16384

noncomputable section

namespace Cert.ReferenceIdeal.Hand

open Idealize.ShloMosaic Idealize.ShloMosaic.TcCoe Idealize.SL.Sem
open Idealize.ShloMosaic.StableHlo
open Cert.ReferenceIdeal Cert.ReferenceIdeal.Gen Cert.ReferenceIdeal.Value Cert.Spec

variable (m : (ℓ : Loc nD τ sig) → Buf (Elt Ideal) ℓ) (c : Dev nD)

/-- What a layer keeps of its state, and what it convolves. -/
def keep (l : Fin 64) : ℝ := (Ideal.ofBits .f32 (lit1 l)).toReal
def bet (l : Fin 64) : ℝ := (Ideal.ofBits .f32 (lit0 l)).toReal

theorem rowMajor64 (i : S64.Idx) : S64.rowMajor i = i 0 := by
  idx_vars i
  exact Fin.ext ((by decide +kernel : ∀ n : Fin 64, (S64.rowMajor (ix1 n)).val = n.val) i0)

theorem keep_word (l : Fin 64) : Ideal.ofBits .f32 (lit1 l) = ((keep l : ℝ) : EReal) :=
  ofBits_finite _ ((by decide +kernel : ∀ l : Fin 64, ((lit1 l).extractLsb' 23 8).toNat ≠ 255) l)

theorem bet_word (l : Fin 64) : Ideal.ofBits .f32 (lit0 l) = ((bet l : ℝ) : EReal) :=
  ofBits_finite _ ((by decide +kernel : ∀ l : Fin 64, ((lit0 l).extractLsb' 23 8).toNat ≠ 255) l)

theorem rLit1_val : rLit1 = cv1 keep := by
  funext i
  exact (congrArg (fun l => Ideal.ofBits .f32 (lit1 l)) (rowMajor64 i)).trans (keep_word _)

theorem rLit0_val : rLit0 = cv1 bet := by
  funext i
  exact (congrArg (fun l => Ideal.ofBits .f32 (lit0 l)) (rowMajor64 i)).trans (bet_word _)

/-- The launch holds the arguments `a`. -/
structure Holds (a : Args) : Prop where
  h0 : m ((c.tc : Thread nD τ).loc main_arg0) = cv3 a.A
  h1 : m ((c.tc : Thread nD τ).loc main_arg1) = cv2 a.X
  h2 : m ((c.tc : Thread nD τ).loc main_arg2) = ci1 a.tx
  h3 : m ((c.tc : Thread nD τ).loc main_arg3) = ci1 a.tg
  h4 : m ((c.tc : Thread nD τ).loc main_arg4) = cv2 a.wt
  h5 : m ((c.tc : Thread nD τ).loc main_arg5) = cv2 a.aw
  h6 : m ((c.tc : Thread nD τ).loc main_arg6) = cv2 a.ab
  h7 : m ((c.tc : Thread nD τ).loc main_arg7) = cv2 a.aq
  h8 : m ((c.tc : Thread nD τ).loc main_arg8) = cv2 a.gW
  h9 : m ((c.tc : Thread nD τ).loc main_arg9) = cv1 a.gb
  h10 : m ((c.tc : Thread nD τ).loc main_arg10) = cv2 a.W0
  h11 : m ((c.tc : Thread nD τ).loc main_arg11) = cv1 a.b0
  h12 : m ((c.tc : Thread nD τ).loc main_arg12) = cv3 a.cW
  h13 : m ((c.tc : Thread nD τ).loc main_arg13) = cv2 a.W1
  h14 : m ((c.tc : Thread nD τ).loc main_arg14) = cv1 a.b1
  h15 : m ((c.tc : Thread nD τ).loc main_arg15) = cv2 a.L1
  h16 : m ((c.tc : Thread nD τ).loc main_arg16) = cv1 a.d1
  h17 : m ((c.tc : Thread nD τ).loc main_arg17) = cv2 a.L2
  h18 : m ((c.tc : Thread nD τ).loc main_arg18) = cv1 a.d2

variable {m c} {a : Args}

theorem entry_h (h : Holds m c a) : entryContents preI m c (Proc.devRef .tc main_v95_7) = cv2 a.h := by
  rw [e0_7, h.h0, h.h1, h.h4, h.h5, h.h6, h.h7, h.h8, h.h9, h.h10, h.h11, rHt_val, rDeg_val, rInv_val, rXp_val, rLg_val, rWatt_val, rExps_val,
    rBeta_val, rX0_val]
  rfl

theorem loop_x (h : Holds m c a) : (STEP^[64] (entryContents preI m c)) (Proc.devRef .tc main_v95_7) = cv2 (a.x keep bet) := by
  refine (iter_val (entryContents preI m c) (pat a.A) a.h keep bet a.cW ?_ ?_ ?_ ?_ ?_ (e0_6 m c) (entry_h h) 64 le_rfl).2.2.2.2.2.2
  · rw [e0_0, h.h0, rB_val, rDegB_val, rDinv_val, rAhat_val]
  · exact (e0_1 m c).trans (entry_h h)
  · rw [e0_2, rLit1_val]
  · rw [e0_3, rLit0_val]
  · rw [e0_4, h.h12]

/-- The scores. -/
theorem ref_y (h : Holds m c a) : out_main_v124 (STEP^[64] (entryContents preI m c)) = cv2 (a.y keep bet) := by
  rw [out_y, loop_x h, iter_main_arg13, iter_main_arg14, iter_main_arg15, iter_main_arg16, iter_main_arg2, iter_main_arg17, iter_main_arg18,
    h.h13, h.h14, h.h15, h.h16, h.h2, h.h17, h.h18, rY_val]
  rfl

/-- The loss. -/
theorem ref_loss (h : Holds m c a) : out_main_v133 (STEP^[64] (entryContents preI m c)) = fun _ => ((nll (a.y keep bet) a.tg : ℝ) : EReal) := by
  rw [out_loss, ← out_y, ref_y h, iter_main_arg3, h.h3, rLoss_val]
  rfl

end Cert.ReferenceIdeal.Hand

end
-- ==== Proof.KHost.lean ====
module

public import proofs.«01_k».proof.Proof.KAcc
public import proofs.«01_k».proof.Proof.RefTop

/-! The arrays that reach the kernel's three calls, over arrays of reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec
open Cert.ReferenceIdeal.Hand (ci1 keep bet keep_word bet_word)

variable (m : (ℓ : Loc nD τ sig) → Buf (Elt Ideal) ℓ) (c : Dev nD)

/-- The launch holds the arguments `a`. -/
structure KHolds (a : Args) : Prop where
  h0 : m ((c.tc : Thread nD τ).loc main_arg0) = cv3 a.A
  h1 : m ((c.tc : Thread nD τ).loc main_arg1) = cv2 a.X
  h2 : m ((c.tc : Thread nD τ).loc main_arg2) = ci1 a.tx
  h3 : m ((c.tc : Thread nD τ).loc main_arg3) = ci1 a.tg
  h4 : m ((c.tc : Thread nD τ).loc main_arg4) = cv2 a.wt
  h5 : m ((c.tc : Thread nD τ).loc main_arg5) = cv2 a.aw
  h6 : m ((c.tc : Thread nD τ).loc main_arg6) = cv2 a.ab
  h7 : m ((c.tc : Thread nD τ).loc main_arg7) = cv2 a.aq
  h8 : m ((c.tc : Thread nD τ).loc main_arg8) = cv2 a.gW
  h9 : m ((c.tc : Thread nD τ).loc main_arg9) = cv1 a.gb
  h10 : m ((c.tc : Thread nD τ).loc main_arg10) = cv2 a.W0
  h11 : m ((c.tc : Thread nD τ).loc main_arg11) = cv1 a.b0
  h12 : m ((c.tc : Thread nD τ).loc main_arg12) = cv3 a.cW
  h13 : m ((c.tc : Thread nD τ).loc main_arg13) = cv2 a.W1
  h14 : m ((c.tc : Thread nD τ).loc main_arg14) = cv1 a.b1
  h15 : m ((c.tc : Thread nD τ).loc main_arg15) = cv2 a.L1
  h16 : m ((c.tc : Thread nD τ).loc main_arg16) = cv1 a.d1
  h17 : m ((c.tc : Thread nD τ).loc main_arg17) = cv2 a.L2
  h18 : m ((c.tc : Thread nD τ).loc main_arg18) = cv1 a.d2

def hLit0 : FVec Ideal S64 .f32 := fun i => FloatOps.ofBits .f32 (lit0 (S64.rowMajor i))
def hLit1 : FVec Ideal S64 .f32 := fun i => FloatOps.ofBits .f32 (lit1 (S64.rowMajor i))

theorem hLit0_val : hLit0 = cv1 keep := by
  funext i
  refine (congrArg (fun l => Ideal.ofBits .f32 (lit0 l)) (Cert.ReferenceIdeal.Hand.rowMajor64 i)).trans ?_
  exact (congrArg (Ideal.ofBits .f32) ((by decide +kernel : ∀ l : Fin 64, lit0 l = Cert.ReferenceIdeal.lit1 l) (i 0))).trans (keep_word _)

theorem hLit1_val : hLit1 = cv1 bet := by
  funext i
  refine (congrArg (fun l => Ideal.ofBits .f32 (lit1 l)) (Cert.ReferenceIdeal.Hand.rowMajor64 i)).trans ?_
  exact (congrArg (Ideal.ofBits .f32) ((by decide +kernel : ∀ l : Fin 64, lit1 l = Cert.ReferenceIdeal.lit0 l) (i 0))).trans (bet_word _)

/-- The identity matrix as the host makes it. -/
def hEye : FVec Ideal S64x64 .f32 :=
  uitofp .f32 (cmpi .eq (addi (iotaInDim S64x64 32 0) (broadcastInDim S64x64 ![] bcast_S_S64x64 (constantI S_ 32 0#32))) (iotaInDim S64x64 32 1))

def hMix (k b : FVec Ideal S64 .f32) (W : FVec Ideal S64x64x64 .f32) : FVec Ideal S64x64x64 .f32 :=
  addf (mulf (broadcastInDim S64x64x64 ![0, 1, 2] bcast_S64x1x1_S64x64x64_0_1_2 (broadcastInDim S64x1x1 ![0] bcast_S64_S64x1x1_0 k))
      (broadcastInDim S64x64x64 ![0, 1, 2] bcast_S1x64x64_S64x64x64_0_1_2 (broadcastInDim S1x64x64 ![1, 2] bcast_S64x64_S1x64x64_1_2 hEye)))
    (mulf (broadcastInDim S64x64x64 ![0, 1, 2] bcast_S64x1x1_S64x64x64_0_1_2 (broadcastInDim S64x1x1 ![0] bcast_S64_S64x1x1_0 b)) W)

def hParts (M : FVec Ideal S64x64x64 .f32) : FVec Ideal S64x192x64 .bf16 :=
  have hi : FVec Ideal S64x64x64 .bf16 := truncf .bf16 M bitsLt_bf16_f32
  have lo : FVec Ideal S64x64x64 .bf16 := truncf .bf16 (subf M (extf .f32 hi bitsLt_bf16_f32)) bitsLt_bf16_f32
  concatenate S64x192x64 1 [⟨S64x64x64, hi⟩, ⟨S64x64x64, hi⟩, ⟨S64x64x64, lo⟩] concatenates_S64x64x64_S64x64x64_S64x64x64_S64x192x64_d1

theorem w1_v21 : W1 m c (Proc.devRef .tc main_v21) = hParts (hMix hLit0 hLit1 (m ((c.tc : Thread nD τ).loc main_arg12))) := by
  after_reads_simp
  rfl

theorem hEye_val : hEye = cv2 (fun g f => if g = f then 1 else 0) := by
  funext j
  idx_vars j
  pointwise [hEye, cv2_at]
  by_cases h : j0 = j1
  · subst h
    rw [if_pos rfl]
    have e : IntOp.cmpi CmpIPredicate.eq (IntOp.addi (BitVec.ofNat 32 j0.val) 0#32) (BitVec.ofNat 32 j0.val) = 1#1 := by
      show BitVec.ofBool (BitVec.ofNat 32 j0.val + 0#32 == BitVec.ofNat 32 j0.val) = 1#1
      rw [BitVec.add_zero, beq_self_eq_true]; rfl
    rw [e]
    show (((1#1 : BitVec 1).toNat : ℝ) : EReal) = _
    norm_num
  · rw [if_neg h]
    have e : IntOp.cmpi CmpIPredicate.eq (IntOp.addi (BitVec.ofNat 32 j0.val) 0#32) (BitVec.ofNat 32 j1.val) = 0#1 := by
      show BitVec.ofBool (BitVec.ofNat 32 j0.val + 0#32 == BitVec.ofNat 32 j1.val) = 0#1
      have hn : (BitVec.ofNat 32 j0.val + 0#32 == BitVec.ofNat 32 j1.val) = false := by
        rw [beq_eq_false_iff_ne, BitVec.add_zero]
        intro he
        have := congrArg BitVec.toNat he
        simp only [BitVec.toNat_ofNat] at this
        exact h (Fin.ext (by omega))
      rw [hn]; rfl
    rw [e]
    show (((0#1 : BitVec 1).toNat : ℝ) : EReal) = _
    norm_num

theorem hMix_val (k b : Fin 64 → ℝ) (W : Fin 64 → Fin 64 → Fin 64 → ℝ) : hMix (cv1 k) (cv1 b) (cv3 W) = cv3 (fun l => convM (k l) (b l) (W l)) := by
  have h : ∀ E : FVec Ideal S64x64 .f32, E = cv2 (fun g f => if g = f then 1 else 0) → addf (mulf (broadcastInDim S64x64x64 ![0, 1, 2] bcast_S64x1x1_S64x64x64_0_1_2 (broadcastInDim S64x1x1 ![0] bcast_S64_S64x1x1_0 (cv1 k : FVec Ideal S64 .f32)))
      (broadcastInDim S64x64x64 ![0, 1, 2] bcast_S1x64x64_S64x64x64_0_1_2 (broadcastInDim S1x64x64 ![1, 2] bcast_S64x64_S1x64x64_1_2 E)))
      (mulf (broadcastInDim S64x64x64 ![0, 1, 2] bcast_S64x1x1_S64x64x64_0_1_2 (broadcastInDim S64x1x1 ![0] bcast_S64_S64x1x1_0 (cv1 b : FVec Ideal S64 .f32))) (cv3 W)) = cv3 (fun l => convM (k l) (b l) (W l)) := by
    rintro E rfl
    funext j
    idx_vars j
    pointwise [cv1_at, cv2_at, cv3_at]
    simp only [← EReal.coe_mul, ← EReal.coe_add]
    rfl
  exact h hEye hEye_val

theorem hParts_val (M : Fin 64 → Fin 64 → Fin 64 → ℝ) : hParts (cv3 M) = cb3 (fun l => convS (M l)) := by
  funext j
  idx_vars j
  pointwise [hParts, cv3_at]
  show _ = ((convS (M j0) j1 j2 : ℝ) : EReal)
  unfold convS
  by_cases h1 : j1.val < 64
  · rw [dif_pos h1, dif_pos h1]
  · rw [dif_neg h1, dif_neg h1]
    by_cases h2 : j1.val < 128
    · rw [dif_pos h2, dif_pos (by omega)]
    · rw [dif_neg h2, dif_neg (by omega), ← EReal.coe_sub, sub_self]

variable {m c} {a : Args}

theorem w1_conv (h : KHolds m c a) : W1 m c (Proc.devRef .tc main_v21) = cb3 (convAll keep bet a.cW) := by
  rw [w1_v21, h.h12, hLit0_val, hLit1_val, hMix_val, hParts_val]
  rfl

theorem w1_rel (h : KHolds m c a) : W1 m c (Proc.devRef .tc main_v2) = (cv3 (fun e i j => a.A i j e) : FVec Ideal S5x2048x2048 .f32) := by
  have e : W1 m c (Proc.devRef .tc main_v2) = transpose S5x2048x2048 [2, 0, 1] (m ((c.tc : Thread nD τ).loc main_arg0)) transposes_S2048x2048x5_S5x2048x2048_2_0_1 := by
    after_reads_simp
  rw [e, h.h0]
  funext j
  idx_vars j
  pointwise [cv3_at]

theorem w1_feat (h : KHolds m c a) : W1 m c (Proc.devRef .tc main_v3) = (cv2 (fun g n => a.X n g) : FVec Ideal S256x2048 .f32) := by
  have e : W1 m c (Proc.devRef .tc main_v3) = transpose S256x2048 [1, 0] (m ((c.tc : Thread nD τ).loc main_arg1)) transposes_S2048x256_S256x2048_1_0 := by
    after_reads_simp
  rw [e, h.h1]
  funext j
  idx_vars j
  pointwise [cv2_at]

theorem w1_bias (h : KHolds m c a) : W1 m c (Proc.devRef .tc main_v22) = (cv2 (fun _ => a.gb) : FVec Ideal S1x256 .f32) := by
  have e : W1 m c (Proc.devRef .tc main_v22) = shapeCast S1x256 (m ((c.tc : Thread nD τ).loc main_arg9)) shapeCasts_S256_S1x256 := by
    after_reads_simp
    rfl
  rw [e, h.h9]
  funext j
  idx_vars j
  pointwise [cv2_at]
  rfl

theorem w1_keeps (m : (ℓ : Loc nD τ sig) → Buf (Elt Ideal) ℓ) (c : Dev nD) (r : Ref sig .tc) (h : r ∉ hostOps0_W) : W1 m c (Proc.devRef .tc r) = m ((c.tc : Thread nD τ).loc r) :=
  StableHlo.after_of_writes_sub hostOps0 (V0 m c) hostOps0_writes h

theorem idx0 : ∀ t : Fin cfg0.N, win0_0.index t = ![0, 0] ∧ win0_1.index t = ![0, 0] ∧ win0_2.index t = ![0, 0] ∧ win0_3.index t = ![0, 0] := by decide +kernel

theorem after0_4 {F : FTy → Type} [FloatOps F] (V : Dev nD → Valuation τ sig (Elt F)) (t : Fin cfg0.N) :
    (dat0 V c).after 4 t = k0_pay1 (blk0 V c 0 t) (blk0 V c 1 t) (blk0 V c 2 t) (blk0 V c 3 t) := rfl

theorem prep_b0 (h : KHolds m c a) : blk0 (W1 m) c 0 t0_0 = cv2 a.X := by
  have e : blk0 (W1 m) c 0 t0_0 = W1 m c (Proc.devRef .tc main_arg1) := by funext i; blk_ext [blk0, idx0 t0_0]
  exact e.trans ((w1_keeps m c main_arg1 (by decide +kernel)).trans h.h1)

theorem prep_b1 (h : KHolds m c a) : blk0 (W1 m) c 1 t0_0 = cv2 a.gW := by
  have e : blk0 (W1 m) c 1 t0_0 = W1 m c (Proc.devRef .tc main_arg8) := by funext i; blk_ext [blk0, idx0 t0_0]
  exact e.trans ((w1_keeps m c main_arg8 (by decide +kernel)).trans h.h8)

theorem prep_b2 (h : KHolds m c a) : blk0 (W1 m) c 2 t0_0 = cv2 fun _ => a.gb := by
  have e : blk0 (W1 m) c 2 t0_0 = W1 m c (Proc.devRef .tc main_v22) := by funext i; blk_ext [blk0, idx0 t0_0]
  exact e.trans (w1_bias h)

theorem prep_b3 (h : KHolds m c a) : blk0 (W1 m) c 3 t0_0 = cv2 a.wt := by
  have e : blk0 (W1 m) c 3 t0_0 = W1 m c (Proc.devRef .tc main_arg4) := by funext i; blk_ext [blk0, idx0 t0_0]
  exact e.trans ((w1_keeps m c main_arg4 (by decide +kernel)).trans h.h4)

theorem prep_point (h : KHolds m c a) : k0_pay1 (blk0 (W1 m) c 0 t0_0) (blk0 (W1 m) c 1 t0_0) (blk0 (W1 m) c 2 t0_0) (blk0 (W1 m) c 3 t0_0) = cv2 (fun f n => a.p n f) := by
  rw [prep_b0 h, prep_b1 h, prep_b2 h, prep_b3 h]
  exact prep_val a.X a.gW (fun _ => a.gb) a.wt

/-- The array the first call writes: the transposed node features. -/
theorem w2_feat (h : KHolds m c a) : W2 m c (Proc.devRef .tc main_v23) = (cv2 (fun f n => a.p n f) : FVec Ideal S64x2048 .f32) := by
  have e : W2 m c (Proc.devRef .tc main_v23) = (dat0 (W1 m) c).arrAt 4 cfg0.N := Pipeline.afterRegion_arr (dat0 (W1 m) c) (W1 m c) launch0.win.arr_inj 4
  rw [e]
  refine (dat0 (W1 m) c).arrAt_eq_of_after_last 4 t0_0 (by decide +kernel) _ fun j => ?_
  blk_simp
  rw [after0_4, prep_point h]

end Cert.KernelIdeal.Hand

end
-- ==== Proof.KArr.lean ====
module

public import proofs.«01_k».proof.Proof.KHost

/-! What the second call leaves in its five arrays, over arrays of reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

theorem idx1o : ∀ t : Fin cfg1.N, win1_2.index t = ![0, 0, t.val / 4] ∧ win1_3.index t = ![0, 0, t.val / 4] ∧ win1_4.index t = ![0, 0, t.val / 4] ∧
    win1_5.index t = ![t.val % 4, t.val / 4] ∧ win1_6.index t = ![0, t.val / 4] := by decide +kernel

theorem flush1 : ∀ t : Fin cfg1.N, ((cfg1.win 2).flush t = true → t.val % 4 = 3) ∧ ((cfg1.win 3).flush t = true → t.val % 4 = 3) ∧
    ((cfg1.win 4).flush t = true → t.val % 4 = 3) ∧ ((cfg1.win 6).flush t = true → t.val % 4 = 3) := by decide +kernel

section
variable {F : FTy → Type} [FloatOps F] (V : Dev nD → Valuation τ sig (Elt F)) (c : Dev nD) (t : Fin cfg1.N)
theorem after1_2 : (dat1 V c).after 2 t = accT V c t.val t.isLt := rfl
theorem after1_3 : (dat1 V c).after 3 t = accC V c t.val t.isLt := rfl
theorem after1_4 : (dat1 V c).after 4 t = accG V c t.val t.isLt := rfl
theorem after1_5 : (dat1 V c).after 5 t = sweepB (grid1.coords t) (blkA V c t) := rfl
theorem after1_6 : (dat1 V c).after 6 t = accD V c t.val t.isLt := rfl
end

variable (V : Dev nD → Valuation τ sig (Elt Ideal)) (c : Dev nD) (AT : Fin 5 → Fin 2048 → Fin 2048 → ℝ) (P : Fin 64 → Fin 2048 → ℝ)

theorem arrT (hA : V c (Proc.devRef .tc (Pipeline.arrRef spec1 0)) = (cv3 AT : FVec Ideal S5x2048x2048 .f32))
    (hP : V c (Proc.devRef .tc (Pipeline.arrRef spec1 1)) = (cv2 P : FVec Ideal S64x2048 .f32)) :
    (dat1 V c).arrAt 2 cfg1.N = (cv3 (fun e f n => ∑ k, P f k * AT e k n) : FVec Ideal S5x64x2048 .f32) := by
  refine (dat1 V c).arrAt_eq_of_covers 2 _ (by decide +kernel) fun t hf y => ?_
  have hl := (flush1 t).1 hf
  blk_simp
  rw [after1_2, accT_val V c AT P hA hP]
  have e : (win1_2.blk t).view.emb y = ix3 (y 0) (y 1) (node (t.val / 4) (y 2)) := by blk_ext [idx1o t] <;> simp only [node] <;> omega
  rw [e]
  exact congrArg (fun v : ℝ => (v : EReal)) (runSum_last _ _ hl)

theorem arrC (hA : V c (Proc.devRef .tc (Pipeline.arrRef spec1 0)) = (cv3 AT : FVec Ideal S5x2048x2048 .f32)) :
    (dat1 V c).arrAt 3 cfg1.N = (cv3 (fun e (_ : Fin 1) n => ∑ k, AT e k n) : FVec Ideal S5x1x2048 .f32) := by
  refine (dat1 V c).arrAt_eq_of_covers 3 _ (by decide +kernel) fun t hf y => ?_
  have hl := (flush1 t).2.1 hf
  blk_simp
  rw [after1_3, accC_val V c AT hA]
  have e : (win1_3.blk t).view.emb y = ix3 (y 0) (y 1) (node (t.val / 4) (y 2)) := by blk_ext [idx1o t] <;> simp only [node] <;> omega
  rw [e]
  exact congrArg (fun v : ℝ => (v : EReal)) (runSum_last _ _ hl)

theorem arrG (hA : V c (Proc.devRef .tc (Pipeline.arrRef spec1 0)) = (cv3 AT : FVec Ideal S5x2048x2048 .f32)) :
    (dat1 V c).arrAt 4 cfg1.N = (cv3 (fun e (_ : Fin 1) n => AT e n n) : FVec Ideal S5x1x2048 .f32) := by
  refine (dat1 V c).arrAt_eq_of_covers 4 _ (by decide +kernel) fun t hf y => ?_
  have hl := (flush1 t).2.2.1 hf
  blk_simp
  rw [after1_4, accG_val V c AT hA _ _ (by have : t.val < 16 := lt_of_lt_of_eq t.isLt (by decide); omega)]
  have e : (win1_4.blk t).view.emb y = ix3 (y 0) (y 1) (node (t.val / 4) (y 2)) := by blk_ext [idx1o t] <;> simp only [node] <;> omega
  rw [e]
  exact rfl

theorem arrB (hA : V c (Proc.devRef .tc (Pipeline.arrRef spec1 0)) = (cv3 AT : FVec Ideal S5x2048x2048 .f32)) :
    (dat1 V c).arrAt 5 cfg1.N = (cb2 (patT AT) : FVec Ideal S2048x2048 .bf16) := by
  refine (dat1 V c).arrAt_eq_of_covers 5 _ (by decide +kernel) fun t hf y => ?_
  blk_simp
  rw [after1_5, sweepB_blk V c AT hA]
  have e : (win1_5.blk t).view.emb y = ix2 (node t.val (y 0)) (node (t.val / 4) (y 1)) := by blk_ext [idx1o t] <;> simp only [node] <;> omega
  rw [e]
  exact rfl

theorem arrD (hA : V c (Proc.devRef .tc (Pipeline.arrRef spec1 0)) = (cv3 AT : FVec Ideal S5x2048x2048 .f32)) :
    (dat1 V c).arrAt 6 cfg1.N = (cv2 (fun (_ : Fin 1) n => ∑ k, patT AT k n) : FVec Ideal S1x2048 .f32) := by
  refine (dat1 V c).arrAt_eq_of_covers 6 _ (by decide +kernel) fun t hf y => ?_
  have hl := (flush1 t).2.2.2 hf
  blk_simp
  rw [after1_6, accD_val V c AT hA]
  have e : (win1_6.blk t).view.emb y = ix2 (y 0) (node (t.val / 4) (y 1)) := by blk_ext [idx1o t] <;> simp only [node] <;> omega
  rw [e]
  exact congrArg (fun v : ℝ => (v : EReal)) (runSum_last _ _ hl)

variable (m : (ℓ : Loc nD τ sig) → Buf (Elt Ideal) ℓ) {c} {a : Args}

theorem w2_rel (h : KHolds m c a) : W2 m c (Proc.devRef .tc (Pipeline.arrRef spec1 0)) = (cv3 (fun e i j => a.A i j e) : FVec Ideal S5x2048x2048 .f32) :=
  (W2_keeps m c main_v2 (by decide +kernel)).trans (w1_rel h)

theorem w3_T (h : KHolds m c a) : W3 m c (Proc.devRef .tc main_v24_0) = (cv3 (fun e f n => ∑ k, a.p k f * a.A k n e) : FVec Ideal S5x64x2048 .f32) :=
  (Pipeline.afterRegion_arr (dat1 (W2 m) c) (W2 m c) launch1.win.arr_inj 2).trans (arrT (W2 m) c _ _ (w2_rel m h) (w2_feat h))

theorem w3_C (h : KHolds m c a) : W3 m c (Proc.devRef .tc main_v24_1) = (cv3 (fun e (_ : Fin 1) n => ∑ k, a.A k n e) : FVec Ideal S5x1x2048 .f32) :=
  (Pipeline.afterRegion_arr (dat1 (W2 m) c) (W2 m c) launch1.win.arr_inj 3).trans (arrC (W2 m) c _ (w2_rel m h))

theorem w3_G (h : KHolds m c a) : W3 m c (Proc.devRef .tc main_v24_2) = (cv3 (fun e (_ : Fin 1) n => a.A n n e) : FVec Ideal S5x1x2048 .f32) :=
  (Pipeline.afterRegion_arr (dat1 (W2 m) c) (W2 m c) launch1.win.arr_inj 4).trans (arrG (W2 m) c _ (w2_rel m h))

theorem w3_B (h : KHolds m c a) : W3 m c (Proc.devRef .tc main_v24_3) = (cb2 (pat a.A) : FVec Ideal S2048x2048 .bf16) :=
  (Pipeline.afterRegion_arr (dat1 (W2 m) c) (W2 m c) launch1.win.arr_inj 5).trans (arrB (W2 m) c _ (w2_rel m h))

theorem w3_D (h : KHolds m c a) : W3 m c (Proc.devRef .tc main_v24_4) = (cv2 (fun (_ : Fin 1) => degB (pat a.A)) : FVec Ideal S1x2048 .f32) :=
  (Pipeline.afterRegion_arr (dat1 (W2 m) c) (W2 m c) launch1.win.arr_inj 6).trans (arrD (W2 m) c _ (w2_rel m h))

end Cert.KernelIdeal.Hand

end
-- ==== Proof.KTop.lean ====
module

public import proofs.«01_k».proof.Proof.KArr

/-! What the last call finds in its arrays, and what the kernel's two results are, over arrays of reals. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec
open Cert.ReferenceIdeal.Hand (ci1 keep bet)

variable (m : (ℓ : Loc nD τ sig) → Buf (Elt Ideal) ℓ) {c : Dev nD} {a : Args}

theorem w3_arg (r : Ref sig .tc) (h0 : r ∉ hostOps0_W) (h1 : ∀ w, Pipeline.arrRef spec0 w = r → (cfg0.win w).isOut = false)
    (h2 : ∀ w, Pipeline.arrRef spec1 w = r → (cfg1.win w).isOut = false) : W3 m c (Proc.devRef .tc r) = m ((c.tc : Thread nD τ).loc r) :=
  (W3_keeps m c r h2).trans ((W2_keeps m c r h1).trans (w1_keeps m c r h0))

theorem index_real {b N : ℕ} (f : Fin b → Fin N) (hN : N ≤ 2 ^ 31) (i : Fin b) : FloatOps.sitofp (F := Ideal) FTy.f32 (ci1 f (ix1 i)) = (((f i).val : ℝ) : EReal) := by
  have hb : (BitVec.ofNat 32 (f i).val).toInt = ((f i).val : ℤ) := by
    rw [BitVec.toInt_eq_toNat_of_lt] <;> simp only [BitVec.toNat_ofNat] <;> have := (f i).isLt <;> omega
  show (((BitVec.ofNat 32 (f i).val).toInt : ℝ) : EReal) = _
  rw [hb, Int.cast_natCast]

theorem idx2 : ∀ t : Fin cfg2.N, win2_0.index t = ![0, 0, 0] ∧ win2_1.index t = ![0, 0, 0] ∧ win2_2.index t = ![0, 0, 0] ∧ win2_3.index t = ![0, 0] ∧ win2_4.index t = ![0, 0] ∧ win2_5.index t = ![0, 0] ∧ win2_6.index t = ![0, 0] ∧ win2_7.index t = ![0, 0] ∧ win2_8.index t = ![0, 0] ∧ win2_9.index t = ![0, 0] ∧ win2_10.index t = ![0, 0] ∧ win2_11.index t = ![0, 0] ∧ win2_12.index t = ![0, 0, 0] ∧ win2_13.index t = ![0, 0] ∧ win2_14.index t = ![0, 0] ∧ win2_15.index t = ![0, 0] ∧ win2_16.index t = ![0, 0] ∧ win2_17.index t = ![0, 0] ∧ win2_18.index t = ![0, 0] ∧ win2_19.index t = ![0, 0] ∧ win2_20.index t = ![0, 0] := by decide +kernel

theorem w4_0 (h : KHolds m c a) : W4 m c (Proc.devRef .tc main_v24_0) = (cv3 (fun e f n => ∑ k, a.p k f * a.A k n e) : FVec Ideal S5x64x2048 .f32) :=
  (W4_keeps m c main_v24_0 (by decide +kernel)).trans (w3_T m h)

theorem w4_1 (h : KHolds m c a) : W4 m c (Proc.devRef .tc main_v24_1) = (cv3 (fun e (_ : Fin 1) n => ∑ k, a.A k n e) : FVec Ideal S5x1x2048 .f32) :=
  (W4_keeps m c main_v24_1 (by decide +kernel)).trans (w3_C m h)

theorem w4_2 (h : KHolds m c a) : W4 m c (Proc.devRef .tc main_v24_2) = (cv3 (fun e (_ : Fin 1) n => a.A n n e) : FVec Ideal S5x1x2048 .f32) :=
  (W4_keeps m c main_v24_2 (by decide +kernel)).trans (w3_G m h)

theorem w4_3 (h : KHolds m c a) : W4 m c (Proc.devRef .tc main_v23) = (cv2 (fun f n => a.p n f) : FVec Ideal S64x2048 .f32) :=
  (W4_keeps m c main_v23 (by decide +kernel)).trans ((W3_keeps m c main_v23 (by decide +kernel)).trans (w2_feat h))

theorem w4_4 (h : KHolds m c a) : W4 m c (Proc.devRef .tc main_v3) = (cv2 (fun g n => a.X n g) : FVec Ideal S256x2048 .f32) :=
  (W4_keeps m c main_v3 (by decide +kernel)).trans ((W3_keeps m c main_v3 (by decide +kernel)).trans ((W2_keeps m c main_v3 (by decide +kernel)).trans (w1_feat h)))

theorem w4_5 (h : KHolds m c a) : W4 m c (Proc.devRef .tc main_v24_3) = (cb2 (pat a.A) : FVec Ideal S2048x2048 .bf16) :=
  (W4_keeps m c main_v24_3 (by decide +kernel)).trans (w3_B m h)

theorem w4_6 (h : KHolds m c a) : W4 m c (Proc.devRef .tc main_v24_4) = (cv2 (fun (_ : Fin 1) => degB (pat a.A)) : FVec Ideal S1x2048 .f32) :=
  (W4_keeps m c main_v24_4 (by decide +kernel)).trans (w3_D m h)

theorem w4_7 (h : KHolds m c a) : W4 m c (Proc.devRef .tc main_arg5) = (cv2 a.aw : FVec Ideal S1x2048 .f32) :=
  (W4_keeps m c main_arg5 (by decide +kernel)).trans ((w3_arg m main_arg5 (by decide +kernel) (by decide +kernel) (by decide +kernel)).trans h.h5)

theorem w4_8 (h : KHolds m c a) : W4 m c (Proc.devRef .tc main_arg6) = (cv2 a.ab : FVec Ideal S1x64 .f32) :=
  (W4_keeps m c main_arg6 (by decide +kernel)).trans ((w3_arg m main_arg6 (by decide +kernel) (by decide +kernel) (by decide +kernel)).trans h.h6)

theorem w4_9 (h : KHolds m c a) : W4 m c (Proc.devRef .tc main_arg7) = (cv2 a.aq : FVec Ideal S1x64 .f32) :=
  (W4_keeps m c main_arg7 (by decide +kernel)).trans ((w3_arg m main_arg7 (by decide +kernel) (by decide +kernel) (by decide +kernel)).trans h.h7)

theorem w4_10 (h : KHolds m c a) : W4 m c (Proc.devRef .tc main_arg10) = (cv2 a.W0 : FVec Ideal S576x64 .f32) :=
  (W4_keeps m c main_arg10 (by decide +kernel)).trans ((w3_arg m main_arg10 (by decide +kernel) (by decide +kernel) (by decide +kernel)).trans h.h10)

theorem w4_11 (h : KHolds m c a) : W4 m c (Proc.devRef .tc main_v25) = (cv2 (fun (_ : Fin 1) => a.b0) : FVec Ideal S1x64 .f32) := by
  have e : W4 m c (Proc.devRef .tc main_v25) = shapeCast S1x64 (W3 m c (Proc.devRef .tc main_arg11)) shapeCasts_S64_S1x64 := by
    unfold W4
    after_reads_simp
    rfl
  rw [e, w3_arg m main_arg11 (by decide +kernel) (by decide +kernel) (by decide +kernel), h.h11]
  funext j
  idx_vars j
  pointwise [cv2_at]
  rfl

theorem w4_12 (h : KHolds m c a) : W4 m c (Proc.devRef .tc main_v21) = (cb3 (convAll keep bet a.cW) : FVec Ideal S64x192x64 .bf16) :=
  (W4_keeps m c main_v21 (by decide +kernel)).trans ((W3_keeps m c main_v21 (by decide +kernel)).trans ((W2_keeps m c main_v21 (by decide +kernel)).trans (w1_conv h)))

theorem w4_13 (h : KHolds m c a) : W4 m c (Proc.devRef .tc main_arg13) = (cv2 a.W1 : FVec Ideal S64x64 .f32) :=
  (W4_keeps m c main_arg13 (by decide +kernel)).trans ((w3_arg m main_arg13 (by decide +kernel) (by decide +kernel) (by decide +kernel)).trans h.h13)

theorem w4_14 (h : KHolds m c a) : W4 m c (Proc.devRef .tc main_v26) = (cv2 (fun (_ : Fin 1) => a.b1) : FVec Ideal S1x64 .f32) := by
  have e : W4 m c (Proc.devRef .tc main_v26) = shapeCast S1x64 (W3 m c (Proc.devRef .tc main_arg14)) shapeCasts_S64_S1x64 := by
    unfold W4
    after_reads_simp
    rfl
  rw [e, w3_arg m main_arg14 (by decide +kernel) (by decide +kernel) (by decide +kernel), h.h14]
  funext j
  idx_vars j
  pointwise [cv2_at]
  rfl

theorem w4_15 (h : KHolds m c a) : W4 m c (Proc.devRef .tc main_arg15) = (cv2 a.L1 : FVec Ideal S64x64 .f32) :=
  (W4_keeps m c main_arg15 (by decide +kernel)).trans ((w3_arg m main_arg15 (by decide +kernel) (by decide +kernel) (by decide +kernel)).trans h.h15)

theorem w4_16 (h : KHolds m c a) : W4 m c (Proc.devRef .tc main_v27) = (cv2 (fun (_ : Fin 1) => a.d1) : FVec Ideal S1x64 .f32) := by
  have e : W4 m c (Proc.devRef .tc main_v27) = shapeCast S1x64 (W3 m c (Proc.devRef .tc main_arg16)) shapeCasts_S64_S1x64 := by
    unfold W4
    after_reads_simp
    rfl
  rw [e, w3_arg m main_arg16 (by decide +kernel) (by decide +kernel) (by decide +kernel), h.h16]
  funext j
  idx_vars j
  pointwise [cv2_at]
  rfl

theorem w4_17 (h : KHolds m c a) : W4 m c (Proc.devRef .tc main_arg17) = (cv2 a.L2 : FVec Ideal S64x32 .f32) :=
  (W4_keeps m c main_arg17 (by decide +kernel)).trans ((w3_arg m main_arg17 (by decide +kernel) (by decide +kernel) (by decide +kernel)).trans h.h17)

theorem w4_18 (h : KHolds m c a) : W4 m c (Proc.devRef .tc main_v28) = (cv2 (fun (_ : Fin 1) => a.d2) : FVec Ideal S1x32 .f32) := by
  have e : W4 m c (Proc.devRef .tc main_v28) = shapeCast S1x32 (W3 m c (Proc.devRef .tc main_arg18)) shapeCasts_S32_S1x32 := by
    unfold W4
    after_reads_simp
    rfl
  rw [e, w3_arg m main_arg18 (by decide +kernel) (by decide +kernel) (by decide +kernel), h.h18]
  funext j
  idx_vars j
  pointwise [cv2_at]
  rfl

theorem w4_19 (h : KHolds m c a) : W4 m c (Proc.devRef .tc main_v30) = (cv2 (fun (_ : Fin 1) t => ((a.tx t).val : ℝ)) : FVec Ideal S1x256 .f32) := by
  have e : W4 m c (Proc.devRef .tc main_v30) = shapeCast S1x256 (sitofp .f32 (W3 m c (Proc.devRef .tc main_arg2)) : FVec Ideal S256 .f32) shapeCasts_S256_S1x256 := by
    unfold W4
    after_reads_simp
    rfl
  rw [e, w3_arg m main_arg2 (by decide +kernel) (by decide +kernel) (by decide +kernel), h.h2]
  funext j
  idx_vars j
  pointwise [cv2_at]
  exact index_real _ (by decide) _

theorem w4_20 (h : KHolds m c a) : W4 m c (Proc.devRef .tc main_v32) = (cv2 (fun (_ : Fin 1) t => ((a.tg t).val : ℝ)) : FVec Ideal S1x256 .f32) := by
  have e : W4 m c (Proc.devRef .tc main_v32) = shapeCast S1x256 (sitofp .f32 (W3 m c (Proc.devRef .tc main_arg3)) : FVec Ideal S256 .f32) shapeCasts_S256_S1x256 := by
    unfold W4
    after_reads_simp
    rfl
  rw [e, w3_arg m main_arg3 (by decide +kernel) (by decide +kernel) (by decide +kernel), h.h3]
  funext j
  idx_vars j
  pointwise [cv2_at]
  exact index_real _ (by decide) _

theorem fin_b0 (h : KHolds m c a) : blk2 (W4 m) c 0 t2_0 = (cv3 (fun e f n => ∑ k, a.p k f * a.A k n e) : FVec Ideal S5x64x2048 .f32) := by
  have e : blk2 (W4 m) c 0 t2_0 = W4 m c (Proc.devRef .tc main_v24_0) := by funext i; blk_ext [blk2, (idx2 t2_0).1]
  exact e.trans (w4_0 m h)

theorem fin_b1 (h : KHolds m c a) : blk2 (W4 m) c 1 t2_0 = (cv3 (fun e (_ : Fin 1) n => ∑ k, a.A k n e) : FVec Ideal S5x1x2048 .f32) := by
  have e : blk2 (W4 m) c 1 t2_0 = W4 m c (Proc.devRef .tc main_v24_1) := by funext i; blk_ext [blk2, (idx2 t2_0).2.1]
  exact e.trans (w4_1 m h)

theorem fin_b2 (h : KHolds m c a) : blk2 (W4 m) c 2 t2_0 = (cv3 (fun e (_ : Fin 1) n => a.A n n e) : FVec Ideal S5x1x2048 .f32) := by
  have e : blk2 (W4 m) c 2 t2_0 = W4 m c (Proc.devRef .tc main_v24_2) := by funext i; blk_ext [blk2, (idx2 t2_0).2.2.1]
  exact e.trans (w4_2 m h)

theorem fin_b3 (h : KHolds m c a) : blk2 (W4 m) c 3 t2_0 = (cv2 (fun f n => a.p n f) : FVec Ideal S64x2048 .f32) := by
  have e : blk2 (W4 m) c 3 t2_0 = W4 m c (Proc.devRef .tc main_v23) := by funext i; blk_ext [blk2, (idx2 t2_0).2.2.2.1]
  exact e.trans (w4_3 m h)

theorem fin_b4 (h : KHolds m c a) : blk2 (W4 m) c 4 t2_0 = (cv2 (fun g n => a.X n g) : FVec Ideal S256x2048 .f32) := by
  have e : blk2 (W4 m) c 4 t2_0 = W4 m c (Proc.devRef .tc main_v3) := by funext i; blk_ext [blk2, (idx2 t2_0).2.2.2.2.1]
  exact e.trans (w4_4 m h)

theorem fin_b5 (h : KHolds m c a) : blk2 (W4 m) c 5 t2_0 = (cb2 (pat a.A) : FVec Ideal S2048x2048 .bf16) := by
  have e : blk2 (W4 m) c 5 t2_0 = W4 m c (Proc.devRef .tc main_v24_3) := by funext i; blk_ext [blk2, (idx2 t2_0).2.2.2.2.2.1]
  exact e.trans (w4_5 m h)

theorem fin_b6 (h : KHolds m c a) : blk2 (W4 m) c 6 t2_0 = (cv2 (fun (_ : Fin 1) => degB (pat a.A)) : FVec Ideal S1x2048 .f32) := by
  have e : blk2 (W4 m) c 6 t2_0 = W4 m c (Proc.devRef .tc main_v24_4) := by funext i; blk_ext [blk2, (idx2 t2_0).2.2.2.2.2.2.1]
  exact e.trans (w4_6 m h)

theorem fin_b7 (h : KHolds m c a) : blk2 (W4 m) c 7 t2_0 = (cv2 a.aw : FVec Ideal S1x2048 .f32) := by
  have e : blk2 (W4 m) c 7 t2_0 = W4 m c (Proc.devRef .tc main_arg5) := by funext i; blk_ext [blk2, (idx2 t2_0).2.2.2.2.2.2.2.1]
  exact e.trans (w4_7 m h)

theorem fin_b8 (h : KHolds m c a) : blk2 (W4 m) c 8 t2_0 = (cv2 a.ab : FVec Ideal S1x64 .f32) := by
  have e : blk2 (W4 m) c 8 t2_0 = W4 m c (Proc.devRef .tc main_arg6) := by funext i; blk_ext [blk2, (idx2 t2_0).2.2.2.2.2.2.2.2.1]
  exact e.trans (w4_8 m h)

theorem fin_b9 (h : KHolds m c a) : blk2 (W4 m) c 9 t2_0 = (cv2 a.aq : FVec Ideal S1x64 .f32) := by
  have e : blk2 (W4 m) c 9 t2_0 = W4 m c (Proc.devRef .tc main_arg7) := by funext i; blk_ext [blk2, (idx2 t2_0).2.2.2.2.2.2.2.2.2.1]
  exact e.trans (w4_9 m h)

theorem fin_b10 (h : KHolds m c a) : blk2 (W4 m) c 10 t2_0 = (cv2 a.W0 : FVec Ideal S576x64 .f32) := by
  have e : blk2 (W4 m) c 10 t2_0 = W4 m c (Proc.devRef .tc main_arg10) := by funext i; blk_ext [blk2, (idx2 t2_0).2.2.2.2.2.2.2.2.2.2.1]
  exact e.trans (w4_10 m h)

theorem fin_b11 (h : KHolds m c a) : blk2 (W4 m) c 11 t2_0 = (cv2 (fun (_ : Fin 1) => a.b0) : FVec Ideal S1x64 .f32) := by
  have e : blk2 (W4 m) c 11 t2_0 = W4 m c (Proc.devRef .tc main_v25) := by funext i; blk_ext [blk2, (idx2 t2_0).2.2.2.2.2.2.2.2.2.2.2.1]
  exact e.trans (w4_11 m h)

theorem fin_b12 (h : KHolds m c a) : blk2 (W4 m) c 12 t2_0 = (cb3 (convAll keep bet a.cW) : FVec Ideal S64x192x64 .bf16) := by
  have e : blk2 (W4 m) c 12 t2_0 = W4 m c (Proc.devRef .tc main_v21) := by funext i; blk_ext [blk2, (idx2 t2_0).2.2.2.2.2.2.2.2.2.2.2.2.1]
  exact e.trans (w4_12 m h)

theorem fin_b13 (h : KHolds m c a) : blk2 (W4 m) c 13 t2_0 = (cv2 a.W1 : FVec Ideal S64x64 .f32) := by
  have e : blk2 (W4 m) c 13 t2_0 = W4 m c (Proc.devRef .tc main_arg13) := by funext i; blk_ext [blk2, (idx2 t2_0).2.2.2.2.2.2.2.2.2.2.2.2.2.1]
  exact e.trans (w4_13 m h)

theorem fin_b14 (h : KHolds m c a) : blk2 (W4 m) c 14 t2_0 = (cv2 (fun (_ : Fin 1) => a.b1) : FVec Ideal S1x64 .f32) := by
  have e : blk2 (W4 m) c 14 t2_0 = W4 m c (Proc.devRef .tc main_v26) := by funext i; blk_ext [blk2, (idx2 t2_0).2.2.2.2.2.2.2.2.2.2.2.2.2.2.1]
  exact e.trans (w4_14 m h)

theorem fin_b15 (h : KHolds m c a) : blk2 (W4 m) c 15 t2_0 = (cv2 a.L1 : FVec Ideal S64x64 .f32) := by
  have e : blk2 (W4 m) c 15 t2_0 = W4 m c (Proc.devRef .tc main_arg15) := by funext i; blk_ext [blk2, (idx2 t2_0).2.2.2.2.2.2.2.2.2.2.2.2.2.2.2.1]
  exact e.trans (w4_15 m h)

theorem fin_b16 (h : KHolds m c a) : blk2 (W4 m) c 16 t2_0 = (cv2 (fun (_ : Fin 1) => a.d1) : FVec Ideal S1x64 .f32) := by
  have e : blk2 (W4 m) c 16 t2_0 = W4 m c (Proc.devRef .tc main_v27) := by funext i; blk_ext [blk2, (idx2 t2_0).2.2.2.2.2.2.2.2.2.2.2.2.2.2.2.2.1]
  exact e.trans (w4_16 m h)

theorem fin_b17 (h : KHolds m c a) : blk2 (W4 m) c 17 t2_0 = (cv2 a.L2 : FVec Ideal S64x32 .f32) := by
  have e : blk2 (W4 m) c 17 t2_0 = W4 m c (Proc.devRef .tc main_arg17) := by funext i; blk_ext [blk2, (idx2 t2_0).2.2.2.2.2.2.2.2.2.2.2.2.2.2.2.2.2.1]
  exact e.trans (w4_17 m h)

theorem fin_b18 (h : KHolds m c a) : blk2 (W4 m) c 18 t2_0 = (cv2 (fun (_ : Fin 1) => a.d2) : FVec Ideal S1x32 .f32) := by
  have e : blk2 (W4 m) c 18 t2_0 = W4 m c (Proc.devRef .tc main_v28) := by funext i; blk_ext [blk2, (idx2 t2_0).2.2.2.2.2.2.2.2.2.2.2.2.2.2.2.2.2.2.1]
  exact e.trans (w4_18 m h)

theorem fin_b19 (h : KHolds m c a) : blk2 (W4 m) c 19 t2_0 = (cv2 (fun (_ : Fin 1) t => ((a.tx t).val : ℝ)) : FVec Ideal S1x256 .f32) := by
  have e : blk2 (W4 m) c 19 t2_0 = W4 m c (Proc.devRef .tc main_v30) := by funext i; blk_ext [blk2, (idx2 t2_0).2.2.2.2.2.2.2.2.2.2.2.2.2.2.2.2.2.2.2.1]
  exact e.trans (w4_19 m h)

theorem fin_b20 (h : KHolds m c a) : blk2 (W4 m) c 20 t2_0 = (cv2 (fun (_ : Fin 1) t => ((a.tg t).val : ℝ)) : FVec Ideal S1x256 .f32) := by
  have e : blk2 (W4 m) c 20 t2_0 = W4 m c (Proc.devRef .tc main_v32) := by funext i; blk_ext [blk2, (idx2 t2_0).2.2.2.2.2.2.2.2.2.2.2.2.2.2.2.2.2.2.2.2]
  exact e.trans (w4_20 m h)

theorem after2_21 {F : FTy → Type} [FloatOps F] (V : Dev nD → Valuation τ sig (Elt F)) (t : Fin cfg2.N) :
    (dat2 V c).after 21 t = fN (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (blk2 V c 16 t) (blk2 V c 17 t) (blk2 V c 18 t) (blk2 V c 19 t) (blk2 V c 20 t) := rfl

theorem after2_22 {F : FTy → Type} [FloatOps F] (V : Dev nD → Valuation τ sig (Elt F)) (t : Fin cfg2.N) :
    (dat2 V c).after 22 t = fY (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (blk2 V c 16 t) (blk2 V c 17 t) (blk2 V c 18 t) (blk2 V c 19 t) (blk2 V c 20 t) := rfl

theorem fin_N (h : KHolds m c a) : fN (blk2 (W4 m) c 0 t2_0) (blk2 (W4 m) c 1 t2_0) (blk2 (W4 m) c 2 t2_0) (blk2 (W4 m) c 3 t2_0) (blk2 (W4 m) c 4 t2_0) (blk2 (W4 m) c 5 t2_0) (blk2 (W4 m) c 6 t2_0) (blk2 (W4 m) c 7 t2_0) (blk2 (W4 m) c 8 t2_0) (blk2 (W4 m) c 9 t2_0) (blk2 (W4 m) c 10 t2_0) (blk2 (W4 m) c 11 t2_0) (blk2 (W4 m) c 12 t2_0) (blk2 (W4 m) c 13 t2_0) (blk2 (W4 m) c 14 t2_0) (blk2 (W4 m) c 15 t2_0) (blk2 (W4 m) c 16 t2_0) (blk2 (W4 m) c 17 t2_0) (blk2 (W4 m) c 18 t2_0) (blk2 (W4 m) c 19 t2_0) (blk2 (W4 m) c 20 t2_0) = (fun _ => ((nll (a.y keep bet) a.tg : ℝ) : EReal) : FVec Ideal S1x1 .f32) := by
  rw [fin_b0 m h, fin_b1 m h, fin_b2 m h, fin_b3 m h, fin_b4 m h, fin_b5 m h, fin_b6 m h, fin_b7 m h, fin_b8 m h, fin_b9 m h, fin_b10 m h, fin_b11 m h, fin_b12 m h, fin_b13 m h, fin_b14 m h, fin_b15 m h, fin_b16 m h, fin_b17 m h, fin_b18 m h, fin_b19 m h, fin_b20 m h]
  exact fN_val a keep bet

theorem fin_Y (h : KHolds m c a) : fY (blk2 (W4 m) c 0 t2_0) (blk2 (W4 m) c 1 t2_0) (blk2 (W4 m) c 2 t2_0) (blk2 (W4 m) c 3 t2_0) (blk2 (W4 m) c 4 t2_0) (blk2 (W4 m) c 5 t2_0) (blk2 (W4 m) c 6 t2_0) (blk2 (W4 m) c 7 t2_0) (blk2 (W4 m) c 8 t2_0) (blk2 (W4 m) c 9 t2_0) (blk2 (W4 m) c 10 t2_0) (blk2 (W4 m) c 11 t2_0) (blk2 (W4 m) c 12 t2_0) (blk2 (W4 m) c 13 t2_0) (blk2 (W4 m) c 14 t2_0) (blk2 (W4 m) c 15 t2_0) (blk2 (W4 m) c 16 t2_0) (blk2 (W4 m) c 17 t2_0) (blk2 (W4 m) c 18 t2_0) (blk2 (W4 m) c 19 t2_0) (blk2 (W4 m) c 20 t2_0) = (cv2 (a.y keep bet) : FVec Ideal S256x32 .f32) := by
  rw [fin_b0 m h, fin_b1 m h, fin_b2 m h, fin_b3 m h, fin_b4 m h, fin_b5 m h, fin_b6 m h, fin_b7 m h, fin_b8 m h, fin_b9 m h, fin_b10 m h, fin_b11 m h, fin_b12 m h, fin_b13 m h, fin_b14 m h, fin_b15 m h, fin_b16 m h, fin_b17 m h, fin_b18 m h, fin_b19 m h, fin_b20 m h]
  exact fY_val a keep bet _

theorem w5_N (h : KHolds m c a) : W5 m c (Proc.devRef .tc main_v33_0) = (fun _ => ((nll (a.y keep bet) a.tg : ℝ) : EReal) : FVec Ideal S1x1 .f32) := by
  have e : W5 m c (Proc.devRef .tc main_v33_0) = (dat2 (W4 m) c).arrAt 21 cfg2.N := Pipeline.afterRegion_arr (dat2 (W4 m) c) (W4 m c) launch2.win.arr_inj 21
  rw [e]
  refine (dat2 (W4 m) c).arrAt_eq_of_after_last 21 t2_0 (by decide +kernel) _ fun j => ?_
  blk_simp
  rw [after2_21, fin_N m h]

theorem w5_Y (h : KHolds m c a) : W5 m c (Proc.devRef .tc main_v33_1) = (cv2 (a.y keep bet) : FVec Ideal S256x32 .f32) := by
  have e : W5 m c (Proc.devRef .tc main_v33_1) = (dat2 (W4 m) c).arrAt 22 cfg2.N := Pipeline.afterRegion_arr (dat2 (W4 m) c) (W4 m c) launch2.win.arr_inj 22
  rw [e]
  refine (dat2 (W4 m) c).arrAt_eq_of_after_last 22 t2_0 (by decide +kernel) _ fun j => ?_
  blk_simp
  rw [after2_22, fin_Y m h]

/-- The kernel's loss. -/
theorem kernel_loss (h : KHolds m c a) : W6 m c (Proc.devRef .tc main_v34) = (fun _ => ((nll (a.y keep bet) a.tg : ℝ) : EReal) : FVec Ideal S_ .f32) := by
  have e : W6 m c (Proc.devRef .tc main_v34) = shapeCast S_ (W5 m c (Proc.devRef .tc main_v33_0)) shapeCasts_S1x1_S_ := by
    unfold W6
    after_reads_simp
    rfl
  rw [e, w5_N m h]
  rfl

/-- The kernel's scores. -/
theorem kernel_y (h : KHolds m c a) : W6 m c (Proc.devRef .tc main_v33_1) = (cv2 (a.y keep bet) : FVec Ideal S256x32 .f32) :=
  (W6_keeps m c main_v33_1 (by decide +kernel)).trans (w5_Y m h)

end Cert.KernelIdeal.Hand

end
-- ==== Proof.KArgs.lean ====
module

public import proofs.«01_k».proof.Proof.KTop
public import proofs.«01_k».proof.Defs
public import proofs.«01_k».proof.Proof.Gen.Pre_finite_in_range

/-! Arguments that meet the precondition are arrays of reals and of indices in range. -/

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec
open Cert.ReferenceIdeal.Hand (ci1)

theorem real_of_sub (x : EReal) (h : x - x = 0) : x = ((x.toReal : ℝ) : EReal) := by
  induction x with
  | bot => exact absurd h (by simp)
  | coe r => rfl
  | top => exact absurd h (by simp)

/-- An array whose elements are equal to themselves, less themselves, to nothing. -/
theorem real_at {s : Shape} (x Z : FVec Ideal s .f32) (hZ : ∀ i, Z i = Ideal.ofBits .f32 0x00000000#32) (h : cmpf .oeq (subf x x) Z = fun _ => 1#1) (i : s.Idx) :
    x i = (((x i).toReal : ℝ) : EReal) := by
  refine real_of_sub _ ?_
  have h' : BitVec.ofBool (decide (x i - x i = Z i)) = 1#1 := congrFun h i
  have hz : Ideal.ofBits .f32 0x00000000#32 = 0 := by simp [Ideal.ofBits, Ideal.ieee]
  rw [hZ, hz] at h'
  by_contra hn
  rw [decide_eq_false hn] at h'
  exact absurd h' (by decide)

theorem eta1 {a : ℕ} (j : (⟨1, ![a]⟩ : Shape).Idx) : j = ix1 (j 0) := funext fun k => match k with | ⟨0, _⟩ => rfl
theorem eta2 {a b : ℕ} (j : (⟨2, ![a, b]⟩ : Shape).Idx) : j = ix2 (j 0) (j 1) := funext fun k => match k with | ⟨0, _⟩ => rfl | ⟨1, _⟩ => rfl
theorem eta3 {a b d : ℕ} (j : (⟨3, ![a, b, d]⟩ : Shape).Idx) : j = ix3 (j 0) (j 1) (j 2) := funext fun k => match k with | ⟨0, _⟩ => rfl | ⟨1, _⟩ => rfl | ⟨2, _⟩ => rfl

theorem real1 {a : ℕ} (x Z : FVec Ideal ⟨1, ![a]⟩ .f32) (hZ : ∀ i, Z i = Ideal.ofBits .f32 0x00000000#32) (h : cmpf .oeq (subf x x) Z = fun _ => 1#1) :
    x = cv1 (fun i => (x (ix1 i)).toReal) := by
  funext j
  rw [eta1 j]
  exact real_at x Z hZ h _

theorem real2 {a b : ℕ} (x Z : FVec Ideal ⟨2, ![a, b]⟩ .f32) (hZ : ∀ i, Z i = Ideal.ofBits .f32 0x00000000#32) (h : cmpf .oeq (subf x x) Z = fun _ => 1#1) :
    x = cv2 (fun i j => (x (ix2 i j)).toReal) := by
  funext j
  rw [eta2 j]
  exact real_at x Z hZ h _

theorem real3 {a b d : ℕ} (x Z : FVec Ideal ⟨3, ![a, b, d]⟩ .f32) (hZ : ∀ i, Z i = Ideal.ofBits .f32 0x00000000#32) (h : cmpf .oeq (subf x x) Z = fun _ => 1#1) :
    x = cv3 (fun i j k => (x (ix3 i j k)).toReal) := by
  funext j
  rw [eta3 j]
  exact real_at x Z hZ h _

theorem word_range (w : BitVec 32) (N : ℕ) (hN : N < 2 ^ 31) (h : IntOp.andi (IntOp.cmpi .sge w 0#32) (IntOp.cmpi .slt w (BitVec.ofNat 32 N)) = 1#1) : w.toNat < N := by
  have h0 : (0#32).sle w = true := by
    by_contra hn
    rw [Bool.not_eq_true] at hn
    have e : IntOp.cmpi .sge w 0#32 = 0#1 := by
      show BitVec.ofBool ((0#32).sle w) = 0#1
      rw [hn]; rfl
    rw [e] at h
    exact absurd h (by show ¬ (0#1 &&& _) = 1#1; rw [BitVec.zero_and]; decide)
  have h1 : w.slt (BitVec.ofNat 32 N) = true := by
    by_contra hn
    rw [Bool.not_eq_true] at hn
    have e : IntOp.cmpi .slt w (BitVec.ofNat 32 N) = 0#1 := by
      show BitVec.ofBool (w.slt (BitVec.ofNat 32 N)) = 0#1
      rw [hn]; rfl
    rw [e] at h
    exact absurd h (by show ¬ (_ &&& 0#1) = 1#1; rw [BitVec.and_zero]; decide)
  rw [BitVec.sle_iff_toInt_le] at h0
  rw [BitVec.slt_iff_toInt_lt] at h1
  have hw := w.isLt
  have e1 : (BitVec.ofNat 32 N).toInt = N := by
    rw [BitVec.toInt_eq_toNat_of_lt] <;> simp only [BitVec.toNat_ofNat] <;> omega
  rw [e1] at h1
  have e0 : (0#32).toInt = 0 := by decide
  rw [e0] at h0
  rw [BitVec.toInt_eq_toNat_cond] at h0 h1
  split_ifs at h0 h1 <;> omega

theorem word_self (w : BitVec 32) : w = BitVec.ofNat 32 w.toNat := by simp

theorem index1 {a : ℕ} (N : ℕ) (hN : N < 2 ^ 31) (x Z U : IVec ⟨1, ![a]⟩ 32) (hZ : ∀ i, Z i = 0#32) (hU : ∀ i, U i = BitVec.ofNat 32 N)
    (h : andi (cmpi .sge x Z) (cmpi .slt x U) = fun _ => 1#1) : ∃ f : Fin a → Fin N, x = ci1 f := by
  have hb : ∀ i, (x (ix1 i)).toNat < N := fun i => by
    have h' : IntOp.andi (IntOp.cmpi .sge (x (ix1 i)) (Z (ix1 i))) (IntOp.cmpi .slt (x (ix1 i)) (U (ix1 i))) = 1#1 := congrFun h (ix1 i)
    rw [hZ, hU] at h'
    exact word_range _ N hN h'
  refine ⟨fun i => ⟨_, hb i⟩, ?_⟩
  funext j
  rw [eta1 j]
  exact word_self _

/-- The arguments are some of the network's. -/
theorem holds_of_pre (m : (ℓ : Loc nD τ sig) → Buf (Elt Ideal) ℓ) (hpre : Cert.Pre_KernelIdeal_finite_in_range m) (c : Dev nD) : ∃ a : Args, KHolds m c a := by
  obtain ⟨p0, p1, p2, p3, p4, p5, p6, p7, p8, p9, p10, p11, p12, p13, p14, p15, p16, p17, p18⟩ := hpre c
  obtain ⟨tx, htx⟩ := index1 2048 (by decide) _ _ _ (fun _ => rfl) (fun _ => rfl) p2
  obtain ⟨tg, htg⟩ := index1 32 (by decide) _ _ _ (fun _ => rfl) (fun _ => rfl) p3
  have e0 := real3 (m ((c.tc : Thread nD τ).loc main_arg0)) _ (fun _ => rfl) p0
  have e1 := real2 (m ((c.tc : Thread nD τ).loc main_arg1)) _ (fun _ => rfl) p1
  have e4 := real2 (m ((c.tc : Thread nD τ).loc main_arg4)) _ (fun _ => rfl) p4
  have e5 := real2 (m ((c.tc : Thread nD τ).loc main_arg5)) _ (fun _ => rfl) p5
  have e6 := real2 (m ((c.tc : Thread nD τ).loc main_arg6)) _ (fun _ => rfl) p6
  have e7 := real2 (m ((c.tc : Thread nD τ).loc main_arg7)) _ (fun _ => rfl) p7
  have e8 := real2 (m ((c.tc : Thread nD τ).loc main_arg8)) _ (fun _ => rfl) p8
  have e9 := real1 (m ((c.tc : Thread nD τ).loc main_arg9)) _ (fun _ => rfl) p9
  have e10 := real2 (m ((c.tc : Thread nD τ).loc main_arg10)) _ (fun _ => rfl) p10
  have e11 := real1 (m ((c.tc : Thread nD τ).loc main_arg11)) _ (fun _ => rfl) p11
  have e12 := real3 (m ((c.tc : Thread nD τ).loc main_arg12)) _ (fun _ => rfl) p12
  have e13 := real2 (m ((c.tc : Thread nD τ).loc main_arg13)) _ (fun _ => rfl) p13
  have e14 := real1 (m ((c.tc : Thread nD τ).loc main_arg14)) _ (fun _ => rfl) p14
  have e15 := real2 (m ((c.tc : Thread nD τ).loc main_arg15)) _ (fun _ => rfl) p15
  have e16 := real1 (m ((c.tc : Thread nD τ).loc main_arg16)) _ (fun _ => rfl) p16
  have e17 := real2 (m ((c.tc : Thread nD τ).loc main_arg17)) _ (fun _ => rfl) p17
  have e18 := real1 (m ((c.tc : Thread nD τ).loc main_arg18)) _ (fun _ => rfl) p18
  exact ⟨⟨_, _, tx, tg, _, _, _, _, _, _, _, _, _, _, _, _, _, _, _⟩, ⟨e0, e1, htx, htg, e4, e5, e6, e7, e8, e9, e10, e11, e12, e13, e14, e15, e16, e17, e18⟩⟩

end Cert.KernelIdeal.Hand

end
-- ==== Proof.lean ====
module

public import proofs.«01_k».proof.Defs
public import proofs.«01_k».proof.Proof.KArgs
public import proofs.«01_k».proof.Proof.BRun
public import proofs.«01_k».proof.Proof.Gen.Kernel.Regions
public import proofs.«01_k».proof.Proof.Gen.Kernel.Loops
public import proofs.«01_k».proof.Proof.Gen.Kernel.Points
public import proofs.«01_k».proof.Proof.Gen.KernelIdeal.Regions
public import proofs.«01_k».proof.Proof.Gen.KernelIdeal.Loops
public import proofs.«01_k».proof.Proof.Gen.KernelIdeal.Points
public import proofs.«01_k».proof.Proof.Gen.ReferenceIdeal.Run
public import proofs.«01_k».proof.Proof.Gen.Pre_finite_in_range

/-! The claims: what each program leaves of its arguments, and that the kernel's two results are the reference's. -/

@[expose] public section

set_option maxRecDepth 16384

noncomputable section

namespace Cert.Proof

open Idealize.ShloMosaic Idealize.SL.Sem Cert.Kernel
open Cert.KernelIdeal.Hand (Ends run_main W6 KHolds holds_of_pre kernel_loss kernel_y)

theorem frame_kernel : Cert.quiescent_Kernel := fun m ρ _ =>
  (θ_run Cert.Kernel.defs _ _).mono (fun _ h => ⟨fun c => have e := h.1 c; ⟨e.1, e.2.1, e.2.2.1, e.2.2.2.1, e.2.2.2.2.1, e.2.2.2.2.2.1, e.2.2.2.2.2.2.1, e.2.2.2.2.2.2.2.1, e.2.2.2.2.2.2.2.2.1, e.2.2.2.2.2.2.2.2.2.1, e.2.2.2.2.2.2.2.2.2.2.1, e.2.2.2.2.2.2.2.2.2.2.2.1, e.2.2.2.2.2.2.2.2.2.2.2.2.1, e.2.2.2.2.2.2.2.2.2.2.2.2.2.1, e.2.2.2.2.2.2.2.2.2.2.2.2.2.2.1, e.2.2.2.2.2.2.2.2.2.2.2.2.2.2.2.1, e.2.2.2.2.2.2.2.2.2.2.2.2.2.2.2.2.1, e.2.2.2.2.2.2.2.2.2.2.2.2.2.2.2.2.2.1, e.2.2.2.2.2.2.2.2.2.2.2.2.2.2.2.2.2.2.1⟩, h.2⟩) (Cert.Kernel.Hand.run_main (F := Bits) m ρ)

theorem frame_ideal : Cert.quiescent_KernelIdeal := fun m ρ _ =>
  (θ_run Cert.KernelIdeal.defs _ _).mono (fun _ h => ⟨fun c => have e := h.1 c; ⟨e.1, e.2.1, e.2.2.1, e.2.2.2.1, e.2.2.2.2.1, e.2.2.2.2.2.1, e.2.2.2.2.2.2.1, e.2.2.2.2.2.2.2.1, e.2.2.2.2.2.2.2.2.1, e.2.2.2.2.2.2.2.2.2.1, e.2.2.2.2.2.2.2.2.2.2.1, e.2.2.2.2.2.2.2.2.2.2.2.1, e.2.2.2.2.2.2.2.2.2.2.2.2.1, e.2.2.2.2.2.2.2.2.2.2.2.2.2.1, e.2.2.2.2.2.2.2.2.2.2.2.2.2.2.1, e.2.2.2.2.2.2.2.2.2.2.2.2.2.2.2.1, e.2.2.2.2.2.2.2.2.2.2.2.2.2.2.2.2.1, e.2.2.2.2.2.2.2.2.2.2.2.2.2.2.2.2.2.1, e.2.2.2.2.2.2.2.2.2.2.2.2.2.2.2.2.2.2.1⟩, h.2⟩) (run_main (F := Ideal) m ρ)

theorem frame_ideal_pre : Cert.quiescent_KernelIdeal_pre_finite_in_range := fun m ρ _ =>
  (θ_run Cert.KernelIdeal.defs _ _).mono (fun _ h => ⟨fun c => have e := h.1 c; ⟨e.1, e.2.1, e.2.2.1, e.2.2.2.1, e.2.2.2.2.1, e.2.2.2.2.2.1, e.2.2.2.2.2.2.1, e.2.2.2.2.2.2.2.1, e.2.2.2.2.2.2.2.2.1, e.2.2.2.2.2.2.2.2.2.1, e.2.2.2.2.2.2.2.2.2.2.1, e.2.2.2.2.2.2.2.2.2.2.2.1, e.2.2.2.2.2.2.2.2.2.2.2.2.1, e.2.2.2.2.2.2.2.2.2.2.2.2.2.1, e.2.2.2.2.2.2.2.2.2.2.2.2.2.2.1, e.2.2.2.2.2.2.2.2.2.2.2.2.2.2.2.1, e.2.2.2.2.2.2.2.2.2.2.2.2.2.2.2.2.1, e.2.2.2.2.2.2.2.2.2.2.2.2.2.2.2.2.2.1, e.2.2.2.2.2.2.2.2.2.2.2.2.2.2.2.2.2.2.1⟩, h.2⟩) (run_main (F := Ideal) m ρ)

theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem frame_reference_pre : Cert.quiescent_ReferenceIdeal_pre_finite_in_range := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The kernel's results are the reference's. -/
theorem equal_results : Cert.algebraic_KernelIdeal_ReferenceIdeal_pre_finite_in_range := by
  intro m g m' g' hpre hargs
  choose a ha using fun c => holds_of_pre m hpre c
  have ha' : ∀ c, Cert.ReferenceIdeal.Hand.Holds m' c (a c) := fun c => by
    have e := hargs c
    have h := ha c
    exact ⟨(e.1).trans h.h0, (e.2.1).trans h.h1, (e.2.2.1).trans h.h2, (e.2.2.2.1).trans h.h3, (e.2.2.2.2.1).trans h.h4, (e.2.2.2.2.2.1).trans h.h5, (e.2.2.2.2.2.2.1).trans h.h6, (e.2.2.2.2.2.2.2.1).trans h.h7, (e.2.2.2.2.2.2.2.2.1).trans h.h8, (e.2.2.2.2.2.2.2.2.2.1).trans h.h9, (e.2.2.2.2.2.2.2.2.2.2.1).trans h.h10, (e.2.2.2.2.2.2.2.2.2.2.2.1).trans h.h11, (e.2.2.2.2.2.2.2.2.2.2.2.2.1).trans h.h12, (e.2.2.2.2.2.2.2.2.2.2.2.2.2.1).trans h.h13, (e.2.2.2.2.2.2.2.2.2.2.2.2.2.2.1).trans h.h14, (e.2.2.2.2.2.2.2.2.2.2.2.2.2.2.2.1).trans h.h15, (e.2.2.2.2.2.2.2.2.2.2.2.2.2.2.2.2.1).trans h.h16, (e.2.2.2.2.2.2.2.2.2.2.2.2.2.2.2.2.2.1).trans h.h17, (e.2.2.2.2.2.2.2.2.2.2.2.2.2.2.2.2.2.2).trans h.h18⟩
  refine ⟨fun c => W6 m c (Proc.devRef .tc Cert.KernelIdeal.main_v34), fun c => W6 m c (Proc.devRef .tc Cert.KernelIdeal.main_v33_1), ?_, ?_⟩
  · exact (θ_run Cert.KernelIdeal.defs _ _).mono (fun _ h c => have e := h.1 c; ⟨e.2.2.2.2.2.2.2.2.2.2.2.2.2.2.2.2.2.2.2.1, e.2.2.2.2.2.2.2.2.2.2.2.2.2.2.2.2.2.2.2.2, e.1, e.2.1, e.2.2.1, e.2.2.2.1, e.2.2.2.2.1, e.2.2.2.2.2.1, e.2.2.2.2.2.2.1, e.2.2.2.2.2.2.2.1, e.2.2.2.2.2.2.2.2.1, e.2.2.2.2.2.2.2.2.2.1, e.2.2.2.2.2.2.2.2.2.2.1, e.2.2.2.2.2.2.2.2.2.2.2.1, e.2.2.2.2.2.2.2.2.2.2.2.2.1, e.2.2.2.2.2.2.2.2.2.2.2.2.2.1, e.2.2.2.2.2.2.2.2.2.2.2.2.2.2.1, e.2.2.2.2.2.2.2.2.2.2.2.2.2.2.2.1, e.2.2.2.2.2.2.2.2.2.2.2.2.2.2.2.2.1, e.2.2.2.2.2.2.2.2.2.2.2.2.2.2.2.2.2.1, e.2.2.2.2.2.2.2.2.2.2.2.2.2.2.2.2.2.2.1⟩) (run_main (F := Ideal) m g)
  · refine (θ_run Cert.ReferenceIdeal.defs _ _).mono (fun r h c => ⟨(h c).1.trans ?_, (h c).2.1.trans ?_, (h c).2.2⟩) (Cert.ReferenceIdeal.Value.run (F := Ideal) m' g')
    · exact (Cert.ReferenceIdeal.Hand.ref_loss (ha' c)).trans (kernel_loss m (ha c)).symm
    · exact (Cert.ReferenceIdeal.Hand.ref_y (ha' c)).trans (kernel_y m (ha c)).symm

theorem claim : Cert.Claim := ⟨Cert.Kernel.Gen.facts, Cert.KernelIdeal.Gen.facts, Cert.ReferenceIdeal.Gen.facts, Cert.Pre_finite_in_range.Gen.facts,
  frame_kernel, frame_ideal, frame_ideal_pre, frame_reference, frame_reference_pre, trivial, equal_results⟩

end Cert.Proof

end
